-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v57) = v0 c
          ∧ r.2.mem ((c.tc : Thread Cert.Reference7Ideal.nD Cert.Reference7Ideal.τ).loc Cert.Reference7Ideal.main_v58) = v1 c
          ∧ r.2.mem ((c.tc : Thread Cert.Reference7Ideal.nD Cert.Reference7Ideal.τ).loc Cert.Reference7Ideal.main_v59) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S8x2048x16x64 : Shape := ⟨4, ![8, 2048, 16, 64]⟩
abbrev S_ : Shape := ⟨0, ![]⟩

class Facts : Prop where
  bcast_S_S8x2048x16x64 : S_.BroadcastsInDim S8x2048x16x64 (![] : Fin 0 → Fin S8x2048x16x64.rank)

variable [Facts]

def fn {F : FTy → Type} [FloatOps F] (main_arg0 : FVec F S8x2048x16x64 .f32) (main_arg1 : FVec F S8x2048x16x64 .f32) (main_arg2 : FVec F S8x2048x16x64 .f32) : IVec S8x2048x16x64 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_v3 : FVec F S8x2048x16x64 .f32 := Host.absf main_arg1
  let main_cst_0 : FVec F S_ .f32 := constant S_ .f32 0x7F800000#32
  let main_v4 : FVec F S8x2048x16x64 .f32 := broadcastInDim S8x2048x16x64 ![] bcast_S_S8x2048x16x64 main_cst_0
  let main_v5 : IVec S8x2048x16x64 1 := cmpf .olt main_v3 main_v4
  let main_v6 : IVec S8x2048x16x64 1 := andi main_v2 main_v5
  main_v6
-- ==== Kernel.lean ====
abbrev S8x2048x16x64 : Shape := ⟨4, ![8, 2048, 16, 64]⟩
abbrev S16384x1024 : Shape := ⟨2, ![16384, 1024]⟩
abbrev S_ : Shape := ⟨0, ![]⟩
abbrev S256x256 : Shape := ⟨2, ![256, 256]⟩
abbrev S256x128 : Shape := ⟨2, ![256, 128]⟩
abbrev S2048x128 : Shape := ⟨2, ![2048, 128]⟩
abbrev S1x128 : Shape := ⟨2, ![1, 128]⟩
abbrev S256x1 : Shape := ⟨2, ![256, 1]⟩
abbrev S256 : Shape := ⟨1, ![256]⟩

abbrev nBuf : Space → Nat
  | .hbm => 24
  | .vmem => 9
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S_, .bf16⟩
  | .hbm, ⟨13, _⟩ => ⟨S256x256, .bf16⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .bf16⟩
  | .hbm, ⟨21, _⟩ => ⟨S256x256, .bf16⟩
  | .hbm, ⟨22, _⟩ => ⟨S256x256, .bf16⟩
  | .hbm, ⟨23, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 8], ![false, false, false]⟩

def k0_cond1 (i : grid0.Coords) : BitVec 1 :=
  let arg2 : BitVec 32 := BitVec.ofNat 32 (i 2).val
  let c4_i32 : BitVec 32 := 4#32
  let v72 : BitVec 32 := Scalar.remsi arg2 c4_i32
  let c0_i32_21 : BitVec 32 := 0#32
  let v73 : BitVec 32 := Scalar.maxsi v72 c0_i32_21
  let c3_i32 : BitVec 32 := 3#32
  let v74 : BitVec 32 := Scalar.minsi v73 c3_i32
  let c0_i32_22 : BitVec 32 := 0#32
  let v75 : BitVec 1 := Scalar.cmpi .ne v74 c0_i32_22
  v75

def k0_cond2 (i : grid0.Coords) : BitVec 1 :=
  let arg2 : BitVec 32 := BitVec.ofNat 32 (i 2).val
  let c4_i32 : BitVec 32 := 4#32
  let v72 : BitVec 32 := Scalar.remsi arg2 c4_i32
  let c0_i32_21 : BitVec 32 := 0#32
  let v73 : BitVec 32 := Scalar.maxsi v72 c0_i32_21
  let c3_i32 : BitVec 32 := 3#32
  let v74 : BitVec 32 := Scalar.minsi v73 c3_i32
  let c1_i32_39 : BitVec 32 := 1#32
  let v118 : BitVec 32 := Scalar.subi v74 c1_i32_39
  let c0_i32_40 : BitVec 32 := 0#32
  let v119 : BitVec 1 := Scalar.cmpi .ne v118 c0_i32_40
  v119

def k0_cond3 (i : grid0.Coords) : BitVec 1 :=
  let arg2 : BitVec 32 := BitVec.ofNat 32 (i 2).val
  let c4_i32 : BitVec 32 := 4#32
  let v72 : BitVec 32 := Scalar.remsi arg2 c4_i32
  let c0_i32_21 : BitVec 32 := 0#32
  let v73 : BitVec 32 := Scalar.maxsi v72 c0_i32_21
  let c3_i32 : BitVec 32 := 3#32
  let v74 : BitVec 32 := Scalar.minsi v73 c3_i32
  let c1_i32_39 : BitVec 32 := 1#32
  let v118 : BitVec 32 := Scalar.subi v74 c1_i32_39
  let c1_i32_41 : BitVec 32 := 1#32
  let v121 : BitVec 32 := Scalar.subi v118 c1_i32_41
  let c0_i32_42 : BitVec 32 := 0#32
  let v122 : BitVec 1 := Scalar.cmpi .ne v121 c0_i32_42
  v122

def k0_mult1 (i : grid0.Coords) : BitVec 32 :=
  let arg2 : BitVec 32 := BitVec.ofNat 32 (i 2).val
  let c0_i32_43 : BitVec 32 := 0#32
  let v124 : BitVec 32 := Scalar.subi arg2 c0_i32_43
  let c256_i32 : BitVec 32 := 256#32
  let v128 : BitVec 32 := Scalar.muli v124 c256_i32
  v128
def k0_mult2 (i : grid0.Coords) : BitVec 32 :=
  let arg2 : BitVec 32 := BitVec.ofNat 32 (i 2).val
  let c1_i32_44 : BitVec 32 := 1#32
  let v125 : BitVec 32 := Scalar.subi arg2 c1_i32_44
  let c256_i32_46 : BitVec 32 := 256#32
  let v130 : BitVec 32 := Scalar.muli v125 c256_i32_46
  v130
def k0_mult3 (i : grid0.Coords) : BitVec 32 :=
  let arg2 : BitVec 32 := BitVec.ofNat 32 (i 2).val
  let c2_i32 : BitVec 32 := 2#32
  let v126 : BitVec 32 := Scalar.subi arg2 c2_i32
  let c256_i32_47 : BitVec 32 := 256#32
  let v132 : BitVec 32 := Scalar.muli v126 c256_i32_47
  v132
def k0_mult4 (i : grid0.Coords) : BitVec 32 :=
  let arg2 : BitVec 32 := BitVec.ofNat 32 (i 2).val
  let c3_i32_45 : BitVec 32 := 3#32
  let v127 : BitVec 32 := Scalar.subi arg2 c3_i32_45
  let c256_i32_48 : BitVec 32 := 256#32
  let v134 : BitVec 32 := Scalar.muli v127 c256_i32_48
  v134
def k0_off1 (i : grid0.Coords) (c0_i32_43 : BitVec 32) : Fin 2 → Nat :=
  let arg2 : BitVec 32 := BitVec.ofNat 32 (i 2).val
  let v124 : BitVec 32 := Scalar.subi arg2 c0_i32_43
  let c256_i32 : BitVec 32 := 256#32
  let v128 : BitVec 32 := Scalar.muli v124 c256_i32
  let v129 : BitVec 32 := v128
  let v136 : Index := Scalar.indexCast v129
  let c0_49 : Index := 0#32
  ![v136.toNat, 0]
def k0_mult5 (i : grid0.Coords) : BitVec 32 :=
  let arg2 : BitVec 32 := BitVec.ofNat 32 (i 2).val
  let c0_i32_43 : BitVec 32 := 0#32
  let v124 : BitVec 32 := Scalar.subi arg2 c0_i32_43
  let c256_i32 : BitVec 32 := 256#32
  let v127 : BitVec 32 := Scalar.muli v124 c256_i32
  v127
def k0_mult6 (i : grid0.Coords) : BitVec 32 :=
  let arg2 : BitVec 32 := BitVec.ofNat 32 (i 2).val
  let c1_i32_44 : BitVec 32 := 1#32
  let v125 : BitVec 32 := Scalar.subi arg2 c1_i32_44
  let c256_i32_45 : BitVec 32 := 256#32
  let v129 : BitVec 32 := Scalar.muli v125 c256_i32_45
  v129
def k0_mult7 (i : grid0.Coords) : BitVec 32 :=
  let arg2 : BitVec 32 := BitVec.ofNat 32 (i 2).val
  let c2_i32 : BitVec 32 := 2#32
  let v126 : BitVec 32 := Scalar.subi arg2 c2_i32
  let c256_i32_46 : BitVec 32 := 256#32
  let v131 : BitVec 32 := Scalar.muli v126 c256_i32_46
  v131
def k0_off2 (i : grid0.Coords) (c0_i32_43 : BitVec 32) : Fin 2 → Nat :=
  let arg2 : BitVec 32 := BitVec.ofNat 32 (i 2).val
  let v124 : BitVec 32 := Scalar.subi arg2 c0_i32_43
  let c256_i32 : BitVec 32 := 256#32
  let v127 : BitVec 32 := Scalar.muli v124 c256_i32
  let v128 : BitVec 32 := v127
  let v133 : Index := Scalar.indexCast v128
  let c0_47 : Index := 0#32
  ![v133.toNat, 0]
def k0_mult8 (i : grid0.Coords) : BitVec 32 :=
  let arg2 : BitVec 32 := BitVec.ofNat 32 (i 2).val
  let c0_i32_41 : BitVec 32 := 0#32
  let v121 : BitVec 32 := Scalar.subi arg2 c0_i32_41
  let c256_i32 : BitVec 32 := 256#32
  let v123 : BitVec 32 := Scalar.muli v121 c256_i32
  v123
def k0_mult9 (i : grid0.Coords) : BitVec 32 :=
  let arg2 : BitVec 32 := BitVec.ofNat 32 (i 2).val
  let c1_i32_42 : BitVec 32 := 1#32
  let v122 : BitVec 32 := Scalar.subi arg2 c1_i32_42
  let c256_i32_43 : BitVec 32 := 256#32
  let v125 : BitVec 32 := Scalar.muli v122 c256_i32_43
  v125
def k0_off3 (i : grid0.Coords) (c0_i32_41 : BitVec 32) : Fin 2 → Nat :=
  let arg2 : BitVec 32 := BitVec.ofNat 32 (i 2).val
  let v121 : BitVec 32 := Scalar.subi arg2 c0_i32_41
  let c256_i32 : BitVec 32 := 256#32
  let v123 : BitVec 32 := Scalar.muli v121 c256_i32
  let v124 : BitVec 32 := v123
  let v127 : Index := Scalar.indexCast v124
  let c0_44 : Index := 0#32
  ![v127.toNat, 0]
def k0_mult10 (i : grid0.Coords) : BitVec 32 :=
  let arg2 : BitVec 32 := BitVec.ofNat 32 (i 2).val
  let c0_i32_39 : BitVec 32 := 0#32
  let v118 : BitVec 32 := Scalar.subi arg2 c0_i32_39
  let c256_i32 : BitVec 32 := 256#32
  let v119 : BitVec 32 := Scalar.muli v118 c256_i32
  v119
def k0_off4 (i : grid0.Coords) : Fin 2 → Nat :=
  let arg2 : BitVec 32 := BitVec.ofNat 32 (i 2).val
  let c0_i32_39 : BitVec 32 := 0#32
  let v118 : BitVec 32 := Scalar.subi arg2 c0_i32_39
  let c256_i32 : BitVec 32 := 256#32
  let v119 : BitVec 32 := Scalar.muli v118 c256_i32
  let v120 : BitVec 32 := v119
  let v121 : Index := Scalar.indexCast v120
  let c0_40 : Index := 0#32
  ![v121.toNat, 0]
@[reducible] def k0_t1_loop (i : grid0.Coords) : Scf.Loop 32 :=
  let c0_i32_25 : BitVec 32 := 0#32
  let arg2 : BitVec 32 := BitVec.ofNat 32 (i 2).val
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_27 : BitVec 32 := 1#32
  ⟨c0_i32_25, v84, c1_i32_27⟩
def k0_mult11 (i : grid0.Coords) (k0_t1 : Fin (k0_t1_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_39 : BitVec 32 := 4#32
  let c0_i32_25 : BitVec 32 := 0#32
  let c1_i32_27 : BitVec 32 := 1#32
  let arg8 : BitVec 32 := Scf.iv c0_i32_25 c1_i32_27 k0_t1
  let v118 : BitVec 32 := Scalar.muli c4_i32_39 arg8
  let v119 : BitVec 32 := Scalar.subi v78 v118
  let c0_i32_40 : BitVec 32 := 0#32
  let v120 : BitVec 32 := Scalar.subi v119 c0_i32_40
  let c256_i32 : BitVec 32 := 256#32
  let v130 : BitVec 32 := Scalar.muli v120 c256_i32
  v130
def k0_mult12 (i : grid0.Coords) (k0_t1 : Fin (k0_t1_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_41 : BitVec 32 := 4#32
  let c0_i32_25 : BitVec 32 := 0#32
  let c1_i32_27 : BitVec 32 := 1#32
  let arg8 : BitVec 32 := Scf.iv c0_i32_25 c1_i32_27 k0_t1
  let v121 : BitVec 32 := Scalar.muli c4_i32_41 arg8
  let v122 : BitVec 32 := Scalar.subi v78 v121
  let c1_i32_42 : BitVec 32 := 1#32
  let v123 : BitVec 32 := Scalar.subi v122 c1_i32_42
  let c256_i32_46 : BitVec 32 := 256#32
  let v132 : BitVec 32 := Scalar.muli v123 c256_i32_46
  v132
def k0_mult13 (i : grid0.Coords) (k0_t1 : Fin (k0_t1_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_43 : BitVec 32 := 4#32
  let c0_i32_25 : BitVec 32 := 0#32
  let c1_i32_27 : BitVec 32 := 1#32
  let arg8 : BitVec 32 := Scf.iv c0_i32_25 c1_i32_27 k0_t1
  let v124 : BitVec 32 := Scalar.muli c4_i32_43 arg8
  let v125 : BitVec 32 := Scalar.subi v78 v124
  let c2_i32 : BitVec 32 := 2#32
  let v126 : BitVec 32 := Scalar.subi v125 c2_i32
  let c256_i32_47 : BitVec 32 := 256#32
  let v134 : BitVec 32 := Scalar.muli v126 c256_i32_47
  v134
def k0_mult14 (i : grid0.Coords) (k0_t1 : Fin (k0_t1_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_44 : BitVec 32 := 4#32
  let c0_i32_25 : BitVec 32 := 0#32
  let c1_i32_27 : BitVec 32 := 1#32
  let arg8 : BitVec 32 := Scf.iv c0_i32_25 c1_i32_27 k0_t1
  let v127 : BitVec 32 := Scalar.muli c4_i32_44 arg8
  let v128 : BitVec 32 := Scalar.subi v78 v127
  let c3_i32_45 : BitVec 32 := 3#32
  let v129 : BitVec 32 := Scalar.subi v128 c3_i32_45
  let c256_i32_48 : BitVec 32 := 256#32
  let v136 : BitVec 32 := Scalar.muli v129 c256_i32_48
  v136
def k0_off5 (i : grid0.Coords) (k0_t1 : Fin (k0_t1_loop i).trips) (c0_i32_40 : BitVec 32) : Fin 2 → Nat :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_39 : BitVec 32 := 4#32
  let c0_i32_25 : BitVec 32 := 0#32
  let c1_i32_27 : BitVec 32 := 1#32
  let arg8 : BitVec 32 := Scf.iv c0_i32_25 c1_i32_27 k0_t1
  let v118 : BitVec 32 := Scalar.muli c4_i32_39 arg8
  let v119 : BitVec 32 := Scalar.subi v78 v118
  let v120 : BitVec 32 := Scalar.subi v119 c0_i32_40
  let c256_i32 : BitVec 32 := 256#32
  let v130 : BitVec 32 := Scalar.muli v120 c256_i32
  let v131 : BitVec 32 := v130
  let v138 : Index := Scalar.indexCast v131
  let c0_49 : Index := 0#32
  ![v138.toNat, 0]
@[reducible] def k0_t2_loop (i : grid0.Coords) : Scf.Loop 32 :=
  let c0_i32_25 : BitVec 32 := 0#32
  let arg2 : BitVec 32 := BitVec.ofNat 32 (i 2).val
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let v81 : BitVec 32 := Scalar.addi c0_i32_25 v80
  let c1_i32_28 : BitVec 32 := 1#32
  ⟨v84, v81, c1_i32_28⟩
def k0_mult15 (i : grid0.Coords) (k0_t2 : Fin (k0_t2_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_39 : BitVec 32 := 4#32
  let c0_i32_25 : BitVec 32 := 0#32
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_28 : BitVec 32 := 1#32
  let arg8 : BitVec 32 := Scf.iv v84 c1_i32_28 k0_t2
  let v118 : BitVec 32 := Scalar.muli c4_i32_39 arg8
  let v119 : BitVec 32 := Scalar.subi v78 v118
  let c0_i32_40 : BitVec 32 := 0#32
  let v120 : BitVec 32 := Scalar.subi v119 c0_i32_40
  let c256_i32 : BitVec 32 := 256#32
  let v130 : BitVec 32 := Scalar.muli v120 c256_i32
  v130
def k0_mult16 (i : grid0.Coords) (k0_t2 : Fin (k0_t2_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_41 : BitVec 32 := 4#32
  let c0_i32_25 : BitVec 32 := 0#32
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_28 : BitVec 32 := 1#32
  let arg8 : BitVec 32 := Scf.iv v84 c1_i32_28 k0_t2
  let v121 : BitVec 32 := Scalar.muli c4_i32_41 arg8
  let v122 : BitVec 32 := Scalar.subi v78 v121
  let c1_i32_42 : BitVec 32 := 1#32
  let v123 : BitVec 32 := Scalar.subi v122 c1_i32_42
  let c256_i32_46 : BitVec 32 := 256#32
  let v132 : BitVec 32 := Scalar.muli v123 c256_i32_46
  v132
def k0_mult17 (i : grid0.Coords) (k0_t2 : Fin (k0_t2_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_43 : BitVec 32 := 4#32
  let c0_i32_25 : BitVec 32 := 0#32
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_28 : BitVec 32 := 1#32
  let arg8 : BitVec 32 := Scf.iv v84 c1_i32_28 k0_t2
  let v124 : BitVec 32 := Scalar.muli c4_i32_43 arg8
  let v125 : BitVec 32 := Scalar.subi v78 v124
  let c2_i32 : BitVec 32 := 2#32
  let v126 : BitVec 32 := Scalar.subi v125 c2_i32
  let c256_i32_47 : BitVec 32 := 256#32
  let v134 : BitVec 32 := Scalar.muli v126 c256_i32_47
  v134
def k0_mult18 (i : grid0.Coords) (k0_t2 : Fin (k0_t2_loop i).trips) : BitVec 32 :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_44 : BitVec 32 := 4#32
  let c0_i32_25 : BitVec 32 := 0#32
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_28 : BitVec 32 := 1#32
  let arg8 : BitVec 32 := Scf.iv v84 c1_i32_28 k0_t2
  let v127 : BitVec 32 := Scalar.muli c4_i32_44 arg8
  let v128 : BitVec 32 := Scalar.subi v78 v127
  let c3_i32_45 : BitVec 32 := 3#32
  let v129 : BitVec 32 := Scalar.subi v128 c3_i32_45
  let c256_i32_48 : BitVec 32 := 256#32
  let v136 : BitVec 32 := Scalar.muli v129 c256_i32_48
  v136
def k0_off6 (i : grid0.Coords) (k0_t2 : Fin (k0_t2_loop i).trips) (c0_i32_40 : BitVec 32) : Fin 2 → Nat :=
  let arg2 : BitVec 32 := BitVec.ofNat 32 (i 2).val
  let c1_i32_23 : BitVec 32 := 1#32
  let v77 : BitVec 32 := Scalar.subi arg2 c1_i32_23
  let c4_i32 : BitVec 32 := 4#32
  let v72 : BitVec 32 := Scalar.remsi arg2 c4_i32
  let v78 : BitVec 32 := Scalar.subi v77 v72
  let c4_i32_39 : BitVec 32 := 4#32
  let c0_i32_25 : BitVec 32 := 0#32
  let c4_i32_24 : BitVec 32 := 4#32
  let v79 : BitVec 32 := Scalar.divsi arg2 c4_i32_24
  let v80 : BitVec 32 := Scalar.subi v79 c0_i32_25
  let c1_i32_26 : BitVec 32 := 1#32
  let v82 : BitVec 32 := Scalar.divsi v80 c1_i32_26
  let v83 : BitVec 32 := Scalar.muli v82 c1_i32_26
  let v84 : BitVec 32 := Scalar.addi c0_i32_25 v83
  let c1_i32_28 : BitVec 32 := 1#32
  let arg8 : BitVec 32 := Scf.iv v84 c1_i32_28 k0_t2
  let v118 : BitVec 32 := Scalar.muli c4_i32_39 arg8
  let v119 : BitVec 32 := Scalar.subi v78 v118
  let v120 : BitVec 32 := Scalar.subi v119 c0_i32_40
  let c256_i32 : BitVec 32 := 256#32
  let v130 : BitVec 32 := Scalar.muli v120 c256_i32
  let v131 : BitVec 32 := v130
  let v138 : Index := Scalar.indexCast v131
  let c0_49 : Index := 0#32
  ![v138.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x2048x16x64 : Shape := ⟨4, ![8, 2048, 16, 64]⟩
abbrev S2048 : Shape := ⟨1, ![2048]⟩
abbrev S8x16x2048x2048 : Shape := ⟨4, ![8, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x16x64x2048 : Shape := ⟨4, ![8, 16, 64, 2048]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S2048, .i32⟩
  | .hbm, ⟨4, _⟩ => ⟨S2048, .i32⟩
  | .hbm, ⟨5, _⟩ => ⟨S8x16x2048x2048, .f32⟩
  | .hbm, ⟨6, _⟩ => ⟨S_, .f32⟩
  | .hbm, ⟨7, _⟩ => ⟨S8x16x2048x2048, .f32⟩
  | .hbm, ⟨8, _⟩ => ⟨S8x16x2048x2048, .f32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S8x16x2048x2048, .f32⟩
  | .hbm, ⟨15, _⟩ => ⟨S8x16x2048x2048, .f32⟩
  | .hbm, ⟨16, _⟩ => ⟨S_, .f32⟩
  | .hbm, ⟨17, _⟩ => ⟨S8x16x2048x2048, .f32⟩
  | .hbm, ⟨18, _⟩ => ⟨S8x16x2048x2048, .f32⟩
  | .hbm, ⟨19, _⟩ => ⟨S8x16x2048x2048, .f32⟩
  | .hbm, ⟨20, _⟩ => ⟨S8x16x2048x2048, .f32⟩
  | .hbm, ⟨21, _⟩ => ⟨S8x16x2048x2048, .i1⟩
  | .hbm, ⟨22, _⟩ => ⟨S8x16x2048x2048, .f32⟩
  | .hbm, ⟨23, _⟩ => ⟨S8x16x2048x2048, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S_, .f32⟩
  | .hbm, ⟨32, _⟩ => ⟨S_, .f32⟩
  | .hbm, ⟨33, _⟩ => ⟨S8x16x2048x2048, .i1⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S_, .f32⟩
  | .hbm, ⟨38, _⟩ => ⟨S8x16x2048x2048, .f32⟩
  | .hbm, ⟨39, _⟩ => ⟨S8x16x2048x2048, .f32⟩
  | .hbm, ⟨40, _⟩ => ⟨S8x16x2048x2048, .f32⟩
  | .hbm, ⟨41, _⟩ => ⟨S_, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .f32⟩
  | .hbm, ⟨46, _⟩ => ⟨S8x16x2048x2048, .i1⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S_, .f32⟩
  | .hbm, ⟨59, _⟩ => ⟨S_, .f32⟩
  | .hbm, ⟨60, _⟩ => ⟨S8x16x2048x2048, .i1⟩
  | .hbm, ⟨61, _⟩ => ⟨S8x16x2048x2048, .f32⟩
  | .hbm, ⟨62, _⟩ => ⟨S8x16x2048x2048, .f32⟩
  | .hbm, ⟨63, _⟩ => ⟨S8x16x64x2048, .f32⟩
  | .hbm, ⟨64, _⟩ => ⟨S8x2048x16x64, .f32⟩
  | .hbm, ⟨65, _⟩ => ⟨S16384x1024, .f32⟩
  | .hbm, ⟨66, _⟩ => ⟨S16384x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_call2_cst : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x4096 : Shape := ⟨2, ![1024, 4096]⟩
abbrev S4096x1024 : Shape := ⟨2, ![4096, 1024]⟩
abbrev S1024 : Shape := ⟨1, ![1024]⟩
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8x2048x4096 : Shape := ⟨3, ![8, 2048, 4096]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | .hbm, ⟨45, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x256x4x256 : Shape := ⟨4, ![8, 256, 4, 256]⟩
abbrev S1024x1024 : Shape := ⟨2, ![1024, 1024]⟩
abbrev S1024 : Shape := ⟨1, ![1024]⟩
abbrev S16384x1024 : Shape := ⟨2, ![16384, 1024]⟩
abbrev S2048x1024 : Shape := ⟨2, ![2048, 1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S16384x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x2048x1024 : Shape := ⟨3, ![8, 2048, 1024]⟩
abbrev S8x256x4x256 : Shape := ⟨4, ![8, 256, 4, 256]⟩
abbrev S1024x1024 : Shape := ⟨2, ![1024, 1024]⟩
abbrev S1024 : Shape := ⟨1, ![1024]⟩
abbrev S8x2048x4x256 : Shape := ⟨4, ![8, 2048, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x2048x1024, .f32⟩
  | .hbm, ⟨8, _⟩ => ⟨S8x2048x4x256, .f32⟩
  | .hbm, ⟨9, _⟩ => ⟨S8x4x2048x256, .f32⟩
  | .hbm, ⟨10, _⟩ => ⟨S_, .f32⟩
  | .hbm, ⟨11, _⟩ => ⟨S8x4x2048x256, .f32⟩
  | .hbm, ⟨12, _⟩ => ⟨S8x4x2048x256, .f32⟩
  | .hbm, ⟨13, _⟩ => ⟨S_, .f32⟩
  | .hbm, ⟨14, _⟩ => ⟨S8x4x2048, .f32⟩
  | .hbm, ⟨15, _⟩ => ⟨S_, .f32⟩
  | .hbm, ⟨16, _⟩ => ⟨S8x4x2048, .f32⟩
  | .hbm, ⟨17, _⟩ => ⟨S8x4x2048, .f32⟩
  | .hbm, ⟨18, _⟩ => ⟨S8x4x2048x1, .f32⟩
  | .hbm, ⟨19, _⟩ => ⟨S8x4x2048x256, .f32⟩
  | .hbm, ⟨20, _⟩ => ⟨S8x4x2048x256, .f32⟩
  | .hbm, ⟨21, _⟩ => ⟨S8x4x2048x256, .f32⟩
  | .hbm, ⟨22, _⟩ => ⟨S_, .f32⟩
  | .hbm, ⟨23, _⟩ => ⟨S8x4x2048, .f32⟩
  | .hbm, ⟨24, _⟩ => ⟨S8x4x2048x1, .f32⟩
  | .hbm, ⟨25, _⟩ => ⟨S8x4x2048x256, .f32⟩
  | .hbm, ⟨26, _⟩ => ⟨S8x4x2048x256, .f32⟩
  | .hbm, ⟨27, _⟩ => ⟨S8x4x256x2048, .f32⟩
  | .hbm, ⟨28, _⟩ => ⟨S8x2048x4x256, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S16384x1024, .f32⟩
  | .hbm, ⟨65, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x3072 : Shape := ⟨2, ![1024, 3072]⟩
abbrev S3x16x64 : Shape := ⟨3, ![3, 16, 64]⟩
abbrev S16384x1024 : Shape := ⟨2, ![16384, 1024]⟩
abbrev S1x3072 : Shape := ⟨2, ![1, 3072]⟩
abbrev S8x1024x2048 : Shape := ⟨3, ![8, 1024, 2048]⟩
abbrev S256x1024 : Shape := ⟨2, ![256, 1024]⟩
abbrev S1x1024x256 : Shape := ⟨3, ![1, 1024, 256]⟩
abbrev S1024x1024 : Shape := ⟨2, ![1024, 1024]⟩
abbrev S1x1024 : Shape := ⟨2, ![1, 1024]⟩
abbrev S1024x256 : Shape := ⟨2, ![1024, 256]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024x3072, .f32⟩
  | .hbm, ⟨2, _⟩ => ⟨S3x16x64, .f32⟩
  | .hbm, ⟨3, _⟩ => ⟨S16384x1024, .f32⟩
  | .hbm, ⟨4, _⟩ => ⟨S16384x1024, .bf16⟩
  | .hbm, ⟨5, _⟩ => ⟨S1024x3072, .bf16⟩
  | .hbm, ⟨6, _⟩ => ⟨S1x3072, .f32⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S8x1024x2048, .f32⟩
  | .hbm, ⟨11, _⟩ => ⟨S8x1024x2048, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S1x3072, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x2048x1024 : Shape := ⟨3, ![8, 2048, 1024]⟩
abbrev S1024x3072 : Shape := ⟨2, ![1024, 3072]⟩
abbrev S3x16x64 : Shape := ⟨3, ![3, 16, 64]⟩
abbrev S8x2048x3072 : Shape := ⟨3, ![8, 2048, 3072]⟩
abbrev S8x2048x3x16x64 : Shape := ⟨5, ![8, 2048, 3, 16, 64]⟩
abbrev S1x1x3x16x64 : Shape := ⟨5, ![1, 1, 3, 16, 64]⟩
abbrev S8x2048x1x16x64 : Shape := ⟨5, ![8, 2048, 1, 16, 64]⟩
abbrev S8x2048x16x64 : Shape := ⟨4, ![8, 2048, 16, 64]⟩
abbrev S_ : Shape := ⟨0, ![]⟩
abbrev S16384x1024 : Shape := ⟨2, ![16384, 1024]⟩
abbrev S8x16x64x2048 : Shape := ⟨4, ![8, 16, 64, 2048]⟩
abbrev S8x1024x2048 : Shape := ⟨3, ![8, 1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x3072, .f32⟩
  | .hbm, ⟨2, _⟩ => ⟨S3x16x64, .f32⟩
  | .hbm, ⟨3, _⟩ => ⟨S8x2048x3072, .f32⟩
  | .hbm, ⟨4, _⟩ => ⟨S8x2048x3x16x64, .f32⟩
  | .hbm, ⟨5, _⟩ => ⟨S1x1x3x16x64, .f32⟩
  | .hbm, ⟨6, _⟩ => ⟨S8x2048x3x16x64, .f32⟩
  | .hbm, ⟨7, _⟩ => ⟨S8x2048x3x16x64, .f32⟩
  | .hbm, ⟨8, _⟩ => ⟨S8x2048x1x16x64, .f32⟩
  | .hbm, ⟨9, _⟩ => ⟨S8x2048x16x64, .f32⟩
  | .hbm, ⟨10, _⟩ => ⟨S8x2048x1x16x64, .f32⟩
  | .hbm, ⟨11, _⟩ => ⟨S8x2048x16x64, .f32⟩
  | .hbm, ⟨12, _⟩ => ⟨S8x2048x1x16x64, .f32⟩
  | .hbm, ⟨13, _⟩ => ⟨S8x2048x16x64, .f32⟩
  | .hbm, ⟨14, _⟩ => ⟨S_, .f32⟩
  | .hbm, ⟨15, _⟩ => ⟨S8x2048x16x64, .f32⟩
  | .hbm, ⟨16, _⟩ => ⟨S8x2048x16x64, .f32⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S16384x1024, .f32⟩
  | .hbm, ⟨22, _⟩ => ⟨S16384x1024, .bf16⟩
  | .hbm, ⟨23, _⟩ => ⟨S8x16x64x2048, .f32⟩
  | .hbm, ⟨24, _⟩ => ⟨S8x1024x2048, .f32⟩
  | .hbm, ⟨25, _⟩ => ⟨S8x16x64x2048, .f32⟩
  | .hbm, ⟨26, _⟩ => ⟨S8x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | .hbm, ⟨40, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S8x256x1024 : Shape := ⟨3, ![8, 256, 1024]⟩
abbrev S4x1024x2048 : Shape := ⟨3, ![4, 1024, 2048]⟩
abbrev S2048x1024 : Shape := ⟨2, ![2048, 1024]⟩
abbrev S4x2048x1024 : Shape := ⟨3, ![4, 2048, 1024]⟩
abbrev S4x8x2048x128 : Shape := ⟨4, ![4, 8, 2048, 128]⟩
abbrev S256x1024 : Shape := ⟨2, ![256, 1024]⟩
abbrev S1x1024x2048 : Shape := ⟨3, ![1, 1024, 2048]⟩
abbrev S1x256x1024 : Shape := ⟨3, ![1, 256, 1024]⟩
abbrev S1x1x2048x128 : Shape := ⟨4, ![1, 1, 2048, 128]⟩
abbrev S1x1024x1024 : Shape := ⟨3, ![1, 1024, 1024]⟩
abbrev S1024x1024 : Shape := ⟨2, ![1024, 1024]⟩
abbrev S256x128 : Shape := ⟨2, ![256, 128]⟩
abbrev S1x1x256x128 : Shape := ⟨4, ![1, 1, 256, 128]⟩

abbrev nBuf : Space → Nat
  | .hbm => 9
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S4x1024x2048, .f32⟩
  | .hbm, ⟨2, _⟩ => ⟨S2048x1024, .f32⟩
  | .hbm, ⟨3, _⟩ => ⟨S2048x1024, .bf16⟩
  | .hbm, ⟨4, _⟩ => ⟨S4x1024x2048, .bf16⟩
  | .hbm, ⟨5, _⟩ => ⟨S4x2048x1024, .bf16⟩
  | .hbm, ⟨6, _⟩ => ⟨S4x2048x1024, .bf16⟩
  | .hbm, ⟨7, _⟩ => ⟨S4x8x2048x128, .f32⟩
  | .hbm, ⟨8, _⟩ => ⟨S4x8x2048x128, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8x256x1024 : Shape := ⟨3, ![8, 256, 1024]⟩
abbrev S4x1024x2048 : Shape := ⟨3, ![4, 1024, 2048]⟩
abbrev S4x2048x8x256 : Shape := ⟨4, ![4, 2048, 8, 256]⟩
abbrev S4x8x256x2048 : Shape := ⟨4, ![4, 8, 256, 2048]⟩
abbrev S4x8x256x1024 : Shape := ⟨4, ![4, 8, 256, 1024]⟩
abbrev S4x2048x1024 : Shape := ⟨3, ![4, 2048, 1024]⟩
abbrev S4x8x256x4x2x128 : Shape := ⟨6, ![4, 8, 256, 4, 2, 128]⟩
abbrev S4x8x256x2x4x128 : Shape := ⟨6, ![4, 8, 256, 2, 4, 128]⟩
abbrev S4x8x2048x128 : Shape := ⟨4, ![4, 8, 2048, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024x2048, .f32⟩
  | .hbm, ⟨2, _⟩ => ⟨S4x2048x8x256, .f32⟩
  | .hbm, ⟨3, _⟩ => ⟨S4x8x256x2048, .f32⟩
  | .hbm, ⟨4, _⟩ => ⟨S4x8x256x1024, .f32⟩
  | .hbm, ⟨5, _⟩ => ⟨S4x8x256x1024, .f32⟩
  | .hbm, ⟨6, _⟩ => ⟨S4x2048x1024, .f32⟩
  | .hbm, ⟨7, _⟩ => ⟨S4x2048x1024, .bf16⟩
  | .hbm, ⟨8, _⟩ => ⟨S4x2048x1024, .f32⟩
  | .hbm, ⟨9, _⟩ => ⟨S4x2048x1024, .bf16⟩
  | .hbm, ⟨10, _⟩ => ⟨S4x8x256x4x2x128, .f32⟩
  | .hbm, ⟨11, _⟩ => ⟨S4x8x256x2x4x128, .f32⟩
  | .hbm, ⟨12, _⟩ => ⟨S4x8x2048x128, .f32⟩
  | .hbm, ⟨13, _⟩ => ⟨S4x8x256x4x2x128, .f32⟩
  | .hbm, ⟨14, _⟩ => ⟨S4x8x256x2x4x128, .f32⟩
  | .hbm, ⟨15, _⟩ => ⟨S4x8x2048x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel7.lean ====
abbrev S8x2048x1024 : Shape := ⟨3, ![8, 2048, 1024]⟩
abbrev S8x2x1024 : Shape := ⟨3, ![8, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S256x1024 : Shape := ⟨2, ![256, 1024]⟩
abbrev S1x2x1024 : Shape := ⟨3, ![1, 2, 1024]⟩
abbrev S264x1024 : Shape := ⟨2, ![264, 1024]⟩
abbrev S2x1024 : Shape := ⟨2, ![2, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S1024x3072, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S8x2x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S3x1024, .f32⟩
  | .local _ .vmem, ⟨4, _⟩ => ⟨S1024x1024, .bf16⟩
  | .local _ .vmem, ⟨5, _⟩ => ⟨S1x2x1024, .f32⟩
  | .local _ .vmem, ⟨6, _⟩ => ⟨S1x2x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x2x1024, .f32⟩
  | .local _ .vmem, ⟨14, _⟩ => ⟨S1x2x1024, .f32⟩
  | .local _ .vmem, ⟨15, _⟩ => ⟨S264x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v73 : BitVec 1 := Scalar.cmpi .eq arg1 c7_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S8x2048x1024 : Shape := ⟨3, ![8, 2048, 1024]⟩
abbrev S8x2x1024 : Shape := ⟨3, ![8, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S8x2048x3072 : Shape := ⟨3, ![8, 2048, 3072]⟩
abbrev S8x2050x1024 : Shape := ⟨3, ![8, 2050, 1024]⟩
abbrev S1x1024 : Shape := ⟨2, ![1, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x2048x3072, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2050x1024, .f32⟩
  | .hbm, ⟨13, _⟩ => ⟨S8x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | .hbm, ⟨71, _⟩ => ⟨S16384x1024, .f32⟩
  | .hbm, ⟨72, _⟩ => ⟨S16384x1024, .bf16⟩
  | .hbm, ⟨73, _⟩ => ⟨S8x2x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Rows.lean ====
/-
  The mathematics of a row of the residual stream: its layer norm and the MLP.
-/
module

public import proofs.«01_k».proof.Proof.Gen.Kernel2Ideal.Frame
public import Idealize.ShloMosaic.Lib.Pipeline.ValueKit

@[expose] public section

set_option maxRecDepth 16384

noncomputable section

namespace Cert.Rows

open Idealize.ShloMosaic

/-- The row's length, as a value. -/
def len : EReal := Ideal.ofBits .f32 0x44800000#32

/-- The constant under the norm's root. -/
def eps : EReal := Ideal.ofBits .f32 0x3727C5AC#32

/-- The residual's weight, the fourth root of eight as the float it is rounded to. -/
def alpha : EReal := Ideal.ofBits .f32 0x3FD744FD#32

def mean (f : Fin 1024 → EReal) : EReal := Ideal.div (∑ x, f x) len

/-- The layer norm of a row, at one of its entries, with the entry's gain and bias. -/
def norm (f : Fin 1024 → EReal) (g b : EReal) (l : Fin 1024) : EReal :=
  (f l - mean f) * Ideal.rsqrt (mean (fun x => (f x - mean f) * (f x - mean f)) + eps) * g + b

/-- A hidden unit of the MLP: the square of the positive part of a product. -/
def unit (x w : Fin 1024 → EReal) : EReal := max (∑ e, x e * w e) 0 * max (∑ e, x e * w e) 0

theorem sum_four (f : Fin 4096 → EReal) :
    ∑ j, f j = ∑ j : Fin 1024, f ⟨j.val, by omega⟩ + ∑ j : Fin 1024, f ⟨1024 + j.val, by omega⟩ + ∑ j : Fin 1024, f ⟨2048 + j.val, by omega⟩
      + ∑ j : Fin 1024, f ⟨3072 + j.val, by omega⟩ := by
  refine (Fin.sum_univ_add (a := 3072) (b := 1024) f).trans ?_
  refine congrArg₂ (· + ·) ?_ rfl
  refine (Fin.sum_univ_add (a := 2048) (b := 1024) fun i => f (Fin.castAdd 1024 i)).trans ?_
  refine congrArg₂ (· + ·) ?_ rfl
  exact Fin.sum_univ_add (a := 1024) (b := 1024) fun i => f (Fin.castAdd 1024 (Fin.castAdd 1024 i))

end Cert.Rows

namespace Cert.Kernel2Ideal.Read

open Cert.Kernel2Ideal Cert.Kernel2Ideal.Gen Cert.Rows
open Idealize.ShloMosaic Idealize.ShloMosaic.TcCoe Idealize.SL.Sem

/-- The layer norm of a block's rows, as the kernel takes it. -/
def normed (v : FVec Ideal S256x1024 .f32) (g b : FVec Ideal S1x1024 .f32) : FVec Ideal S256x1024 .f32 :=
  let n : FVec Ideal S256x1 .f32 := broadcast S256x1 (Scalar.ofBits .f32 0x44800000#32)
  let mean : FVec Ideal S256x1 .f32 := divf (shapeCast S256x1 (multiReduction .add [1] S256 v 0x00000000#32 reduces_S256x1024_S256 (.inl rfl) rfl) shapeCasts_S256_S256x1) n
  let d := subf v (broadcastTo S256x1024 mean broadcasts_S256x1_S256x1024)
  let var : FVec Ideal S256x1 .f32 := divf (shapeCast S256x1 (multiReduction .add [1] S256 (mulf d d) 0x00000000#32 reduces_S256x1024_S256 (.inl rfl) rfl) shapeCasts_S256_S256x1) n
  let s : FVec Ideal S256x1 .f32 := rsqrt (addf var (broadcast S256x1 (Scalar.ofBits .f32 0x3727C5AC#32)))
  addf (mulf (mulf d (broadcastTo S256x1024 s broadcasts_S256x1_S256x1024)) (broadcastTo S256x1024 g broadcasts_S1x1024_S256x1024))
    (broadcastTo S256x1024 b broadcasts_S1x1024_S256x1024)

theorem normed_at (v : FVec Ideal S256x1024 .f32) (g b : FVec Ideal S1x1024 .f32) (r : Fin 256) (l : Fin 1024) :
    normed v g b (ix2 r l) = norm (fun x => v (ix2 r x)) (g (ix2 0 l)) (b (ix2 0 l)) l := by
  pointwise [normed]
  rfl

/-- What a slab of 1024 hidden units adds to the block. -/
def slab (x : FVec Ideal S256x1024 .bf16) (w1 w2 : FVec Ideal S1024x1024 .bf16) : FVec Ideal S256x1024 .f32 :=
  let h := maximumf (matmul dot_S256x1024_S1024x1024_S256x1024_1_0_0_1_n_n none x w1 (constant S256x1024 .f32 0x00000000#32)) (broadcast S256x1024 (Scalar.ofBits .f32 0x00000000#32))
  matmul dot_S256x1024_S1024x1024_S256x1024_1_0_0_1_n_n none (truncf .bf16 (mulf h h) bitsLt_bf16_f32) w2 (constant S256x1024 .f32 0x00000000#32)

theorem slab_at (x : FVec Ideal S256x1024 .bf16) (w1 w2 : FVec Ideal S1024x1024 .bf16) (r : Fin 256) (l : Fin 1024) :
    slab x w1 w2 (ix2 r l) = ∑ j : Fin 1024, unit (fun e => x (ix2 r e)) (fun e => w1 (ix2 e j)) * w2 (ix2 j l) := by
  pointwise [slab]
  rfl

theorem pay_eq (p0 : Vec Ideal S256x1024 .bf16) (a1 a2 b1 b2 c1 c2 d1 d2 : Vec Ideal S1024x1024 .bf16) (p3 : Vec Ideal S256x1024 .f32) (p4 p5 : Vec Ideal S1x1024 .f32) :
    k0_pay4 (k0_pay2 p0) (k0_pay3 p0 a1 a2 b1 b2 c1 c2) d1 d2 p3 p4 p5 =
      normed (addf (mulf (broadcast S256x1024 (Scalar.ofBits .f32 0x3FD744FD#32)) p3)
        (addf (addf (addf (slab p0 a1 a2) (slab p0 b1 b2)) (slab p0 c1 c2)) (slab p0 d1 d2))) p4 p5 := by
  unfold k0_pay4 k0_pay3 k0_pay2
  simp only [shapeCast_self]
  rfl

/-- What a point stores, by the rows and weights it reads. -/
theorem pay_at (x0 : Vec Ideal S256x1024 .bf16) (x1 : Vec Ideal S1024x4096 .bf16) (x2 : Vec Ideal S4096x1024 .bf16) (x3 : Vec Ideal S256x1024 .f32)
    (x4 x5 : Vec Ideal S1x1024 .f32) (r : Fin 256) (l : Fin 1024) :
    k0_pay5 x0 x1 x2 x3 x4 x5 (ix2 r l) =
      norm (fun y => alpha * x3 (ix2 r y) + ∑ j : Fin 4096, unit (fun e => x0 (ix2 r e)) (fun e => x1 (ix2 e j)) * x2 (ix2 j y))
        (x4 (ix2 0 l)) (x5 (ix2 0 l)) l := by
  unfold k0_pay5
  rw [pay_eq, normed_at]
  have e : ∀ y : Fin 1024, (addf (mulf (broadcast S256x1024 (Scalar.ofBits .f32 0x3FD744FD#32)) (View.ld x3 r0_0))
        (addf (addf (addf (slab (View.ld x0 r0_0) (View.ld x1 r0_1) (View.ld x2 r0_2)) (slab (View.ld x0 r0_0) (View.ld x1 r0_3) (View.ld x2 r0_4))) (slab (View.ld x0 r0_0) (View.ld x1 r0_5) (View.ld x2 r0_6))) (slab (View.ld x0 r0_0) (View.ld x1 r0_7) (View.ld x2 r0_8))) : FVec Ideal S256x1024 .f32) (ix2 r y)
      = alpha * x3 (ix2 r y) + ∑ j : Fin 4096, unit (fun e => x0 (ix2 r e)) (fun e => x1 (ix2 e j)) * x2 (ix2 j y) := by
    intro y
    rw [sum_four]
    pointwise [slab_at]
    rfl
  rw [funext e]
  pointwise

end Cert.Kernel2Ideal.Read

end
-- ==== Proof.Mlp.lean ====
/-
  The MLP with its residual and layer norm: what the kernel leaves.
-/
module

public import proofs.«01_k».proof.Proof.Gen.Kernel2Ideal.Value
public import proofs.«01_k».proof.Proof.Rows

@[expose] public section

set_option maxRecDepth 16384

noncomputable section

namespace Cert.Mlp

open Cert.Rows Idealize.ShloMosaic

/-- The residual stream after the MLP and its norm, at position `p` of sequence `b`. -/
def out (x : FVec Ideal ⟨3, ![8, 2048, 1024]⟩ .f32) (w1 : FVec Ideal ⟨2, ![1024, 4096]⟩ .f32) (w2 : FVec Ideal ⟨2, ![4096, 1024]⟩ .f32)
    (g h : FVec Ideal ⟨1, ![1024]⟩ .f32) (b : Fin 8) (p : Fin 2048) (l : Fin 1024) : EReal :=
  norm (fun y => alpha * x (ix3 b p y) + ∑ j : Fin 4096, unit (fun e => x (ix3 b p e)) (fun e => w1 (ix2 e j)) * w2 (ix2 j y))
    (g (ix1 l)) (h (ix1 l)) l

/-- The same, by the row of the stream. -/
def OUT (x : FVec Ideal ⟨3, ![8, 2048, 1024]⟩ .f32) (w1 : FVec Ideal ⟨2, ![1024, 4096]⟩ .f32) (w2 : FVec Ideal ⟨2, ![4096, 1024]⟩ .f32)
    (g h : FVec Ideal ⟨1, ![1024]⟩ .f32) : FVec Ideal ⟨2, ![16384, 1024]⟩ .f32 := fun i =>
  out x w1 w2 g h ⟨(i 0).val / 2048, by have : (i 0).val < 16384 := (i 0).isLt; omega⟩ ⟨(i 0).val % 2048, by omega⟩ (i 1)

end Cert.Mlp

namespace Cert.Kernel2Ideal.Read

open Cert.Kernel2Ideal Cert.Kernel2Ideal.Gen Cert.Rows Cert.Mlp
open Idealize.ShloMosaic Idealize.ShloMosaic.TcCoe Idealize.SL.Sem Idealize.ShloMosaic.StableHlo

variable (m : (ℓ : Loc nD τ sig) → Buf (Elt Ideal) ℓ)

def flat (x : FVec Ideal S8x2048x1024 .f32) : FVec Ideal S16384x1024 .f32 := shapeCast S16384x1024 x shapeCasts_S8x2048x1024_S16384x1024
def line (g : FVec Ideal S1024 .f32) : FVec Ideal S1x1024 .f32 := broadcastInDim S1x1024 ![1] bcast_S1024_S1x1024_1 g

theorem V_v0 (c : Dev nD) : V m c main_v0 = flat (m ((c.tc : Thread nD τ).loc main_arg0)) := by
  simp only [V, hostOps0]
  after_results_simp <;> rfl
theorem V_v1 (c : Dev nD) : V m c main_v1 = truncf (F := Ideal) .bf16 (flat (m ((c.tc : Thread nD τ).loc main_arg0))) bitsLt_bf16_f32 := by
  simp only [V, hostOps0]
  after_results_simp <;> rfl
theorem V_v2 (c : Dev nD) : V m c main_v2 = truncf (F := Ideal) (s := S1024x4096) .bf16 (m ((c.tc : Thread nD τ).loc main_arg1)) bitsLt_bf16_f32 := by
  simp only [V, hostOps0]
  after_results_simp <;> rfl
theorem V_v3 (c : Dev nD) : V m c main_v3 = truncf (F := Ideal) (s := S4096x1024) .bf16 (m ((c.tc : Thread nD τ).loc main_arg2)) bitsLt_bf16_f32 := by
  simp only [V, hostOps0]
  after_results_simp <;> rfl
theorem V_v4 (c : Dev nD) : V m c main_v4 = line (m ((c.tc : Thread nD τ).loc main_arg3)) := by
  simp only [V, hostOps0]
  after_results_simp <;> rfl
theorem V_v5 (c : Dev nD) : V m c main_v5 = line (m ((c.tc : Thread nD τ).loc main_arg4)) := by
  simp only [V, hostOps0]
  after_results_simp <;> rfl

theorem flat_at (x : FVec Ideal S8x2048x1024 .f32) (r : Fin 16384) (l : Fin 1024) :
    flat x (ix2 r l) = x (ix3 (⟨r.val / 2048, by omega⟩ : Fin 8) (⟨r.val % 2048, by omega⟩ : Fin 2048) l) := by
  pointwise [flat]
theorem line_at (g : FVec Ideal S1024 .f32) (l : Fin 1024) : line g (ix2 0 l) = g (ix1 l) := by
  pointwise [line]

theorem idx : ∀ t : Fin cfg0.N,
    win0_0.index t = ![t.val, 0] ∧ win0_1.index t = ![0, 0] ∧ win0_2.index t = ![0, 0] ∧ win0_3.index t = ![t.val, 0] ∧
    win0_4.index t = ![0, 0] ∧ win0_5.index t = ![0, 0] ∧ win0_6.index t = ![t.val, 0] ∧ win0_7.index t = ![t.val, 0] :=
  (by decide +kernel : ∀ t : Fin grid0.N, _)

theorem tlt (t : Fin cfg0.N) : t.val < 64 := t.isLt

/-- The row of the stream that a block's row is. -/
def row (t : Fin cfg0.N) (r : Fin 256) : Fin 16384 := ⟨256 * t.val + r.val, by have := tlt t; omega⟩

theorem emb0 (t : Fin cfg0.N) (r : Fin 256) (l : Fin 1024) : ((cfg0.win 0).blk t).view.emb (ix2 r l) = (ix2 (row t r) l : S16384x1024.Idx) := by
  blk_ext [idx t, row]
theorem emb1 (t : Fin cfg0.N) (r : Fin 1024) (l : Fin 4096) : ((cfg0.win 1).blk t).view.emb (ix2 r l) = (ix2 r l : S1024x4096.Idx) := by
  blk_ext [idx t]
theorem emb2 (t : Fin cfg0.N) (r : Fin 4096) (l : Fin 1024) : ((cfg0.win 2).blk t).view.emb (ix2 r l) = (ix2 r l : S4096x1024.Idx) := by
  blk_ext [idx t]
theorem emb3 (t : Fin cfg0.N) (r : Fin 256) (l : Fin 1024) : ((cfg0.win 3).blk t).view.emb (ix2 r l) = (ix2 (row t r) l : S16384x1024.Idx) := by
  blk_ext [idx t, row]
theorem emb4 (t : Fin cfg0.N) (l : Fin 1024) : ((cfg0.win 4).blk t).view.emb (ix2 0 l) = (ix2 0 l : S1x1024.Idx) := by
  blk_ext [idx t]
theorem emb5 (t : Fin cfg0.N) (l : Fin 1024) : ((cfg0.win 5).blk t).view.emb (ix2 0 l) = (ix2 0 l : S1x1024.Idx) := by
  blk_ext [idx t]
theorem emb6 (t : Fin cfg0.N) (r : Fin 256) (l : Fin 1024) : ((cfg0.win 6).blk t).view.emb (ix2 r l) = (ix2 (row t r) l : S16384x1024.Idx) := by
  blk_ext [idx t, row]
theorem emb7 (t : Fin cfg0.N) (r : Fin 256) (l : Fin 1024) : ((cfg0.win 7).blk t).view.emb (ix2 r l) = (ix2 (row t r) l : S16384x1024.Idx) := by
  blk_ext [idx t, row]

section
variable (c : Dev nD) (t : Fin cfg0.N)

theorem iblk0 (r : Fin 256) (l : Fin 1024) : iblk m c 0 t (ix2 r l) = flat (m ((c.tc : Thread nD τ).loc main_arg0)) (ix2 (row t r) l) :=
  (congrArg (V m c main_v1) (emb0 t r l)).trans (by rw [V_v1]; rfl)
theorem iblk1 (r : Fin 1024) (l : Fin 4096) : iblk m c 1 t (ix2 r l) = (m ((c.tc : Thread nD τ).loc main_arg1) : FVec Ideal S1024x4096 .f32) (ix2 r l) :=
  (congrArg (V m c main_v2) (emb1 t r l)).trans (by rw [V_v2]; rfl)
theorem iblk2 (r : Fin 4096) (l : Fin 1024) : iblk m c 2 t (ix2 r l) = (m ((c.tc : Thread nD τ).loc main_arg2) : FVec Ideal S4096x1024 .f32) (ix2 r l) :=
  (congrArg (V m c main_v3) (emb2 t r l)).trans (by rw [V_v3]; rfl)
theorem iblk3 (r : Fin 256) (l : Fin 1024) : iblk m c 3 t (ix2 r l) = flat (m ((c.tc : Thread nD τ).loc main_arg0)) (ix2 (row t r) l) :=
  (congrArg (V m c main_v0) (emb3 t r l)).trans (by rw [V_v0])
theorem iblk4 (l : Fin 1024) : iblk m c 4 t (ix2 0 l) = line (m ((c.tc : Thread nD τ).loc main_arg3)) (ix2 0 l) :=
  (congrArg (V m c main_v4) (emb4 t l)).trans (by rw [V_v4])
theorem iblk5 (l : Fin 1024) : iblk m c 5 t (ix2 0 l) = line (m ((c.tc : Thread nD τ).loc main_arg4)) (ix2 0 l) :=
  (congrArg (V m c main_v5) (emb5 t l)).trans (by rw [V_v5])

/-- What the kernel leaves, by its arguments. -/
abbrev RES : FVec Ideal S16384x1024 .f32 :=
  OUT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem point (r : Fin 256) (l : Fin 1024) :
    k0_pay5 (iblk m c 0 t) (iblk m c 1 t) (iblk m c 2 t) (iblk m c 3 t) (iblk m c 4 t) (iblk m c 5 t) (ix2 r l) = RES m c (ix2 (row t r) l) := by
  rw [pay_at]
  simp only [iblk0, iblk1, iblk2, iblk3, iblk4, iblk5, flat_at, line_at]
  rfl
end

theorem final6 (c : Dev nD) : (dats m 0 c).arrAt 6 cfg0.N = RES m c := by
  refine (dats m 0 c).arrAt_eq_of_covers 6 _ (by decide +kernel) fun t _ y => ?_
  blk_simp
  rw [after0_6]
  have h : ∀ y : S256x1024.Idx, out0_6 (iblk m c 0 t) (iblk m c 1 t) (iblk m c 2 t) (iblk m c 3 t) (iblk m c 4 t) (iblk m c 5 t) y =
      RES m c (((cfg0.win 6).blk t).view.emb y) := by
    have h : ∀ (r : Fin 256) (l : Fin 1024), out0_6 (iblk m c 0 t) (iblk m c 1 t) (iblk m c 2 t) (iblk m c 3 t) (iblk m c 4 t) (iblk m c 5 t) (ix2 r l) =
        RES m c (((cfg0.win 6).blk t).view.emb (ix2 r l)) := by
      intro r l
      rw [out0_6, View.canon_cons_unit_lit _ _ _ (by decide), emb6]
      exact point m c t r l
    intro y
    rw [eq_ix2 y]
    exact h _ _
  exact h y

theorem final7 (c : Dev nD) : (dats m 0 c).arrAt 7 cfg0.N = truncf (F := Ideal) .bf16 (RES m c) bitsLt_bf16_f32 := by
  refine (dats m 0 c).arrAt_eq_of_covers 7 _ (by decide +kernel) fun t _ y => ?_
  blk_simp
  rw [after0_7]
  have h : ∀ y : S256x1024.Idx, out0_7 (iblk m c 0 t) (iblk m c 1 t) (iblk m c 2 t) (iblk m c 3 t) (iblk m c 4 t) (iblk m c 5 t) y =
      RES m c (((cfg0.win 7).blk t).view.emb y) := by
    have h : ∀ (r : Fin 256) (l : Fin 1024), out0_7 (iblk m c 0 t) (iblk m c 1 t) (iblk m c 2 t) (iblk m c 3 t) (iblk m c 4 t) (iblk m c 5 t) (ix2 r l) =
        RES m c (((cfg0.win 7).blk t).view.emb (ix2 r l)) := by
      intro r l
      rw [out0_7, View.canon_cons_unit_lit _ _ _ (by decide), emb7]
      exact point m c t r l
    intro y
    rw [eq_ix2 y]
    exact h _ _
  exact h y

end Cert.Kernel2Ideal.Read

end
-- ==== Proof.MlpRef.lean ====
/-
  The MLP's reference read entry by entry.
-/
module

public import proofs.«01_k».proof.Proof.Gen.Reference2Ideal.Run
public import proofs.«01_k».proof.Proof.Mlp

@[expose] public section

set_option maxRecDepth 16384

noncomputable section

namespace Cert.Reference2Ideal.Read

open Cert.Reference2Ideal Cert.Reference2Ideal.Gen Cert.Rows Cert.Mlp
open Idealize.ShloMosaic Idealize.ShloMosaic.TcCoe Idealize.SL.Sem

abbrev Stream : Type := FVec Ideal S8x2048x1024 .f32

/-- The mean of each row. -/
def mean3 (x : Stream) : FVec Ideal S8x2048x1 .f32 :=
  Host.divf (broadcastInDim S8x2048x1 ![0, 1] bcast_S8x2048_S8x2048x1_0_1 (Host.reduceAdd x (constant (F := Ideal) S_ .f32 0x00000000#32) reducesTo_S8x2048x1024_S8x2048_d2 h_S_))
    (broadcastInDim S8x2048x1 ![] bcast_S_S8x2048x1 (constant (F := Ideal) S_ .f32 0x44800000#32))

def spread (x : FVec Ideal S8x2048x1 .f32) : Stream := broadcastInDim S8x2048x1024 ![0, 1, 2] bcast_S8x2048x1_S8x2048x1024_0_1_2 x

def lane (g : FVec Ideal S1024 .f32) : Stream :=
  broadcastInDim S8x2048x1024 ![0, 1, 2] bcast_S1x1x1024_S8x2048x1024_0_1_2 (broadcastInDim S1x1x1024 ![2] bcast_S1024_S1x1x1024_2 g)

/-- The layer norm, as the reference takes it. -/
def normed (x : Stream) (g b : FVec Ideal S1024 .f32) : Stream :=
  addf (mulf (mulf (subf x (spread (mean3 x)))
    (spread (Host.rsqrt (addf (mean3 (mulf (subf x (spread (mean3 x))) (subf x (spread (mean3 x))))) (broadcastInDim S8x2048x1 ![] bcast_S_S8x2048x1 (constant (F := Ideal) S_ .f32 0x3727C5AC#32))))))
    (lane g)) (lane b)

/-- The residual with the MLP added. -/
def sum3 (x : Stream) (w1 : FVec Ideal S1024x4096 .f32) (w2 : FVec Ideal S4096x1024 .f32) : Stream :=
  let h := maximumf (Host.dotGeneral dot_S8x2048x1024_S1024x4096_S8x2048x4096_2_0_01_1_n_n none x w1) (broadcastInDim S8x2048x4096 ![] bcast_S_S8x2048x4096 (constant (F := Ideal) S_ .f32 0x00000000#32))
  addf (mulf (broadcastInDim S8x2048x1024 ![] bcast_S_S8x2048x1024 (constant (F := Ideal) S_ .f32 0x3FD744FD#32)) x)
    (Host.dotGeneral dot_S8x2048x4096_S4096x1024_S8x2048x1024_2_0_01_1_n_n none (mulf h h) w2)

def REF (x : Stream) (w1 : FVec Ideal S1024x4096 .f32) (w2 : FVec Ideal S4096x1024 .f32) (g b : FVec Ideal S1024 .f32) : FVec Ideal S16384x1024 .f32 :=
  shapeCast S16384x1024 (normed (sum3 x w1 w2) g b) shapeCasts_S8x2048x1024_S16384x1024

theorem res0 (m : (ℓ : Loc nD τ sig) → Buf (Elt Ideal) ℓ) (c : Dev nD) :
    Value.res_main_v31 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem res1 (m : (ℓ : Loc nD τ sig) → Buf (Elt Ideal) ℓ) (c : Dev nD) :
    Value.res_main_v32 m c = truncf (F := Ideal) .bf16 (REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) bitsLt_bf16_f32 := rfl

theorem normed_at (x : Stream) (g h : FVec Ideal S1024 .f32) (b : Fin 8) (p : Fin 2048) (l : Fin 1024) :
    normed x g h (ix3 b p l) = norm (fun y => x (ix3 b p y)) (g (ix1 l)) (h (ix1 l)) l := by
  pointwise [normed, mean3, spread, lane]
  rfl

theorem sum3_at (x : Stream) (w1 : FVec Ideal S1024x4096 .f32) (w2 : FVec Ideal S4096x1024 .f32) (b : Fin 8) (p : Fin 2048) (y : Fin 1024) :
    sum3 x w1 w2 (ix3 b p y) = alpha * x (ix3 b p y) + ∑ j : Fin 4096, unit (fun e => x (ix3 b p e)) (fun e => w1 (ix2 e j)) * w2 (ix2 j y) := by
  pointwise [sum3]
  rfl

theorem REF_eq (x : Stream) (w1 : FVec Ideal S1024x4096 .f32) (w2 : FVec Ideal S4096x1024 .f32) (g b : FVec Ideal S1024 .f32) :
    REF x w1 w2 g b = OUT x w1 w2 g b := by
  funext i
  rw [eq_ix2 i]
  pointwise [REF, normed_at, sum3_at]
  rfl

theorem eq0 (x : Stream) (w1 : FVec Ideal S1024x4096 .f32) (w2 : FVec Ideal S4096x1024 .f32) (g b : FVec Ideal S1024 .f32) :
    REF x w1 w2 g b = OUT x w1 w2 g b := REF_eq x w1 w2 g b

theorem eq1 (x : Stream) (w1 : FVec Ideal S1024x4096 .f32) (w2 : FVec Ideal S4096x1024 .f32) (g b : FVec Ideal S1024 .f32) :
    truncf (F := Ideal) .bf16 (REF x w1 w2 g b) bitsLt_bf16_f32 = truncf (F := Ideal) .bf16 (OUT x w1 w2 g b) bitsLt_bf16_f32 :=
  congrArg (fun y => truncf (F := Ideal) .bf16 y bitsLt_bf16_f32) (REF_eq x w1 w2 g b)

end Cert.Reference2Ideal.Read

end
-- ==== Proof.Mem.lean ====
/-
  The cross-attention into the memory tokens, with its residual and layer norm: what the kernel leaves.
-/
module

public import proofs.«01_k».proof.Proof.Gen.Kernel3Ideal.Value
public import proofs.«01_k».proof.Proof.Rows

@[expose] public section

set_option maxRecDepth 16384

noncomputable section

namespace Cert.Mem

open Cert.Rows Idealize.ShloMosaic

/-- The largest of 256 values, as the fold from minus infinity. -/
def top (f : Fin 256 → EReal) : EReal := (Finset.univ : Finset (Fin 256)).fold max (Ideal.ofBits .f32 0xFF800000#32) f

/-- A weight of the softmax. -/
def soft (f : Fin 256 → EReal) (i : Fin 256) : EReal := Ideal.div (Ideal.exp (f i - top f)) (∑ k, Ideal.exp (f k - top f))

/-- The scale of the scores, one over the root of the head's width. -/
def scale : EReal := Ideal.ofBits .f32 0x3D800000#32

theorem scale_eq : scale = ((1 / 16 : ℝ) : EReal) := by
  simp [scale, Ideal.ofBits, Ideal.ieee]
  rw [← EReal.coe_mul]
  norm_num

/-- The scale may be taken out of a product of a query and a key. -/
theorem scaled (q k : Fin 256 → EReal) : ∑ e, q e * scale * k e = (∑ e, q e * k e) * scale := by
  have hs : (0 : EReal) ≤ scale := by rw [scale_eq]; exact_mod_cast (by norm_num : (0 : ℝ) ≤ 1 / 16)
  have ht : scale ≠ ⊤ := by rw [scale_eq]; exact EReal.coe_ne_top _
  have : ∀ s : Finset (Fin 256), ∑ e ∈ s, q e * scale * k e = (∑ e ∈ s, q e * k e) * scale := by
    intro s
    induction s using Finset.induction_on with
    | empty => simp
    | insert a s ha ih =>
      rw [Finset.sum_insert ha, Finset.sum_insert ha, ih, EReal.right_distrib_of_nonneg_of_ne_top hs ht, mul_right_comm]
  exact this _

abbrev Keys : Type := FVec Ideal ⟨4, ![8, 256, 4, 256]⟩ .f32

/-- What a head reads from the memory, at one of its lanes. -/
def head (x : Fin 1024 → EReal) (mk mv : Keys) (wq : FVec Ideal ⟨2, ![1024, 1024]⟩ .f32) (b : Fin 8) (h : Fin 4) (l : Fin 256) : EReal :=
  ∑ m : Fin 256, soft (fun m => (∑ e : Fin 256, (∑ y, x y * wq (ix2 y ⟨256 * h.val + e.val, by omega⟩)) * mk (ix4 b m h e)) * scale) m * mv (ix4 b m h l)

/-- The residual stream after the cross-attention and its norm, at position `p` of sequence `b`. -/
def out (x : FVec Ideal ⟨3, ![8, 2048, 1024]⟩ .f32) (mk mv : Keys) (wq wo : FVec Ideal ⟨2, ![1024, 1024]⟩ .f32)
    (g h : FVec Ideal ⟨1, ![1024]⟩ .f32) (b : Fin 8) (p : Fin 2048) (l : Fin 1024) : EReal :=
  norm (fun y => alpha * x (ix3 b p y) + ∑ d : Fin 1024, head (fun e => x (ix3 b p e)) mk mv wq b ⟨d.val / 256, by omega⟩ ⟨d.val % 256, by omega⟩ * wo (ix2 d y))
    (g (ix1 l)) (h (ix1 l)) l

/-- The same, by the row of the stream. -/
def OUT (x : FVec Ideal ⟨3, ![8, 2048, 1024]⟩ .f32) (mk mv : Keys) (wq wo : FVec Ideal ⟨2, ![1024, 1024]⟩ .f32)
    (g h : FVec Ideal ⟨1, ![1024]⟩ .f32) : FVec Ideal ⟨2, ![16384, 1024]⟩ .f32 := fun i =>
  out x mk mv wq wo g h ⟨(i 0).val / 2048, by have : (i 0).val < 16384 := (i 0).isLt; omega⟩ ⟨(i 0).val % 2048, by omega⟩ (i 1)

end Cert.Mem

namespace Cert.Kernel3Ideal.Read

open Cert.Kernel3Ideal Cert.Kernel3Ideal.Gen Cert.Rows Cert.Mem
open Idealize.ShloMosaic Idealize.ShloMosaic.TcCoe Idealize.SL.Sem Idealize.ShloMosaic.StableHlo

/-- The layer norm of a block's rows, as the kernel takes it. -/
def normed (v : FVec Ideal S256x1024 .f32) (g b : FVec Ideal S1x1024 .f32) : FVec Ideal S256x1024 .f32 :=
  let n : FVec Ideal S256x1 .f32 := broadcast S256x1 (Scalar.ofBits .f32 0x44800000#32)
  let mean : FVec Ideal S256x1 .f32 := divf (shapeCast S256x1 (multiReduction .add [1] S256 v 0x00000000#32 reduces_S256x1024_S256 (.inl rfl) rfl) shapeCasts_S256_S256x1) n
  let d := subf v (broadcastTo S256x1024 mean broadcasts_S256x1_S256x1024)
  let var : FVec Ideal S256x1 .f32 := divf (shapeCast S256x1 (multiReduction .add [1] S256 (mulf d d) 0x00000000#32 reduces_S256x1024_S256 (.inl rfl) rfl) shapeCasts_S256_S256x1) n
  let s : FVec Ideal S256x1 .f32 := rsqrt (addf var (broadcast S256x1 (Scalar.ofBits .f32 0x3727C5AC#32)))
  addf (mulf (mulf d (broadcastTo S256x1024 s broadcasts_S256x1_S256x1024)) (broadcastTo S256x1024 g broadcasts_S1x1024_S256x1024))
    (broadcastTo S256x1024 b broadcasts_S1x1024_S256x1024)

theorem normed_at (v : FVec Ideal S256x1024 .f32) (g b : FVec Ideal S1x1024 .f32) (r : Fin 256) (l : Fin 1024) :
    normed v g b (ix2 r l) = norm (fun x => v (ix2 r x)) (g (ix2 0 l)) (b (ix2 0 l)) l := by
  pointwise [normed]
  rfl

/-- A head of the block's queries on its keys. -/
def scores (q k : FVec Ideal S256x256 .bf16) : FVec Ideal S256x256 .f32 :=
  matmul dot_S256x256_S256x256_S256x256_1_1_0_0_n_n none q k (constant S256x256 .f32 0x00000000#32)

/-- The softmax of the scores, unnormalised. -/
def expd (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- A head's values by its softmax. -/
def mixed (e : FVec Ideal S256x256 .f32) (v : FVec Ideal S256x256 .bf16) : FVec Ideal S256x256 .bf16 :=
  truncf .bf16 (matmul dot_S256x256_S256x256_S256x256_1_0_0_1_n_n none
    (truncf .bf16 (divf e (broadcastTo S256x256 (shapeCast S256x1 (multiReduction .add [1] S256 e 0x00000000#32 reduces_S256x256_S256 (.inl rfl) rfl) shapeCasts_S256_S256x1) broadcasts_S256x1_S256x256)) bitsLt_bf16_f32)
    v (constant S256x256 .f32 0x00000000#32)) bitsLt_bf16_f32

theorem mixed_at (q k v : FVec Ideal S256x256 .bf16) (r l : Fin 256) :
    mixed (expd (scores q k)) v (ix2 r l) = ∑ m : Fin 256, soft (fun m => ∑ e : Fin 256, q (ix2 r e) * k (ix2 m e)) m * v (ix2 m l) := by
  pointwise [mixed, expd, scores]
  rfl

/-- The block's queries, scaled. -/
def query (x : FVec Ideal S256x1024 .bf16) (w : FVec Ideal S1024x1024 .bf16) : FVec Ideal S256x1024 .bf16 :=
  truncf .bf16 (mulf (matmul dot_S256x1024_S1024x1024_S256x1024_1_0_0_1_n_n none x w (constant S256x1024 .f32 0x00000000#32)) (broadcast S256x1024 (Scalar.ofBits .f32 0x3D800000#32))) bitsLt_bf16_f32

theorem query_at (x : FVec Ideal S256x1024 .bf16) (w : FVec Ideal S1024x1024 .bf16) (r : Fin 256) (l : Fin 1024) :
    query x w (ix2 r l) = (∑ y : Fin 1024, x (ix2 r y) * w (ix2 y l)) * scale := by
  pointwise [query]
  rfl

section
variable (x0 : FVec Ideal S256x1024 .bf16) (x1 : FVec Ideal S256x1024 .f32) (x2 x3 : FVec Ideal S256x1024 .bf16) (x4 x5 : FVec Ideal S1024x1024 .bf16)
  (x6 x7 : FVec Ideal S1x1024 .f32)

theorem pay13 : k0_pay13 (F := Ideal) x0 x1 x2 x3 x4 x5 x6 x7 = mixed (expd (scores
    (extractStridedSlice S256x256 ![0, 0] (query (View.ld (x0 : Vec Ideal S256x1024 .bf16) r0_0 : Vec Ideal S256x1024 .bf16) (View.ld (x4 : Vec Ideal S1024x1024 .bf16) r0_1 : Vec Ideal S1024x1024 .bf16)) slices_S256x1024_o0_0_S256x256) (View.ld (x2 : Vec Ideal S256x1024 .bf16) r0_2 : Vec Ideal S256x256 .bf16))) (View.ld (x3 : Vec Ideal S256x1024 .bf16) r0_2 : Vec Ideal S256x256 .bf16) := by
  unfold k0_pay13 k0_pay9 k0_pay6 k0_pay3
  simp only [shapeCast_self]
  rfl
theorem pay14 : k0_pay14 (F := Ideal) x0 x1 x2 x3 x4 x5 x6 x7 = mixed (expd (scores
    (extractStridedSlice S256x256 ![0, 256] (query (View.ld (x0 : Vec Ideal S256x1024 .bf16) r0_0 : Vec Ideal S256x1024 .bf16) (View.ld (x4 : Vec Ideal S1024x1024 .bf16) r0_1 : Vec Ideal S1024x1024 .bf16)) slices_S256x1024_o0_256_S256x256) (View.ld (x2 : Vec Ideal S256x1024 .bf16) r0_3 : Vec Ideal S256x256 .bf16))) (View.ld (x3 : Vec Ideal S256x1024 .bf16) r0_3 : Vec Ideal S256x256 .bf16) := by
  unfold k0_pay14 k0_pay10 k0_pay7 k0_pay3
  simp only [shapeCast_self]
  rfl
theorem pay15 : k0_pay15 (F := Ideal) x0 x1 x2 x3 x4 x5 x6 x7 = mixed (expd (scores
    (extractStridedSlice S256x256 ![0, 512] (query (View.ld (x0 : Vec Ideal S256x1024 .bf16) r0_0 : Vec Ideal S256x1024 .bf16) (View.ld (x4 : Vec Ideal S1024x1024 .bf16) r0_1 : Vec Ideal S1024x1024 .bf16)) slices_S256x1024_o0_512_S256x256) (View.ld (x2 : Vec Ideal S256x1024 .bf16) r0_4 : Vec Ideal S256x256 .bf16))) (View.ld (x3 : Vec Ideal S256x1024 .bf16) r0_4 : Vec Ideal S256x256 .bf16) := by
  unfold k0_pay15 k0_pay11 k0_pay8 k0_pay4 k0_pay3
  simp only [shapeCast_self]
  rfl
theorem pay16 : k0_pay16 (F := Ideal) x0 x1 x2 x3 x4 x5 x6 x7 = mixed (expd (scores
    (extractStridedSlice S256x256 ![0, 768] (query (View.ld (x0 : Vec Ideal S256x1024 .bf16) r0_0 : Vec Ideal S256x1024 .bf16) (View.ld (x4 : Vec Ideal S1024x1024 .bf16) r0_1 : Vec Ideal S1024x1024 .bf16)) slices_S256x1024_o0_768_S256x256) (View.ld (x2 : Vec Ideal S256x1024 .bf16) r0_5 : Vec Ideal S256x256 .bf16))) (View.ld (x3 : Vec Ideal S256x1024 .bf16) r0_5 : Vec Ideal S256x256 .bf16) := by
  unfold k0_pay16 k0_pay12 k0_pay5 k0_pay3
  simp only [shapeCast_self]
  rfl

/-- A head of the block, at one of its lanes. -/
def lanes (h : Fin 4) (r l : Fin 256) : EReal :=
  ∑ m : Fin 256, soft (fun m => (∑ e : Fin 256, (∑ y : Fin 1024, x0 (ix2 r y) * x4 (ix2 y ⟨256 * h.val + e.val, by omega⟩)) * x2 (ix2 m ⟨256 * h.val + e.val, by omega⟩)) * scale) m
    * x3 (ix2 m ⟨256 * h.val + l.val, by omega⟩)

theorem lanes0 (r l : Fin 256) : k0_pay13 (F := Ideal) x0 x1 x2 x3 x4 x5 x6 x7 (ix2 r l) = lanes x0 x2 x3 x4 0 r l := by
  rw [pay13, mixed_at]
  simp only [lanes, ← scaled]
  pointwise [query_at]
theorem lanes1 (r l : Fin 256) : k0_pay14 (F := Ideal) x0 x1 x2 x3 x4 x5 x6 x7 (ix2 r l) = lanes x0 x2 x3 x4 1 r l := by
  rw [pay14, mixed_at]
  simp only [lanes, ← scaled]
  pointwise [query_at]
theorem lanes2 (r l : Fin 256) : k0_pay15 (F := Ideal) x0 x1 x2 x3 x4 x5 x6 x7 (ix2 r l) = lanes x0 x2 x3 x4 2 r l := by
  rw [pay15, mixed_at]
  simp only [lanes, ← scaled]
  pointwise [query_at]
theorem lanes3 (r l : Fin 256) : k0_pay16 (F := Ideal) x0 x1 x2 x3 x4 x5 x6 x7 (ix2 r l) = lanes x0 x2 x3 x4 3 r l := by
  rw [pay16, mixed_at]
  simp only [lanes, ← scaled]
  pointwise [query_at]

end

/-- Four heads side by side. -/
def beside (a b c d : FVec Ideal S256x256 .bf16) : FVec Ideal S256x1024 .bf16 :=
  concatenate S256x1024 1 [⟨S256x256, a⟩, ⟨S256x256, b⟩, ⟨S256x256, c⟩, ⟨S256x256, d⟩] concatenates_S256x256_S256x256_S256x256_S256x256_S256x1024_d1

theorem beside_at (a b c d : FVec Ideal S256x256 .bf16) (f : Fin 4 → Fin 256 → Fin 256 → EReal)
    (h0 : ∀ r l, a (ix2 r l) = f 0 r l) (h1 : ∀ r l, b (ix2 r l) = f 1 r l) (h2 : ∀ r l, c (ix2 r l) = f 2 r l) (h3 : ∀ r l, d (ix2 r l) = f 3 r l)
    (r : Fin 256) (l : Fin 1024) : beside a b c d (ix2 r l) = f ⟨l.val / 256, by omega⟩ r ⟨l.val % 256, by omega⟩ := by
  pointwise [beside, h0, h1, h2, h3]
  have e : ∀ i i' j j', i = i' → j = j' → f i r j = f i' r j' := by
    rintro _ _ _ _ rfl rfl
    rfl
  have hl := l.isLt
  by_cases p0 : l.val < 256
  · rw [dif_pos p0]
    exact e _ _ _ _ (Fin.ext (show 0 = l.val / 256 by omega)) (Fin.ext (show l.val = l.val % 256 by omega))
  rw [dif_neg p0]
  by_cases p1 : l.val - 256 < 256
  · rw [dif_pos p1]
    exact e _ _ _ _ (Fin.ext (show 1 = l.val / 256 by omega)) (Fin.ext (show l.val - 256 = l.val % 256 by omega))
  rw [dif_neg p1]
  by_cases p2 : l.val - 256 - 256 < 256
  · rw [dif_pos p2]
    exact e _ _ _ _ (Fin.ext (show 2 = l.val / 256 by omega)) (Fin.ext (show l.val - 256 - 256 = l.val % 256 by omega))
  rw [dif_neg p2]
  exact e _ _ _ _ (Fin.ext (show 3 = l.val / 256 by omega)) (Fin.ext (show l.val - 256 - 256 - 256 = l.val % 256 by omega))

theorem pay_eq (v0 v1 v2 v3 : FVec Ideal S256x256 .bf16) (x : FVec Ideal S256x1024 .f32) (w : FVec Ideal S1024x1024 .bf16) (g b : FVec Ideal S1x1024 .f32) :
    k0_pay1 v0 v1 v2 v3 x w g b =
      normed (addf (mulf (broadcast S256x1024 (Scalar.ofBits .f32 0x3FD744FD#32)) x)
        (matmul dot_S256x1024_S1024x1024_S256x1024_1_0_0_1_n_n none (beside v0 v1 v2 v3) w (constant S256x1024 .f32 0x00000000#32))) g b := by
  unfold k0_pay1
  simp only [shapeCast_self]
  rfl

variable (m : (ℓ : Loc nD τ sig) → Buf (Elt Ideal) ℓ)

/-- What a point stores, by the rows, keys, values and weights it reads. -/
theorem pay_at (x0 : FVec Ideal S256x1024 .bf16) (x1 : FVec Ideal S256x1024 .f32) (x2 x3 : FVec Ideal S256x1024 .bf16) (x4 x5 : FVec Ideal S1024x1024 .bf16)
    (x6 x7 : FVec Ideal S1x1024 .f32) (r : Fin 256) (l : Fin 1024) :
    k0_pay1 (F := Ideal) (k0_pay13 x0 x1 x2 x3 x4 x5 x6 x7) (k0_pay14 x0 x1 x2 x3 x4 x5 x6 x7) (k0_pay15 x0 x1 x2 x3 x4 x5 x6 x7) (k0_pay16 x0 x1 x2 x3 x4 x5 x6 x7)
        (View.ld (x1 : Vec Ideal S256x1024 .f32) r0_0) (View.ld (x5 : Vec Ideal S1024x1024 .bf16) r0_1) (View.ld (x6 : Vec Ideal S1x1024 .f32) r0_6) (View.ld (x7 : Vec Ideal S1x1024 .f32) r0_6) (ix2 r l) =
      norm (fun y => alpha * x1 (ix2 r y) + ∑ d : Fin 1024, lanes x0 x2 x3 x4 ⟨d.val / 256, by omega⟩ r ⟨d.val % 256, by omega⟩ * x5 (ix2 d y))
        (x6 (ix2 0 l)) (x7 (ix2 0 l)) l := by
  rw [pay_eq, normed_at]
  have h := beside_at _ _ _ _ (lanes x0 x2 x3 x4) (lanes0 x0 x1 x2 x3 x4 x5 x6 x7) (lanes1 x0 x1 x2 x3 x4 x5 x6 x7) (lanes2 x0 x1 x2 x3 x4 x5 x6 x7) (lanes3 x0 x1 x2 x3 x4 x5 x6 x7)
  have e : ∀ y : Fin 1024, (addf (mulf (broadcast S256x1024 (Scalar.ofBits .f32 0x3FD744FD#32)) (View.ld (x1 : Vec Ideal S256x1024 .f32) r0_0 : Vec Ideal S256x1024 .f32))
        (matmul (φ₂ := .bf16) dot_S256x1024_S1024x1024_S256x1024_1_0_0_1_n_n none
          (beside (k0_pay13 x0 x1 x2 x3 x4 x5 x6 x7) (k0_pay14 x0 x1 x2 x3 x4 x5 x6 x7) (k0_pay15 x0 x1 x2 x3 x4 x5 x6 x7) (k0_pay16 x0 x1 x2 x3 x4 x5 x6 x7))
          (View.ld (x5 : Vec Ideal S1024x1024 .bf16) r0_1 : Vec Ideal S1024x1024 .bf16) (constant S256x1024 .f32 0x00000000#32)) : FVec Ideal S256x1024 .f32) (ix2 r y)
      = alpha * x1 (ix2 r y) + ∑ d : Fin 1024, lanes x0 x2 x3 x4 ⟨d.val / 256, by omega⟩ r ⟨d.val % 256, by omega⟩ * x5 (ix2 d y) := by
    intro y
    pointwise [h]
    rfl
  rw [funext e]
  pointwise

def flat (x : FVec Ideal S8x2048x1024 .f32) : FVec Ideal S16384x1024 .f32 := shapeCast S16384x1024 x shapeCasts_S8x2048x1024_S16384x1024
def keys (k : FVec Ideal S8x256x4x256 .f32) : FVec Ideal S2048x1024 .f32 := shapeCast S2048x1024 k shapeCasts_S8x256x4x256_S2048x1024
def line (g : FVec Ideal S1024 .f32) : FVec Ideal S1x1024 .f32 := broadcastInDim S1x1024 ![1] bcast_S1024_S1x1024_1 g

theorem V_v0 (c : Dev nD) : V m c main_v0 = flat (m ((c.tc : Thread nD τ).loc main_arg0)) := by
  simp only [V, hostOps0]
  after_results_simp <;> rfl
theorem V_v1 (c : Dev nD) : V m c main_v1 = truncf (F := Ideal) .bf16 (flat (m ((c.tc : Thread nD τ).loc main_arg0))) bitsLt_bf16_f32 := by
  simp only [V, hostOps0]
  after_results_simp <;> rfl
theorem V_v3 (c : Dev nD) : V m c main_v3 = truncf (F := Ideal) .bf16 (keys (m ((c.tc : Thread nD τ).loc main_arg1))) bitsLt_bf16_f32 := by
  simp only [V, hostOps0]
  after_results_simp <;> rfl
theorem V_v5 (c : Dev nD) : V m c main_v5 = truncf (F := Ideal) .bf16 (keys (m ((c.tc : Thread nD τ).loc main_arg2))) bitsLt_bf16_f32 := by
  simp only [V, hostOps0]
  after_results_simp <;> rfl
theorem V_v6 (c : Dev nD) : V m c main_v6 = truncf (F := Ideal) (s := S1024x1024) .bf16 (m ((c.tc : Thread nD τ).loc main_arg3)) bitsLt_bf16_f32 := by
  simp only [V, hostOps0]
  after_results_simp <;> rfl
theorem V_v7 (c : Dev nD) : V m c main_v7 = truncf (F := Ideal) (s := S1024x1024) .bf16 (m ((c.tc : Thread nD τ).loc main_arg4)) bitsLt_bf16_f32 := by
  simp only [V, hostOps0]
  after_results_simp <;> rfl
theorem V_v8 (c : Dev nD) : V m c main_v8 = line (m ((c.tc : Thread nD τ).loc main_arg5)) := by
  simp only [V, hostOps0]
  after_results_simp <;> rfl
theorem V_v9 (c : Dev nD) : V m c main_v9 = line (m ((c.tc : Thread nD τ).loc main_arg6)) := by
  simp only [V, hostOps0]
  after_results_simp <;> rfl

theorem flat_at (x : FVec Ideal S8x2048x1024 .f32) (r : Fin 16384) (l : Fin 1024) :
    flat x (ix2 r l) = x (ix3 (⟨r.val / 2048, by omega⟩ : Fin 8) (⟨r.val % 2048, by omega⟩ : Fin 2048) l) := by
  pointwise [flat]
theorem keys_at (k : FVec Ideal S8x256x4x256 .f32) (b : Fin 8) (m : Fin 256) (h : Fin 4) (e : Fin 256) :
    keys k (ix2 ⟨256 * b.val + m.val, by omega⟩ ⟨256 * h.val + e.val, by omega⟩) = k (ix4 b m h e) := by
  pointwise [keys]
theorem line_at (g : FVec Ideal S1024 .f32) (l : Fin 1024) : line g (ix2 0 l) = g (ix1 l) := by
  pointwise [line]

theorem idx : ∀ t : Fin cfg0.N,
    win0_0.index t = ![t.val, 0] ∧ win0_1.index t = ![t.val, 0] ∧ win0_2.index t = ![t.val / 8, 0] ∧ win0_3.index t = ![t.val / 8, 0] ∧
    win0_4.index t = ![0, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)

theorem tlt (t : Fin cfg0.N) : t.val < 64 := t.isLt

/-- The row of the stream that a block's row is. -/
def row (t : Fin cfg0.N) (r : Fin 256) : Fin 16384 := ⟨256 * t.val + r.val, by have := tlt t; omega⟩

/-- The sequence that a block belongs to. -/
def seqOf (t : Fin cfg0.N) : Fin 8 := ⟨t.val / 8, by have := tlt t; omega⟩

/-- The row of the memory that a block's row is. -/
def tok (t : Fin cfg0.N) (r : Fin 256) : Fin 2048 := ⟨256 * (seqOf t).val + r.val, by omega⟩

theorem emb0 (t : Fin cfg0.N) (r : Fin 256) (l : Fin 1024) : ((cfg0.win 0).blk t).view.emb (ix2 r l) = (ix2 (row t r) l : S16384x1024.Idx) := by
  blk_ext [idx t, row]
theorem emb1 (t : Fin cfg0.N) (r : Fin 256) (l : Fin 1024) : ((cfg0.win 1).blk t).view.emb (ix2 r l) = (ix2 (row t r) l : S16384x1024.Idx) := by
  blk_ext [idx t, row]
theorem emb2 (t : Fin cfg0.N) (r : Fin 256) (l : Fin 1024) : ((cfg0.win 2).blk t).view.emb (ix2 r l) = (ix2 (tok t r) l : S2048x1024.Idx) := by
  blk_ext [idx t, tok, seqOf]
theorem emb3 (t : Fin cfg0.N) (r : Fin 256) (l : Fin 1024) : ((cfg0.win 3).blk t).view.emb (ix2 r l) = (ix2 (tok t r) l : S2048x1024.Idx) := by
  blk_ext [idx t, tok, seqOf]
theorem emb4 (t : Fin cfg0.N) (r l : Fin 1024) : ((cfg0.win 4).blk t).view.emb (ix2 r l) = (ix2 r l : S1024x1024.Idx) := by
  blk_ext [idx t]
theorem emb5 (t : Fin cfg0.N) (r l : Fin 1024) : ((cfg0.win 5).blk t).view.emb (ix2 r l) = (ix2 r l : S1024x1024.Idx) := by
  blk_ext [idx t]
theorem emb6 (t : Fin cfg0.N) (l : Fin 1024) : ((cfg0.win 6).blk t).view.emb (ix2 0 l) = (ix2 0 l : S1x1024.Idx) := by
  blk_ext [idx t]
theorem emb7 (t : Fin cfg0.N) (l : Fin 1024) : ((cfg0.win 7).blk t).view.emb (ix2 0 l) = (ix2 0 l : S1x1024.Idx) := by
  blk_ext [idx t]
theorem emb8 (t : Fin cfg0.N) (r : Fin 256) (l : Fin 1024) : ((cfg0.win 8).blk t).view.emb (ix2 r l) = (ix2 (row t r) l : S16384x1024.Idx) := by
  blk_ext [idx t, row]
theorem emb9 (t : Fin cfg0.N) (r : Fin 256) (l : Fin 1024) : ((cfg0.win 9).blk t).view.emb (ix2 r l) = (ix2 (row t r) l : S16384x1024.Idx) := by
  blk_ext [idx t, row]

section
variable (c : Dev nD) (t : Fin cfg0.N)

theorem iblk0 (r : Fin 256) (l : Fin 1024) : iblk m c 0 t (ix2 r l) = flat (m ((c.tc : Thread nD τ).loc main_arg0)) (ix2 (row t r) l) :=
  (congrArg (V m c main_v1) (emb0 t r l)).trans (by rw [V_v1]; rfl)
theorem iblk1 (r : Fin 256) (l : Fin 1024) : iblk m c 1 t (ix2 r l) = flat (m ((c.tc : Thread nD τ).loc main_arg0)) (ix2 (row t r) l) :=
  (congrArg (V m c main_v0) (emb1 t r l)).trans (by rw [V_v0])
theorem iblk2 (r : Fin 256) (h : Fin 4) (e : Fin 256) : iblk m c 2 t (ix2 r ⟨256 * h.val + e.val, by omega⟩) = (m ((c.tc : Thread nD τ).loc main_arg1) : FVec Ideal S8x256x4x256 .f32) (ix4 (seqOf t) r h e) :=
  (congrArg (V m c main_v3) (emb2 t r _)).trans (by rw [V_v3]; exact keys_at _ (seqOf t) r h e)
theorem iblk3 (r : Fin 256) (h : Fin 4) (e : Fin 256) : iblk m c 3 t (ix2 r ⟨256 * h.val + e.val, by omega⟩) = (m ((c.tc : Thread nD τ).loc main_arg2) : FVec Ideal S8x256x4x256 .f32) (ix4 (seqOf t) r h e) :=
  (congrArg (V m c main_v5) (emb3 t r _)).trans (by rw [V_v5]; exact keys_at _ (seqOf t) r h e)
theorem iblk4 (r l : Fin 1024) : iblk m c 4 t (ix2 r l) = (m ((c.tc : Thread nD τ).loc main_arg3) : FVec Ideal S1024x1024 .f32) (ix2 r l) :=
  (congrArg (V m c main_v6) (emb4 t r l)).trans (by rw [V_v6]; rfl)
theorem iblk5 (r l : Fin 1024) : iblk m c 5 t (ix2 r l) = (m ((c.tc : Thread nD τ).loc main_arg4) : FVec Ideal S1024x1024 .f32) (ix2 r l) :=
  (congrArg (V m c main_v7) (emb5 t r l)).trans (by rw [V_v7]; rfl)
theorem iblk6 (l : Fin 1024) : iblk m c 6 t (ix2 0 l) = line (m ((c.tc : Thread nD τ).loc main_arg5)) (ix2 0 l) :=
  (congrArg (V m c main_v8) (emb6 t l)).trans (by rw [V_v8])
theorem iblk7 (l : Fin 1024) : iblk m c 7 t (ix2 0 l) = line (m ((c.tc : Thread nD τ).loc main_arg6)) (ix2 0 l) :=
  (congrArg (V m c main_v9) (emb7 t l)).trans (by rw [V_v9])

/-- What the kernel leaves, by its arguments. -/
abbrev RES : FVec Ideal S16384x1024 .f32 :=
  OUT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- What a point stores. -/
abbrev stored : FVec Ideal S256x1024 .f32 :=
  k0_pay1 (F := Ideal) (k0_pay13 (iblk m c 0 t) (iblk m c 1 t) (iblk m c 2 t) (iblk m c 3 t) (iblk m c 4 t) (iblk m c 5 t) (iblk m c 6 t) (iblk m c 7 t)) (k0_pay14 (iblk m c 0 t) (iblk m c 1 t) (iblk m c 2 t) (iblk m c 3 t) (iblk m c 4 t) (iblk m c 5 t) (iblk m c 6 t) (iblk m c 7 t)) (k0_pay15 (iblk m c 0 t) (iblk m c 1 t) (iblk m c 2 t) (iblk m c 3 t) (iblk m c 4 t) (iblk m c 5 t) (iblk m c 6 t) (iblk m c 7 t)) (k0_pay16 (iblk m c 0 t) (iblk m c 1 t) (iblk m c 2 t) (iblk m c 3 t) (iblk m c 4 t) (iblk m c 5 t) (iblk m c 6 t) (iblk m c 7 t))
    (View.ld (iblk m c 1 t : Vec Ideal S256x1024 .f32) r0_0) (View.ld (iblk m c 5 t : Vec Ideal S1024x1024 .bf16) r0_1) (View.ld (iblk m c 6 t : Vec Ideal S1x1024 .f32) r0_6) (View.ld (iblk m c 7 t : Vec Ideal S1x1024 .f32) r0_6)

/-- A block's sequence and position by its row. -/
theorem row_seq (r : Fin 256) : (⟨(row t r).val / 2048, by omega⟩ : Fin 8) = seqOf t := Fin.ext (by
  show (256 * t.val + r.val) / 2048 = t.val / 8
  omega)

theorem lanes_at (r : Fin 256) (h : Fin 4) (l : Fin 256) : lanes (iblk m c 0 t) (iblk m c 2 t) (iblk m c 3 t) (iblk m c 4 t) h r l =
    head (fun e => (m ((c.tc : Thread nD τ).loc main_arg0) : FVec Ideal S8x2048x1024 .f32) (ix3 (seqOf t) ⟨(row t r).val % 2048, by omega⟩ e))
      (m ((c.tc : Thread nD τ).loc main_arg1)) (m ((c.tc : Thread nD τ).loc main_arg2)) (m ((c.tc : Thread nD τ).loc main_arg3)) (seqOf t) h l := by
  simp only [lanes, iblk0, iblk2, iblk3, iblk4, flat_at, row_seq]
  rfl

theorem point (r : Fin 256) (l : Fin 1024) : stored m c t (ix2 r l) = RES m c (ix2 (row t r) l) := by
  refine (pay_at (iblk m c 0 t) (iblk m c 1 t) (iblk m c 2 t) (iblk m c 3 t) (iblk m c 4 t) (iblk m c 5 t) (iblk m c 6 t) (iblk m c 7 t) r l).trans ?_
  simp only [lanes_at, iblk1, iblk5, iblk6, iblk7, flat_at, line_at, row_seq]
  simp only [RES, OUT, out]
  rw [show (⟨((ix2 (row t r) l : S16384x1024.Idx) 0).val / 2048, by have : ((ix2 (row t r) l : S16384x1024.Idx) 0).val < 16384 := ((ix2 (row t r) l : S16384x1024.Idx) 0).isLt; omega⟩ : Fin 8) = seqOf t from row_seq t r]
  rfl
end

theorem final8 (c : Dev nD) : (dats m 0 c).arrAt 8 cfg0.N = RES m c := by
  refine (dats m 0 c).arrAt_eq_of_covers 8 _ (by decide +kernel) fun t _ y => ?_
  blk_simp
  rw [after0_8]
  have h : ∀ y : S256x1024.Idx, out0_8 (iblk m c 0 t) (iblk m c 1 t) (iblk m c 2 t) (iblk m c 3 t) (iblk m c 4 t) (iblk m c 5 t) (iblk m c 6 t) (iblk m c 7 t) y =
      RES m c (((cfg0.win 8).blk t).view.emb y) := by
    have h : ∀ (r : Fin 256) (l : Fin 1024), out0_8 (iblk m c 0 t) (iblk m c 1 t) (iblk m c 2 t) (iblk m c 3 t) (iblk m c 4 t) (iblk m c 5 t) (iblk m c 6 t) (iblk m c 7 t) (ix2 r l) =
        RES m c (((cfg0.win 8).blk t).view.emb (ix2 r l)) := by
      intro r l
      rw [out0_8, View.canon_cons_unit_lit _ _ _ (by decide), emb8]
      exact point m c t r l
    intro y
    rw [eq_ix2 y]
    exact h _ _
  exact h y

theorem final9 (c : Dev nD) : (dats m 0 c).arrAt 9 cfg0.N = truncf (F := Ideal) .bf16 (RES m c) bitsLt_bf16_f32 := by
  refine (dats m 0 c).arrAt_eq_of_covers 9 _ (by decide +kernel) fun t _ y => ?_
  blk_simp
  rw [after0_9]
  have h : ∀ y : S256x1024.Idx, out0_9 (iblk m c 0 t) (iblk m c 1 t) (iblk m c 2 t) (iblk m c 3 t) (iblk m c 4 t) (iblk m c 5 t) (iblk m c 6 t) (iblk m c 7 t) y =
      RES m c (((cfg0.win 9).blk t).view.emb y) := by
    have h : ∀ (r : Fin 256) (l : Fin 1024), out0_9 (iblk m c 0 t) (iblk m c 1 t) (iblk m c 2 t) (iblk m c 3 t) (iblk m c 4 t) (iblk m c 5 t) (iblk m c 6 t) (iblk m c 7 t) (ix2 r l) =
        RES m c (((cfg0.win 9).blk t).view.emb (ix2 r l)) := by
      intro r l
      rw [out0_9, View.canon_cons_unit_lit _ _ _ (by decide), emb9]
      exact point m c t r l
    intro y
    rw [eq_ix2 y]
    exact h _ _
  exact h y

end Cert.Kernel3Ideal.Read

end
-- ==== Proof.MemRef.lean ====
/-
  The cross-attention's reference read entry by entry.
-/
module

public import proofs.«01_k».proof.Proof.Gen.Reference3Ideal.Run
public import proofs.«01_k».proof.Proof.Mem

@[expose] public section

set_option maxRecDepth 16384

noncomputable section

namespace Cert.Reference3Ideal.Read

open Cert.Reference3Ideal Cert.Reference3Ideal.Gen Cert.Rows Cert.Mem
open Idealize.ShloMosaic Idealize.ShloMosaic.TcCoe Idealize.SL.Sem

abbrev Stream : Type := FVec Ideal S8x2048x1024 .f32
abbrev Scores : Type := FVec Ideal S8x4x2048x256 .f32

/-- The mean of each row. -/
def mean3 (x : Stream) : FVec Ideal S8x2048x1 .f32 :=
  Host.divf (broadcastInDim S8x2048x1 ![0, 1] bcast_S8x2048_S8x2048x1_0_1 (Host.reduceAdd x (constant (F := Ideal) S_ .f32 0x00000000#32) reducesTo_S8x2048x1024_S8x2048_d2 h_S_))
    (broadcastInDim S8x2048x1 ![] bcast_S_S8x2048x1 (constant (F := Ideal) S_ .f32 0x44800000#32))

def spread (x : FVec Ideal S8x2048x1 .f32) : Stream := broadcastInDim S8x2048x1024 ![0, 1, 2] bcast_S8x2048x1_S8x2048x1024_0_1_2 x

def lane (g : FVec Ideal S1024 .f32) : Stream :=
  broadcastInDim S8x2048x1024 ![0, 1, 2] bcast_S1x1x1024_S8x2048x1024_0_1_2 (broadcastInDim S1x1x1024 ![2] bcast_S1024_S1x1x1024_2 g)

/-- The layer norm, as the reference takes it. -/
def normed (x : Stream) (g b : FVec Ideal S1024 .f32) : Stream :=
  addf (mulf (mulf (subf x (spread (mean3 x)))
    (spread (Host.rsqrt (addf (mean3 (mulf (subf x (spread (mean3 x))) (subf x (spread (mean3 x))))) (broadcastInDim S8x2048x1 ![] bcast_S_S8x2048x1 (constant (F := Ideal) S_ .f32 0x3727C5AC#32))))))
    (lane g)) (lane b)

def along (x : FVec Ideal S8x4x2048 .f32) : Scores :=
  broadcastInDim S8x4x2048x256 ![0, 1, 2, 3] bcast_S8x4x2048x1_S8x4x2048x256_0_1_2_3 (broadcastInDim S8x4x2048x1 ![0, 1, 2] bcast_S8x4x2048_S8x4x2048x1_0_1_2 x)

/-- The scores of the memory tokens. -/
def scores (x : Stream) (k : FVec Ideal S8x256x4x256 .f32) (wq : FVec Ideal S1024x1024 .f32) : Scores :=
  mulf (Host.dotGeneral dot_S8x2048x4x256_S8x256x4x256_S8x4x2048x256_3_3_1_1_02_02 none
      (shapeCast S8x2048x4x256 (Host.dotGeneral dot_S8x2048x1024_S1024x1024_S8x2048x1024_2_0_01_1_n_n none x wq) shapeCasts_S8x2048x1024_S8x2048x4x256) k)
    (broadcastInDim S8x4x2048x256 ![] bcast_S_S8x4x2048x256 (constant (F := Ideal) S_ .f32 0x3D800000#32))

/-- The largest score of each query. -/
def tops (s : Scores) : FVec Ideal S8x4x2048 .f32 :=
  Host.reduce FloatOps.maximumf s (constant (F := Ideal) S_ .f32 0xFF800000#32) reducesTo_S8x4x2048x256_S8x4x2048_d3 h_S_

/-- The same, kept above minus infinity. -/
def capped (s : Scores) : FVec Ideal S8x4x2048 .f32 :=
  maximumf (broadcastInDim S8x4x2048 ![] bcast_S_S8x4x2048 (constant (F := Ideal) S_ .f32 0xFF800000#32)) (tops s)

/-- The softmax, unnormalised. -/
def expd (s : Scores) : Scores := Host.exp (subf s (along (capped s)))

/-- What the heads read from the memory, side by side. -/
def mixed (e : Scores) (v : FVec Ideal S8x256x4x256 .f32) : Stream :=
  shapeCast S8x2048x1024 (transpose S8x2048x4x256 [0, 3, 1, 2] (Host.dotGeneral dot_S8x256x4x256_S8x4x2048x256_S8x4x256x2048_1_3_3_2_02_01 none v
      (Host.divf e (along (Host.reduceAdd e (constant (F := Ideal) S_ .f32 0x00000000#32) reducesTo_S8x4x2048x256_S8x4x2048_d3 h_S_))))
    transposes_S8x4x256x2048_S8x2048x4x256_0_3_1_2) shapeCasts_S8x2048x4x256_S8x2048x1024

/-- The residual with the cross-attention added. -/
def sum3 (x : Stream) (k v : FVec Ideal S8x256x4x256 .f32) (wq wo : FVec Ideal S1024x1024 .f32) : Stream :=
  addf (mulf (broadcastInDim S8x2048x1024 ![] bcast_S_S8x2048x1024 (constant (F := Ideal) S_ .f32 0x3FD744FD#32)) x)
    (Host.dotGeneral dot_S8x2048x1024_S1024x1024_S8x2048x1024_2_0_01_1_n_n none (mixed (expd (scores x k wq)) v) wo)

def REF (x : Stream) (k v : FVec Ideal S8x256x4x256 .f32) (wq wo : FVec Ideal S1024x1024 .f32) (g b : FVec Ideal S1024 .f32) : FVec Ideal S16384x1024 .f32 :=
  shapeCast S16384x1024 (normed (sum3 x k v wq wo) g b) shapeCasts_S8x2048x1024_S16384x1024

theorem res0 (m : (ℓ : Loc nD τ sig) → Buf (Elt Ideal) ℓ) (c : Dev nD) :
    Value.res_main_v47 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem res1 (m : (ℓ : Loc nD τ sig) → Buf (Elt Ideal) ℓ) (c : Dev nD) :
    Value.res_main_v48 m c = truncf (F := Ideal) .bf16 (REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) bitsLt_bf16_f32 := rfl

theorem normed_at (x : Stream) (g h : FVec Ideal S1024 .f32) (b : Fin 8) (p : Fin 2048) (l : Fin 1024) :
    normed x g h (ix3 b p l) = norm (fun y => x (ix3 b p y)) (g (ix1 l)) (h (ix1 l)) l := by
  pointwise [normed, mean3, spread, lane]
  rfl

theorem scores_at (x : Stream) (k : FVec Ideal S8x256x4x256 .f32) (wq : FVec Ideal S1024x1024 .f32) (b : Fin 8) (h : Fin 4) (p : Fin 2048) (m : Fin 256) :
    scores x k wq (ix4 b h p m) = (∑ e : Fin 256, (∑ y : Fin 1024, x (ix3 b p y) * wq (ix2 y ⟨256 * h.val + e.val, by omega⟩)) * k (ix4 b m h e)) * scale := by
  pointwise [scores]
  simp only [Nat.mul_comm _ 256]
  rfl

theorem top_self (f : Fin 256 → EReal) : max (Ideal.ofBits .f32 0xFF800000#32) (top f) = top f :=
  max_eq_right (Finset.le_fold_max _ |>.2 (Or.inl le_rfl))

theorem tops_at (s : Scores) (b : Fin 8) (h : Fin 4) (p : Fin 2048) : tops s (ix3 b h p) = top fun m => s (ix4 b h p m) := by
  unfold tops
  rw [Host.reduce_eq_fold_single _ _ _ _ (by decide : S8x4x2048x256.Reduces [3] S8x4x2048)]
  unfold top
  refine congrArg (fun f => Finset.fold max _ f _) (funext fun k => congrArg s ?_)
  funext a
  fin_cases a <;> rfl

theorem cap_at (i : S8x4x2048.Idx) :
    broadcastInDim S8x4x2048 ![] bcast_S_S8x4x2048 (constant (F := Ideal) S_ .f32 0xFF800000#32) i = Ideal.ofBits .f32 0xFF800000#32 := by
  pointwise

theorem capped_max (s : Scores) (i : S8x4x2048.Idx) :
    capped s i = max (broadcastInDim S8x4x2048 ![] bcast_S_S8x4x2048 (constant (F := Ideal) S_ .f32 0xFF800000#32) i) (tops s i) := by
  unfold capped
  rw [maximumf_apply]
  exact Ideal.maximumf_def _ _

theorem capped_at (s : Scores) (b : Fin 8) (h : Fin 4) (p : Fin 2048) : capped s (ix3 b h p) = top fun m => s (ix4 b h p m) := by
  rw [capped_max, cap_at, tops_at, top_self]

theorem along_at (x : FVec Ideal S8x4x2048 .f32) (b : Fin 8) (h : Fin 4) (p : Fin 2048) (m : Fin 256) : along x (ix4 b h p m) = x (ix3 b h p) := by
  pointwise [along]

theorem expd_at (s : Scores) (b : Fin 8) (h : Fin 4) (p : Fin 2048) (m : Fin 256) :
    expd s (ix4 b h p m) = Ideal.exp (s (ix4 b h p m) - top fun m => s (ix4 b h p m)) := by
  unfold expd
  show Ideal.exp (s (ix4 b h p m) - along (capped s) (ix4 b h p m)) = _
  rw [along_at, capped_at]

theorem mixed_at (s : Scores) (v : FVec Ideal S8x256x4x256 .f32) (b : Fin 8) (p : Fin 2048) (d : Fin 1024) :
    mixed (expd s) v (ix3 b p d) = ∑ m : Fin 256, soft (fun m => s (ix4 b (⟨d.val / 256, by omega⟩ : Fin 4) p m)) m * v (ix4 b m (⟨d.val / 256, by omega⟩ : Fin 4) (⟨d.val % 256, by omega⟩ : Fin 256)) := by
  simp only [mul_comm (soft _ _)]
  pointwise [mixed, along, expd_at]
  rfl

theorem sum3_at (x : Stream) (k v : FVec Ideal S8x256x4x256 .f32) (wq wo : FVec Ideal S1024x1024 .f32) (b : Fin 8) (p : Fin 2048) (y : Fin 1024) :
    sum3 x k v wq wo (ix3 b p y) = alpha * x (ix3 b p y)
      + ∑ d : Fin 1024, head (fun e => x (ix3 b p e)) k v wq b ⟨d.val / 256, by omega⟩ ⟨d.val % 256, by omega⟩ * wo (ix2 d y) := by
  pointwise [sum3, mixed_at, scores_at]
  rfl

theorem REF_eq (x : Stream) (k v : FVec Ideal S8x256x4x256 .f32) (wq wo : FVec Ideal S1024x1024 .f32) (g b : FVec Ideal S1024 .f32) :
    REF x k v wq wo g b = OUT x k v wq wo g b := by
  funext i
  rw [eq_ix2 i]
  pointwise [REF, normed_at, sum3_at]
  rfl

theorem eq0 (x : Stream) (k v : FVec Ideal S8x256x4x256 .f32) (wq wo : FVec Ideal S1024x1024 .f32) (g b : FVec Ideal S1024 .f32) :
    REF x k v wq wo g b = OUT x k v wq wo g b := REF_eq x k v wq wo g b

theorem eq1 (x : Stream) (k v : FVec Ideal S8x256x4x256 .f32) (wq wo : FVec Ideal S1024x1024 .f32) (g b : FVec Ideal S1024 .f32) :
    truncf (F := Ideal) .bf16 (REF x k v wq wo g b) bitsLt_bf16_f32 = truncf (F := Ideal) .bf16 (OUT x k v wq wo g b) bitsLt_bf16_f32 :=
  congrArg (fun y => truncf (F := Ideal) .bf16 y bitsLt_bf16_f32) (REF_eq x k v wq wo g b)

end Cert.Reference3Ideal.Read

end
-- ==== Proof.Qkv.lean ====
/-
  The attention's projection: what the kernel leaves.
-/
module

public import proofs.«01_k».proof.Proof.Gen.Kernel4Ideal.Value
public import proofs.«01_k».proof.Proof.Rows

@[expose] public section

set_option maxRecDepth 16384

noncomputable section

namespace Cert.Qkv

open Idealize.ShloMosaic

/-- An entry of the projection: part `j` (queries, keys, values), head `h`, lane `e`, at position `p` of sequence `b`. -/
def entry (x : FVec Ideal ⟨3, ![8, 2048, 1024]⟩ .f32) (w : FVec Ideal ⟨2, ![1024, 3072]⟩ .f32) (a : FVec Ideal ⟨3, ![3, 16, 64]⟩ .f32)
    (b : Fin 8) (p : Fin 2048) (j : Fin 3) (h : Fin 16) (e : Fin 64) : EReal :=
  (∑ y : Fin 1024, x (ix3 b p y) * w (ix2 y ⟨1024 * j.val + (64 * h.val + e.val), by omega⟩)) + a (ix3 j h e)

/-- The scale of the queries. -/
def scale : EReal := Ideal.ofBits .f32 0x3E000000#32

/-- A part, by the row of the stream. -/
def ROWS (x : FVec Ideal ⟨3, ![8, 2048, 1024]⟩ .f32) (w : FVec Ideal ⟨2, ![1024, 3072]⟩ .f32) (a : FVec Ideal ⟨3, ![3, 16, 64]⟩ .f32) (j : Fin 3) :
    FVec Ideal ⟨2, ![16384, 1024]⟩ .bf16 := fun i =>
  entry x w a ⟨(i 0).val / 2048, by have : (i 0).val < 16384 := (i 0).isLt; omega⟩ ⟨(i 0).val % 2048, by omega⟩ j
    ⟨(i 1).val / 64, by have : (i 1).val < 1024 := (i 1).isLt; omega⟩ ⟨(i 1).val % 64, by omega⟩

/-- The queries, scaled. -/
def SCALED (x : FVec Ideal ⟨3, ![8, 2048, 1024]⟩ .f32) (w : FVec Ideal ⟨2, ![1024, 3072]⟩ .f32) (a : FVec Ideal ⟨3, ![3, 16, 64]⟩ .f32) :
    FVec Ideal ⟨2, ![16384, 1024]⟩ .bf16 := fun i => (ROWS x w a 0 i : EReal) * scale

/-- A part with the positions along the lanes. -/
def COLS (x : FVec Ideal ⟨3, ![8, 2048, 1024]⟩ .f32) (w : FVec Ideal ⟨2, ![1024, 3072]⟩ .f32) (a : FVec Ideal ⟨3, ![3, 16, 64]⟩ .f32) (j : Fin 3) :
    FVec Ideal ⟨3, ![8, 1024, 2048]⟩ .f32 := fun i =>
  entry x w a (i 0) (i 2) j ⟨(i 1).val / 64, by have : (i 1).val < 1024 := (i 1).isLt; omega⟩ ⟨(i 1).val % 64, by omega⟩

end Cert.Qkv

namespace Cert.Kernel4Ideal.Read

open Cert.Kernel4Ideal Cert.Kernel4Ideal.Gen Cert.Qkv
open Idealize.ShloMosaic Idealize.ShloMosaic.TcCoe Idealize.SL.Sem Idealize.ShloMosaic.StableHlo

variable (m : (ℓ : Loc nD τ sig) → Buf (Elt Ideal) ℓ)

/-- A product with its bias. -/
def slab (x : FVec Ideal S256x1024 .bf16) (w : FVec Ideal S1024x1024 .bf16) (a : FVec Ideal S1x1024 .f32) : FVec Ideal S256x1024 .f32 :=
  addf (matmul dot_S256x1024_S1024x1024_S256x1024_1_0_0_1_n_n none x w (constant S256x1024 .f32 0x00000000#32)) (broadcastTo S256x1024 a broadcasts_S1x1024_S256x1024)

theorem slab_at (x : FVec Ideal S256x1024 .bf16) (w : FVec Ideal S1024x1024 .bf16) (a : FVec Ideal S1x1024 .f32) (r : Fin 256) (l : Fin 1024) :
    slab x w a (ix2 r l) = (∑ y : Fin 1024, x (ix2 r y) * w (ix2 y l)) + a (ix2 0 l) := by
  pointwise [slab]

section
variable (x0 : FVec Ideal S256x1024 .bf16) (x1 : FVec Ideal S1024x3072 .bf16) (x2 : FVec Ideal S1x3072 .f32)

/-- A part of the block's rows. -/
def part (j : Fin 3) (r : Fin 256) (l : Fin 1024) : EReal :=
  (∑ y : Fin 1024, x0 (ix2 r y) * x1 (ix2 y ⟨1024 * j.val + l.val, by omega⟩)) + x2 (ix2 0 ⟨1024 * j.val + l.val, by omega⟩)

abbrev slab0 : FVec Ideal S256x1024 .f32 :=
  slab (View.ld (x0 : Vec Ideal S256x1024 .bf16) r0_0 : Vec Ideal S256x1024 .bf16) (View.ld (x1 : Vec Ideal S1024x3072 .bf16) r0_1 : Vec Ideal S1024x1024 .bf16) (View.ld (x2 : Vec Ideal S1x3072 .f32) r0_2 : Vec Ideal S1x1024 .f32)
abbrev slab1 : FVec Ideal S256x1024 .f32 :=
  slab (View.ld (x0 : Vec Ideal S256x1024 .bf16) r0_0 : Vec Ideal S256x1024 .bf16) (View.ld (x1 : Vec Ideal S1024x3072 .bf16) r0_3 : Vec Ideal S1024x1024 .bf16) (View.ld (x2 : Vec Ideal S1x3072 .f32) r0_4 : Vec Ideal S1x1024 .f32)
abbrev slab2 : FVec Ideal S256x1024 .f32 :=
  slab (View.ld (x0 : Vec Ideal S256x1024 .bf16) r0_0 : Vec Ideal S256x1024 .bf16) (View.ld (x1 : Vec Ideal S1024x3072 .bf16) r0_6 : Vec Ideal S1024x1024 .bf16) (View.ld (x2 : Vec Ideal S1x3072 .f32) r0_7 : Vec Ideal S1x1024 .f32)

theorem slab0_at (r : Fin 256) (l : Fin 1024) : slab0 x0 x1 x2 (ix2 r l) = part x0 x1 x2 0 r l := by
  refine (slab_at _ _ _ _ _).trans ?_
  pointwise [part]
  first | done | rfl
theorem slab1_at (r : Fin 256) (l : Fin 1024) : slab1 x0 x1 x2 (ix2 r l) = part x0 x1 x2 1 r l := by
  refine (slab_at _ _ _ _ _).trans ?_
  pointwise [part]
  first | done | rfl
theorem slab2_at (r : Fin 256) (l : Fin 1024) : slab2 x0 x1 x2 (ix2 r l) = part x0 x1 x2 2 r l := by
  refine (slab_at _ _ _ _ _).trans ?_
  pointwise [part]
  first | done | rfl

theorem out3_eq : out0_3 (F := Ideal) x0 x1 x2 = View.canon [⟨r0_0, truncf .bf16 (mulf (slab0 x0 x1 x2) (broadcast S256x1024 (Scalar.ofBits .f32 0x3E000000#32))) bitsLt_bf16_f32⟩] := by
  unfold out0_3 k0_pay5 k0_pay4
  simp only [shapeCast_self]
  rfl
theorem out4_eq : out0_4 (F := Ideal) x0 x1 x2 = View.canon [⟨r0_0, truncf .bf16 (slab1 x0 x1 x2) bitsLt_bf16_f32⟩] := by
  unfold out0_4 k0_pay7 k0_pay6 k0_pay4
  simp only [shapeCast_self]
  rfl
theorem out5_eq : out0_5 (F := Ideal) x0 x1 x2 = View.canon [⟨r0_0, truncf .bf16 (slab2 x0 x1 x2) bitsLt_bf16_f32⟩] := by
  unfold out0_5 k0_pay2 k0_pay1 k0_pay10 k0_pay9 k0_pay4
  simp only [shapeCast_self]
  rfl
theorem out6_eq : out0_6 (F := Ideal) x0 x1 x2 = View.canon [⟨r0_5, shapeCast S1x1024x256 (transpose S1024x256 [1, 0] (slab1 x0 x1 x2) transposes_S256x1024_p1_0_S1024x256) shapeCasts_S1024x256_S1x1024x256⟩] := by
  unfold out0_6 k0_pay8 k0_pay6 k0_pay4
  simp only [shapeCast_self]
  rfl
theorem out7_eq : out0_7 (F := Ideal) x0 x1 x2 = View.canon [⟨r0_5, shapeCast S1x1024x256 (transpose S1024x256 [1, 0] (slab2 x0 x1 x2) transposes_S256x1024_p1_0_S1024x256) shapeCasts_S1024x256_S1x1024x256⟩] := by
  unfold out0_7 k0_pay3 k0_pay1 k0_pay10 k0_pay9 k0_pay4
  simp only [shapeCast_self]
  rfl

theorem out3_at (r : Fin 256) (l : Fin 1024) : out0_3 (F := Ideal) x0 x1 x2 (ix2 r l) = part x0 x1 x2 0 r l * scale := by
  rw [out3_eq, View.canon_cons_unit_lit _ _ _ (by decide), ← slab0_at]
  rfl
theorem out4_at (r : Fin 256) (l : Fin 1024) : out0_4 (F := Ideal) x0 x1 x2 (ix2 r l) = part x0 x1 x2 1 r l := by
  rw [out4_eq, View.canon_cons_unit_lit _ _ _ (by decide), ← slab1_at]
  rfl
theorem out5_at (r : Fin 256) (l : Fin 1024) : out0_5 (F := Ideal) x0 x1 x2 (ix2 r l) = part x0 x1 x2 2 r l := by
  rw [out5_eq, View.canon_cons_unit_lit _ _ _ (by decide), ← slab2_at]
  rfl
theorem out6_at (r : Fin 256) (l : Fin 1024) : out0_6 (F := Ideal) x0 x1 x2 (ix3 0 l r) = part x0 x1 x2 1 r l := by
  rw [out6_eq, View.canon_cons_unit_lit _ _ _ (by decide), ← slab1_at]
  pointwise
theorem out7_at (r : Fin 256) (l : Fin 1024) : out0_7 (F := Ideal) x0 x1 x2 (ix3 0 l r) = part x0 x1 x2 2 r l := by
  rw [out7_eq, View.canon_cons_unit_lit _ _ _ (by decide), ← slab2_at]
  pointwise
end

def flat (x : FVec Ideal S8x2048x1024 .f32) : FVec Ideal S16384x1024 .f32 := shapeCast S16384x1024 x shapeCasts_S8x2048x1024_S16384x1024
def line (a : FVec Ideal S3x16x64 .f32) : FVec Ideal S1x3072 .f32 := shapeCast S1x3072 a shapeCasts_S3x16x64_S1x3072

theorem V_v1 (c : Dev nD) : V m c main_v1 = truncf (F := Ideal) .bf16 (flat (m ((c.tc : Thread nD τ).loc main_arg0))) bitsLt_bf16_f32 := by
  simp only [V, hostOps0]
  after_results_simp <;> rfl
theorem V_v2 (c : Dev nD) : V m c main_v2 = truncf (F := Ideal) (s := S1024x3072) .bf16 (m ((c.tc : Thread nD τ).loc main_arg1)) bitsLt_bf16_f32 := by
  simp only [V, hostOps0]
  after_results_simp <;> rfl
theorem V_v3 (c : Dev nD) : V m c main_v3 = line (m ((c.tc : Thread nD τ).loc main_arg2)) := by
  simp only [V, hostOps0]
  after_results_simp <;> rfl

theorem flat_at (x : FVec Ideal S8x2048x1024 .f32) (r : Fin 16384) (l : Fin 1024) :
    flat x (ix2 r l) = x (ix3 (⟨r.val / 2048, by omega⟩ : Fin 8) (⟨r.val % 2048, by omega⟩ : Fin 2048) l) := by
  pointwise [flat]
theorem line_at (a : FVec Ideal S3x16x64 .f32) (j : Fin 3) (l : Fin 1024) :
    line a (ix2 0 ⟨1024 * j.val + l.val, by omega⟩) = a (ix3 j (⟨l.val / 64, by omega⟩ : Fin 16) (⟨l.val % 64, by omega⟩ : Fin 64)) := by
  pointwise [line]
  have e : ∀ (j j' : Fin 3) (h h' : Fin 16) (e e' : Fin 64), j = j' → h = h' → e = e' → a (ix3 j h e) = a (ix3 j' h' e') := by
    rintro _ _ _ _ _ _ rfl rfl rfl
    rfl
  have hl := l.isLt
  refine e _ _ _ _ _ _ (Fin.ext ?_) (Fin.ext ?_) (Fin.ext ?_) <;> simp only [] <;> omega

theorem idx : ∀ t : Fin cfg0.N,
    win0_0.index t = ![t.val, 0] ∧ win0_1.index t = ![0, 0] ∧ win0_2.index t = ![0, 0] ∧ win0_3.index t = ![t.val, 0] ∧
    win0_4.index t = ![t.val, 0] ∧ win0_5.index t = ![t.val, 0] ∧ win0_6.index t = ![t.val / 8, 0, t.val % 8] ∧ win0_7.index t = ![t.val / 8, 0, t.val % 8] :=
  (by decide +kernel : ∀ t : Fin grid0.N, _)

theorem tlt (t : Fin cfg0.N) : t.val < 64 := t.isLt

/-- The row of the stream that a block's row is. -/
def row (t : Fin cfg0.N) (r : Fin 256) : Fin 16384 := ⟨256 * t.val + r.val, by have := tlt t; omega⟩

/-- The sequence that a block belongs to. -/
def seqOf (t : Fin cfg0.N) : Fin 8 := ⟨t.val / 8, by have := tlt t; omega⟩

/-- The position that a block's row is. -/
def pos (t : Fin cfg0.N) (r : Fin 256) : Fin 2048 := ⟨256 * (t.val % 8) + r.val, by omega⟩

theorem emb0 (t : Fin cfg0.N) (r : Fin 256) (l : Fin 1024) : ((cfg0.win 0).blk t).view.emb (ix2 r l) = (ix2 (row t r) l : S16384x1024.Idx) := by
  blk_ext [idx t, row]
theorem emb1 (t : Fin cfg0.N) (r : Fin 1024) (l : Fin 3072) : ((cfg0.win 1).blk t).view.emb (ix2 r l) = (ix2 r l : S1024x3072.Idx) := by
  blk_ext [idx t]
theorem emb2 (t : Fin cfg0.N) (l : Fin 3072) : ((cfg0.win 2).blk t).view.emb (ix2 0 l) = (ix2 0 l : S1x3072.Idx) := by
  blk_ext [idx t]
theorem emb3 (t : Fin cfg0.N) (r : Fin 256) (l : Fin 1024) : ((cfg0.win 3).blk t).view.emb (ix2 r l) = (ix2 (row t r) l : S16384x1024.Idx) := by
  blk_ext [idx t, row]
theorem emb4 (t : Fin cfg0.N) (r : Fin 256) (l : Fin 1024) : ((cfg0.win 4).blk t).view.emb (ix2 r l) = (ix2 (row t r) l : S16384x1024.Idx) := by
  blk_ext [idx t, row]
theorem emb5 (t : Fin cfg0.N) (r : Fin 256) (l : Fin 1024) : ((cfg0.win 5).blk t).view.emb (ix2 r l) = (ix2 (row t r) l : S16384x1024.Idx) := by
  blk_ext [idx t, row]
theorem emb6 (t : Fin cfg0.N) (l : Fin 1024) (r : Fin 256) : ((cfg0.win 6).blk t).view.emb (ix3 0 l r) = (ix3 (seqOf t) l (pos t r) : S8x1024x2048.Idx) := by
  blk_ext [idx t, seqOf, pos]
theorem emb7 (t : Fin cfg0.N) (l : Fin 1024) (r : Fin 256) : ((cfg0.win 7).blk t).view.emb (ix3 0 l r) = (ix3 (seqOf t) l (pos t r) : S8x1024x2048.Idx) := by
  blk_ext [idx t, seqOf, pos]

section
variable (c : Dev nD) (t : Fin cfg0.N)

theorem iblk0 (r : Fin 256) (l : Fin 1024) : iblk m c 0 t (ix2 r l) = flat (m ((c.tc : Thread nD τ).loc main_arg0)) (ix2 (row t r) l) :=
  (congrArg (V m c main_v1) (emb0 t r l)).trans (by rw [V_v1]; rfl)
theorem iblk1 (r : Fin 1024) (l : Fin 3072) : iblk m c 1 t (ix2 r l) = (m ((c.tc : Thread nD τ).loc main_arg1) : FVec Ideal S1024x3072 .f32) (ix2 r l) :=
  (congrArg (V m c main_v2) (emb1 t r l)).trans (by rw [V_v2]; rfl)
theorem iblk2 (l : Fin 3072) : iblk m c 2 t (ix2 0 l) = line (m ((c.tc : Thread nD τ).loc main_arg2)) (ix2 0 l) :=
  (congrArg (V m c main_v3) (emb2 t l)).trans (by rw [V_v3])

theorem row_seq (r : Fin 256) : (⟨(row t r).val / 2048, by omega⟩ : Fin 8) = seqOf t := Fin.ext (by
  show (256 * t.val + r.val) / 2048 = t.val / 8
  omega)
theorem row_pos (r : Fin 256) : (⟨(row t r).val % 2048, by omega⟩ : Fin 2048) = pos t r := Fin.ext (by
  show (256 * t.val + r.val) % 2048 = 256 * (t.val % 8) + r.val
  omega)

/-- A part of a block's rows, by the arguments. -/
theorem part_at (j : Fin 3) (r : Fin 256) (l : Fin 1024) : part (iblk m c 0 t) (iblk m c 1 t) (iblk m c 2 t) j r l =
    entry (m ((c.tc : Thread nD τ).loc main_arg0)) (m ((c.tc : Thread nD τ).loc main_arg1)) (m ((c.tc : Thread nD τ).loc main_arg2)) (seqOf t) (pos t r) j
      ⟨l.val / 64, by omega⟩ ⟨l.val % 64, by omega⟩ := by
  have e : (⟨1024 * j.val + (64 * (l.val / 64) + l.val % 64), by omega⟩ : Fin 3072) = ⟨1024 * j.val + l.val, by omega⟩ := Fin.ext (by
    show 1024 * j.val + (64 * (l.val / 64) + l.val % 64) = 1024 * j.val + l.val
    omega)
  unfold part entry
  simp only [iblk0, iblk1, iblk2, flat_at, line_at, row_seq, row_pos, e]

/-- What the kernel leaves, by its arguments. -/
abbrev RES (j : Fin 3) : FVec Ideal S16384x1024 .bf16 :=
  ROWS (m ((c.tc : Thread nD τ).loc main_arg0)) (m ((c.tc : Thread nD τ).loc main_arg1)) (m ((c.tc : Thread nD τ).loc main_arg2)) j
abbrev RESQ : FVec Ideal S16384x1024 .bf16 :=
  SCALED (m ((c.tc : Thread nD τ).loc main_arg0)) (m ((c.tc : Thread nD τ).loc main_arg1)) (m ((c.tc : Thread nD τ).loc main_arg2))
abbrev REST (j : Fin 3) : FVec Ideal S8x1024x2048 .f32 :=
  COLS (m ((c.tc : Thread nD τ).loc main_arg0)) (m ((c.tc : Thread nD τ).loc main_arg1)) (m ((c.tc : Thread nD τ).loc main_arg2)) j

theorem rows_at (j : Fin 3) (r : Fin 256) (l : Fin 1024) : part (iblk m c 0 t) (iblk m c 1 t) (iblk m c 2 t) j r l = RES m c j (ix2 (row t r) l) := by
  rw [part_at, ← row_seq, ← row_pos]
  rfl
theorem cols_at (j : Fin 3) (r : Fin 256) (l : Fin 1024) : part (iblk m c 0 t) (iblk m c 1 t) (iblk m c 2 t) j r l = REST m c j (ix3 (seqOf t) l (pos t r)) := by
  rw [part_at]
  rfl
end

theorem final3 (c : Dev nD) : (dats m 0 c).arrAt 3 cfg0.N = RESQ m c := by
  refine (dats m 0 c).arrAt_eq_of_covers 3 _ (by decide +kernel) fun t _ y => ?_
  blk_simp
  rw [after0_3]
  have h : ∀ y : S256x1024.Idx, out0_3 (iblk m c 0 t) (iblk m c 1 t) (iblk m c 2 t) y = RESQ m c (((cfg0.win 3).blk t).view.emb y) := by
    have h : ∀ (r : Fin 256) (l : Fin 1024), out0_3 (iblk m c 0 t) (iblk m c 1 t) (iblk m c 2 t) (ix2 r l) = RESQ m c (((cfg0.win 3).blk t).view.emb (ix2 r l)) := by
      intro r l
      rw [emb3, out3_at, rows_at]
      rfl
    intro y
    rw [eq_ix2 y]
    exact h _ _
  exact h y

theorem final4 (c : Dev nD) : (dats m 0 c).arrAt 4 cfg0.N = RES m c 1 := by
  refine (dats m 0 c).arrAt_eq_of_covers 4 _ (by decide +kernel) fun t _ y => ?_
  blk_simp
  rw [after0_4]
  have h : ∀ y : S256x1024.Idx, out0_4 (iblk m c 0 t) (iblk m c 1 t) (iblk m c 2 t) y = RES m c 1 (((cfg0.win 4).blk t).view.emb y) := by
    have h : ∀ (r : Fin 256) (l : Fin 1024), out0_4 (iblk m c 0 t) (iblk m c 1 t) (iblk m c 2 t) (ix2 r l) = RES m c 1 (((cfg0.win 4).blk t).view.emb (ix2 r l)) := by
      intro r l
      rw [emb4, out4_at, rows_at]
    intro y
    rw [eq_ix2 y]
    exact h _ _
  exact h y

theorem final5 (c : Dev nD) : (dats m 0 c).arrAt 5 cfg0.N = RES m c 2 := by
  refine (dats m 0 c).arrAt_eq_of_covers 5 _ (by decide +kernel) fun t _ y => ?_
  blk_simp
  rw [after0_5]
  have h : ∀ y : S256x1024.Idx, out0_5 (iblk m c 0 t) (iblk m c 1 t) (iblk m c 2 t) y = RES m c 2 (((cfg0.win 5).blk t).view.emb y) := by
    have h : ∀ (r : Fin 256) (l : Fin 1024), out0_5 (iblk m c 0 t) (iblk m c 1 t) (iblk m c 2 t) (ix2 r l) = RES m c 2 (((cfg0.win 5).blk t).view.emb (ix2 r l)) := by
      intro r l
      rw [emb5, out5_at, rows_at]
    intro y
    rw [eq_ix2 y]
    exact h _ _
  exact h y

theorem final6 (c : Dev nD) : (dats m 0 c).arrAt 6 cfg0.N = REST m c 1 := by
  refine (dats m 0 c).arrAt_eq_of_covers 6 _ (by decide +kernel) fun t _ y => ?_
  blk_simp
  rw [after0_6]
  have h : ∀ y : S1x1024x256.Idx, out0_6 (iblk m c 0 t) (iblk m c 1 t) (iblk m c 2 t) y = REST m c 1 (((cfg0.win 6).blk t).view.emb y) := by
    have h : ∀ (a : Fin 1) (l : Fin 1024) (r : Fin 256), out0_6 (iblk m c 0 t) (iblk m c 1 t) (iblk m c 2 t) (ix3 a l r) = REST m c 1 (((cfg0.win 6).blk t).view.emb (ix3 a l r)) := by
      intro a l r
      rw [Subsingleton.elim a 0, emb6, out6_at, cols_at]
    intro y
    rw [eq_ix3 y]
    exact h _ _ _
  exact h y

theorem final7 (c : Dev nD) : (dats m 0 c).arrAt 7 cfg0.N = REST m c 2 := by
  refine (dats m 0 c).arrAt_eq_of_covers 7 _ (by decide +kernel) fun t _ y => ?_
  blk_simp
  rw [after0_7]
  have h : ∀ y : S1x1024x256.Idx, out0_7 (iblk m c 0 t) (iblk m c 1 t) (iblk m c 2 t) y = REST m c 2 (((cfg0.win 7).blk t).view.emb y) := by
    have h : ∀ (a : Fin 1) (l : Fin 1024) (r : Fin 256), out0_7 (iblk m c 0 t) (iblk m c 1 t) (iblk m c 2 t) (ix3 a l r) = REST m c 2 (((cfg0.win 7).blk t).view.emb (ix3 a l r)) := by
      intro a l r
      rw [Subsingleton.elim a 0, emb7, out7_at, cols_at]
    intro y
    rw [eq_ix3 y]
    exact h _ _ _
  exact h y

end Cert.Kernel4Ideal.Read

end
-- ==== Proof.QkvRef.lean ====
/-
  The projection's reference read entry by entry.
-/
module

public import proofs.«01_k».proof.Proof.Gen.Reference4Ideal.Run
public import proofs.«01_k».proof.Proof.Qkv

@[expose] public section

set_option maxRecDepth 16384

noncomputable section

namespace Cert.Reference4Ideal.Read

open Cert.Reference4Ideal Cert.Reference4Ideal.Gen Cert.Qkv
open Idealize.ShloMosaic Idealize.ShloMosaic.TcCoe Idealize.SL.Sem

section
variable (x : FVec Ideal S8x2048x1024 .f32) (w : FVec Ideal S1024x3072 .f32) (a : FVec Ideal S3x16x64 .f32)

/-- The three parts with their bias. -/
def three : FVec Ideal S8x2048x3x16x64 .f32 :=
  addf (shapeCast S8x2048x3x16x64 (Host.dotGeneral dot_S8x2048x1024_S1024x3072_S8x2048x3072_2_0_01_1_n_n none x w) shapeCasts_S8x2048x3072_S8x2048x3x16x64)
    (broadcastInDim S8x2048x3x16x64 ![0, 1, 2, 3, 4] bcast_S1x1x3x16x64_S8x2048x3x16x64_0_1_2_3_4 (broadcastInDim S1x1x3x16x64 ![2, 3, 4] bcast_S3x16x64_S1x1x3x16x64_2_3_4 a))

def part0 : FVec Ideal S8x2048x16x64 .f32 :=
  shapeCast S8x2048x16x64 (extractStridedSlice S8x2048x1x16x64 ![0, 0, 0, 0, 0] (three x w a) slices_S8x2048x3x16x64_S8x2048x1x16x64_0_0_0_0_0) shapeCasts_S8x2048x1x16x64_S8x2048x16x64
def part1 : FVec Ideal S8x2048x16x64 .f32 :=
  shapeCast S8x2048x16x64 (extractStridedSlice S8x2048x1x16x64 ![0, 0, 1, 0, 0] (three x w a) slices_S8x2048x3x16x64_S8x2048x1x16x64_0_0_1_0_0) shapeCasts_S8x2048x1x16x64_S8x2048x16x64
def part2 : FVec Ideal S8x2048x16x64 .f32 :=
  shapeCast S8x2048x16x64 (extractStridedSlice S8x2048x1x16x64 ![0, 0, 2, 0, 0] (three x w a) slices_S8x2048x3x16x64_S8x2048x1x16x64_0_0_2_0_0) shapeCasts_S8x2048x1x16x64_S8x2048x16x64

def rows (y : FVec Ideal S8x2048x16x64 .f32) : FVec Ideal S16384x1024 .bf16 := truncf .bf16 (shapeCast S16384x1024 y shapeCasts_S8x2048x16x64_S16384x1024) bitsLt_bf16_f32
def cols (y : FVec Ideal S8x2048x16x64 .f32) : FVec Ideal S8x1024x2048 .f32 :=
  shapeCast S8x1024x2048 (transpose S8x16x64x2048 [0, 2, 3, 1] y transposes_S8x2048x16x64_S8x16x64x2048_0_2_3_1) shapeCasts_S8x16x64x2048_S8x1024x2048
def queries : FVec Ideal S8x2048x16x64 .f32 := mulf (part0 x w a) (broadcastInDim S8x2048x16x64 ![] bcast_S_S8x2048x16x64 (constant (F := Ideal) S_ .f32 0x3E000000#32))

theorem three_at (b : Fin 8) (p : Fin 2048) (j : Fin 3) (h : Fin 16) (e : Fin 64) : three x w a (ix5 b p j h e) = entry x w a b p j h e := by
  have k : ∀ n (hn : n < 3072), n = 1024 * j.val + (64 * h.val + e.val) → (⟨n, hn⟩ : Fin 3072) = ⟨1024 * j.val + (64 * h.val + e.val), by omega⟩ := by
    rintro _ _ rfl
    rfl
  pointwise [three, entry]
  congr 1
  refine Finset.sum_congr rfl fun y _ => ?_
  congr 3
  exact k _ _ (by omega)
theorem part0_at (b : Fin 8) (p : Fin 2048) (h : Fin 16) (e : Fin 64) : part0 x w a (ix4 b p h e) = entry x w a b p 0 h e := by
  pointwise [part0, three_at]
theorem part1_at (b : Fin 8) (p : Fin 2048) (h : Fin 16) (e : Fin 64) : part1 x w a (ix4 b p h e) = entry x w a b p 1 h e := by
  pointwise [part1, three_at]
theorem part2_at (b : Fin 8) (p : Fin 2048) (h : Fin 16) (e : Fin 64) : part2 x w a (ix4 b p h e) = entry x w a b p 2 h e := by
  pointwise [part2, three_at]
theorem queries_at (b : Fin 8) (p : Fin 2048) (h : Fin 16) (e : Fin 64) : queries x w a (ix4 b p h e) = entry x w a b p 0 h e * scale := by
  pointwise [queries, part0_at]
  rfl

theorem rows_at (y : FVec Ideal S8x2048x16x64 .f32) (r : Fin 16384) (l : Fin 1024) :
    rows y (ix2 r l) = y (ix4 (⟨r.val / 2048, by omega⟩ : Fin 8) (⟨r.val % 2048, by omega⟩ : Fin 2048) (⟨l.val / 64, by omega⟩ : Fin 16) (⟨l.val % 64, by omega⟩ : Fin 64)) := by
  pointwise [rows]
theorem cols_at (y : FVec Ideal S8x2048x16x64 .f32) (b : Fin 8) (l : Fin 1024) (p : Fin 2048) :
    cols y (ix3 b l p) = y (ix4 b p (⟨l.val / 64, by omega⟩ : Fin 16) (⟨l.val % 64, by omega⟩ : Fin 64)) := by
  pointwise [cols]

theorem eq0 : rows (queries x w a) = SCALED x w a := by
  have h : ∀ (r : Fin 16384) (l : Fin 1024), rows (queries x w a) (ix2 r l) = SCALED x w a (ix2 r l) := by
    intro r l
    rw [rows_at, queries_at]
    rfl
  funext i
  rw [eq_ix2 i]
  exact h _ _
theorem eq1 : rows (part1 x w a) = ROWS x w a 1 := by
  have h : ∀ (r : Fin 16384) (l : Fin 1024), rows (part1 x w a) (ix2 r l) = ROWS x w a 1 (ix2 r l) := by
    intro r l
    rw [rows_at, part1_at]
    rfl
  funext i
  rw [eq_ix2 i]
  exact h _ _
theorem eq2 : rows (part2 x w a) = ROWS x w a 2 := by
  have h : ∀ (r : Fin 16384) (l : Fin 1024), rows (part2 x w a) (ix2 r l) = ROWS x w a 2 (ix2 r l) := by
    intro r l
    rw [rows_at, part2_at]
    rfl
  funext i
  rw [eq_ix2 i]
  exact h _ _
theorem eq3 : cols (part1 x w a) = COLS x w a 1 := by
  have h : ∀ (b : Fin 8) (l : Fin 1024) (p : Fin 2048), cols (part1 x w a) (ix3 b l p) = COLS x w a 1 (ix3 b l p) := by
    intro b l p
    rw [cols_at, part1_at]
    rfl
  funext i
  rw [eq_ix3 i]
  exact h _ _ _
theorem eq4 : cols (part2 x w a) = COLS x w a 2 := by
  have h : ∀ (b : Fin 8) (l : Fin 1024) (p : Fin 2048), cols (part2 x w a) (ix3 b l p) = COLS x w a 2 (ix3 b l p) := by
    intro b l p
    rw [cols_at, part2_at]
    rfl
  funext i
  rw [eq_ix3 i]
  exact h _ _ _
end

def val0 (m : (ℓ : Loc nD τ sig) → Buf (Elt Ideal) ℓ) (c : Dev nD) : FVec Ideal S16384x1024 .bf16 :=
  rows (queries (m ((c.tc : Thread nD τ).loc main_arg0)) (m ((c.tc : Thread nD τ).loc main_arg1)) (m ((c.tc : Thread nD τ).loc main_arg2)))
def val1 (m : (ℓ : Loc nD τ sig) → Buf (Elt Ideal) ℓ) (c : Dev nD) : FVec Ideal S16384x1024 .bf16 :=
  rows (part1 (m ((c.tc : Thread nD τ).loc main_arg0)) (m ((c.tc : Thread nD τ).loc main_arg1)) (m ((c.tc : Thread nD τ).loc main_arg2)))
def val2 (m : (ℓ : Loc nD τ sig) → Buf (Elt Ideal) ℓ) (c : Dev nD) : FVec Ideal S16384x1024 .bf16 :=
  rows (part2 (m ((c.tc : Thread nD τ).loc main_arg0)) (m ((c.tc : Thread nD τ).loc main_arg1)) (m ((c.tc : Thread nD τ).loc main_arg2)))
def val3 (m : (ℓ : Loc nD τ sig) → Buf (Elt Ideal) ℓ) (c : Dev nD) : FVec Ideal S8x1024x2048 .f32 :=
  cols (part1 (m ((c.tc : Thread nD τ).loc main_arg0)) (m ((c.tc : Thread nD τ).loc main_arg1)) (m ((c.tc : Thread nD τ).loc main_arg2)))
def val4 (m : (ℓ : Loc nD τ sig) → Buf (Elt Ideal) ℓ) (c : Dev nD) : FVec Ideal S8x1024x2048 .f32 :=
  cols (part2 (m ((c.tc : Thread nD τ).loc main_arg0)) (m ((c.tc : Thread nD τ).loc main_arg1)) (m ((c.tc : Thread nD τ).loc main_arg2)))

end Cert.Reference4Ideal.Read

end
-- ==== Proof.Mm.lean ====
/-
  A mixer's output projection with its residual and layer norm: what the kernel leaves.
-/
module

public import proofs.«01_k».proof.Proof.Gen.Kernel5Ideal.Value
public import proofs.«01_k».proof.Proof.Rows

@[expose] public section

set_option maxRecDepth 16384

noncomputable section

namespace Cert.Mm

open Cert.Rows Idealize.ShloMosaic

/-- The residual stream after the projection and its norm, at position `p` of sequence `b`. -/
def out (o : FVec Ideal ⟨3, ![8, 2048, 1024]⟩ .f32) (w : FVec Ideal ⟨2, ![1024, 1024]⟩ .f32) (x : FVec Ideal ⟨3, ![8, 2048, 1024]⟩ .f32)
    (g h : FVec Ideal ⟨1, ![1024]⟩ .f32) (b : Fin 8) (p : Fin 2048) (l : Fin 1024) : EReal :=
  norm (fun y => alpha * x (ix3 b p y) + ∑ e : Fin 1024, o (ix3 b p e) * w (ix2 e y)) (g (ix1 l)) (h (ix1 l)) l

/-- The same, by the row of the stream. -/
def OUT (o : FVec Ideal ⟨3, ![8, 2048, 1024]⟩ .f32) (w : FVec Ideal ⟨2, ![1024, 1024]⟩ .f32) (x : FVec Ideal ⟨3, ![8, 2048, 1024]⟩ .f32)
    (g h : FVec Ideal ⟨1, ![1024]⟩ .f32) : FVec Ideal ⟨2, ![16384, 1024]⟩ .f32 := fun i =>
  out o w x g h ⟨(i 0).val / 2048, by have : (i 0).val < 16384 := (i 0).isLt; omega⟩ ⟨(i 0).val % 2048, by omega⟩ (i 1)

end Cert.Mm

namespace Cert.Kernel5Ideal.Read

open Cert.Kernel5Ideal Cert.Kernel5Ideal.Gen Cert.Rows Cert.Mm
open Idealize.ShloMosaic Idealize.ShloMosaic.TcCoe Idealize.SL.Sem Idealize.ShloMosaic.StableHlo

/-- The layer norm of a block's rows, as the kernel takes it. -/
def normed (v : FVec Ideal S256x1024 .f32) (g b : FVec Ideal S1x1024 .f32) : FVec Ideal S256x1024 .f32 :=
  let n : FVec Ideal S256x1 .f32 := broadcast S256x1 (Scalar.ofBits .f32 0x44800000#32)
  let mean : FVec Ideal S256x1 .f32 := divf (shapeCast S256x1 (multiReduction .add [1] S256 v 0x00000000#32 reduces_S256x1024_S256 (.inl rfl) rfl) shapeCasts_S256_S256x1) n
  let d := subf v (broadcastTo S256x1024 mean broadcasts_S256x1_S256x1024)
  let var : FVec Ideal S256x1 .f32 := divf (shapeCast S256x1 (multiReduction .add [1] S256 (mulf d d) 0x00000000#32 reduces_S256x1024_S256 (.inl rfl) rfl) shapeCasts_S256_S256x1) n
  let s : FVec Ideal S256x1 .f32 := rsqrt (addf var (broadcast S256x1 (Scalar.ofBits .f32 0x3727C5AC#32)))
  addf (mulf (mulf d (broadcastTo S256x1024 s broadcasts_S256x1_S256x1024)) (broadcastTo S256x1024 g broadcasts_S1x1024_S256x1024))
    (broadcastTo S256x1024 b broadcasts_S1x1024_S256x1024)

theorem normed_at (v : FVec Ideal S256x1024 .f32) (g b : FVec Ideal S1x1024 .f32) (r : Fin 256) (l : Fin 1024) :
    normed v g b (ix2 r l) = norm (fun x => v (ix2 r x)) (g (ix2 0 l)) (b (ix2 0 l)) l := by
  pointwise [normed]
  rfl

/-- The residual with the projection added. -/
def summed (x : FVec Ideal S256x1024 .bf16) (w : FVec Ideal S1024x1024 .bf16) (y : FVec Ideal S256x1024 .f32) : FVec Ideal S256x1024 .f32 :=
  addf (mulf (broadcast S256x1024 (Scalar.ofBits .f32 0x3FD744FD#32)) y) (matmul dot_S256x1024_S1024x1024_S256x1024_1_0_0_1_n_n none x w (constant S256x1024 .f32 0x00000000#32))

theorem summed_at (x : FVec Ideal S256x1024 .bf16) (w : FVec Ideal S1024x1024 .bf16) (y : FVec Ideal S256x1024 .f32) (r : Fin 256) (l : Fin 1024) :
    summed x w y (ix2 r l) = alpha * y (ix2 r l) + ∑ e : Fin 1024, x (ix2 r e) * w (ix2 e l) := by
  pointwise [summed]
  rfl

theorem pay_eq (x : FVec Ideal S256x1024 .bf16) (w : FVec Ideal S1024x1024 .bf16) (y : FVec Ideal S256x1024 .f32) (g b : FVec Ideal S1x1024 .f32) :
    k0_pay1 (F := Ideal) x w y g b = normed (summed x w y) g b := by
  unfold k0_pay1
  simp only [shapeCast_self]
  rfl

/-- What a point stores, by the rows and weights it reads. -/
theorem pay_at (x : FVec Ideal S256x1024 .bf16) (w : FVec Ideal S1024x1024 .bf16) (y : FVec Ideal S256x1024 .f32) (g b : FVec Ideal S1x1024 .f32) (r : Fin 256) (l : Fin 1024) :
    k0_pay1 (F := Ideal) (View.ld (x : Vec Ideal S256x1024 .bf16) r0_0 : Vec Ideal S256x1024 .bf16) (View.ld (w : Vec Ideal S1024x1024 .bf16) r0_1 : Vec Ideal S1024x1024 .bf16) (View.ld (y : Vec Ideal S256x1024 .f32) r0_0 : Vec Ideal S256x1024 .f32)
        (View.ld (g : Vec Ideal S1x1024 .f32) r0_2 : Vec Ideal S1x1024 .f32) (View.ld (b : Vec Ideal S1x1024 .f32) r0_2 : Vec Ideal S1x1024 .f32) (ix2 r l) =
      norm (fun l => alpha * y (ix2 r l) + ∑ e : Fin 1024, x (ix2 r e) * w (ix2 e l)) (g (ix2 0 l)) (b (ix2 0 l)) l := by
  rw [pay_eq, normed_at]
  simp only [summed_at]
  pointwise

variable (m : (ℓ : Loc nD τ sig) → Buf (Elt Ideal) ℓ)

def flat (x : FVec Ideal S8x2048x1024 .f32) : FVec Ideal S16384x1024 .f32 := shapeCast S16384x1024 x shapeCasts_S8x2048x1024_S16384x1024
def line (g : FVec Ideal S1024 .f32) : FVec Ideal S1x1024 .f32 := broadcastInDim S1x1024 ![1] bcast_S1024_S1x1024_1 g

theorem V_v1 (c : Dev nD) : V m c main_v1 = truncf (F := Ideal) .bf16 (flat (m ((c.tc : Thread nD τ).loc main_arg0))) bitsLt_bf16_f32 := by
  simp only [V, hostOps0]
  after_results_simp <;> rfl
theorem V_v2 (c : Dev nD) : V m c main_v2 = truncf (F := Ideal) (s := S1024x1024) .bf16 (m ((c.tc : Thread nD τ).loc main_arg1)) bitsLt_bf16_f32 := by
  simp only [V, hostOps0]
  after_results_simp <;> rfl
theorem V_v3 (c : Dev nD) : V m c main_v3 = flat (m ((c.tc : Thread nD τ).loc main_arg2)) := by
  simp only [V, hostOps0]
  after_results_simp <;> rfl
theorem V_v4 (c : Dev nD) : V m c main_v4 = line (m ((c.tc : Thread nD τ).loc main_arg3)) := by
  simp only [V, hostOps0]
  after_results_simp <;> rfl
theorem V_v5 (c : Dev nD) : V m c main_v5 = line (m ((c.tc : Thread nD τ).loc main_arg4)) := by
  simp only [V, hostOps0]
  after_results_simp <;> rfl

theorem flat_at (x : FVec Ideal S8x2048x1024 .f32) (r : Fin 16384) (l : Fin 1024) :
    flat x (ix2 r l) = x (ix3 (⟨r.val / 2048, by omega⟩ : Fin 8) (⟨r.val % 2048, by omega⟩ : Fin 2048) l) := by
  pointwise [flat]
theorem line_at (g : FVec Ideal S1024 .f32) (l : Fin 1024) : line g (ix2 0 l) = g (ix1 l) := by
  pointwise [line]

theorem idx : ∀ t : Fin cfg0.N,
    win0_0.index t = ![t.val, 0] ∧ win0_1.index t = ![0, 0] ∧ win0_2.index t = ![t.val, 0] ∧ win0_3.index t = ![0, 0] ∧
    win0_4.index t = ![0, 0] ∧ win0_5.index t = ![t.val, 0] ∧ win0_6.index t = ![t.val, 0] :=
  (by decide +kernel : ∀ t : Fin grid0.N, _)

theorem tlt (t : Fin cfg0.N) : t.val < 64 := t.isLt

/-- The row of the stream that a block's row is. -/
def row (t : Fin cfg0.N) (r : Fin 256) : Fin 16384 := ⟨256 * t.val + r.val, by have := tlt t; omega⟩

theorem emb0 (t : Fin cfg0.N) (r : Fin 256) (l : Fin 1024) : ((cfg0.win 0).blk t).view.emb (ix2 r l) = (ix2 (row t r) l : S16384x1024.Idx) := by
  blk_ext [idx t, row]
theorem emb2 (t : Fin cfg0.N) (r : Fin 256) (l : Fin 1024) : ((cfg0.win 2).blk t).view.emb (ix2 r l) = (ix2 (row t r) l : S16384x1024.Idx) := by
  blk_ext [idx t, row]
theorem emb5 (t : Fin cfg0.N) (r : Fin 256) (l : Fin 1024) : ((cfg0.win 5).blk t).view.emb (ix2 r l) = (ix2 (row t r) l : S16384x1024.Idx) := by
  blk_ext [idx t, row]
theorem emb6 (t : Fin cfg0.N) (r : Fin 256) (l : Fin 1024) : ((cfg0.win 6).blk t).view.emb (ix2 r l) = (ix2 (row t r) l : S16384x1024.Idx) := by
  blk_ext [idx t, row]
theorem emb1 (t : Fin cfg0.N) (r l : Fin 1024) : ((cfg0.win 1).blk t).view.emb (ix2 r l) = (ix2 r l : S1024x1024.Idx) := by
  blk_ext [idx t]
theorem emb3 (t : Fin cfg0.N) (l : Fin 1024) : ((cfg0.win 3).blk t).view.emb (ix2 0 l) = (ix2 0 l : S1x1024.Idx) := by
  blk_ext [idx t]
theorem emb4 (t : Fin cfg0.N) (l : Fin 1024) : ((cfg0.win 4).blk t).view.emb (ix2 0 l) = (ix2 0 l : S1x1024.Idx) := by
  blk_ext [idx t]

section
variable (c : Dev nD) (t : Fin cfg0.N)

theorem iblk0 (r : Fin 256) (l : Fin 1024) : iblk m c 0 t (ix2 r l) = flat (m ((c.tc : Thread nD τ).loc main_arg0)) (ix2 (row t r) l) :=
  (congrArg (V m c main_v1) (emb0 t r l)).trans (by rw [V_v1]; rfl)
theorem iblk1 (r l : Fin 1024) : iblk m c 1 t (ix2 r l) = (m ((c.tc : Thread nD τ).loc main_arg1) : FVec Ideal S1024x1024 .f32) (ix2 r l) :=
  (congrArg (V m c main_v2) (emb1 t r l)).trans (by rw [V_v2]; rfl)
theorem iblk2 (r : Fin 256) (l : Fin 1024) : iblk m c 2 t (ix2 r l) = flat (m ((c.tc : Thread nD τ).loc main_arg2)) (ix2 (row t r) l) :=
  (congrArg (V m c main_v3) (emb2 t r l)).trans (by rw [V_v3])
theorem iblk3 (l : Fin 1024) : iblk m c 3 t (ix2 0 l) = line (m ((c.tc : Thread nD τ).loc main_arg3)) (ix2 0 l) :=
  (congrArg (V m c main_v4) (emb3 t l)).trans (by rw [V_v4])
theorem iblk4 (l : Fin 1024) : iblk m c 4 t (ix2 0 l) = line (m ((c.tc : Thread nD τ).loc main_arg4)) (ix2 0 l) :=
  (congrArg (V m c main_v5) (emb4 t l)).trans (by rw [V_v5])

/-- What the kernel leaves, by its arguments. -/
abbrev RES : FVec Ideal S16384x1024 .f32 :=
  OUT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem point (r : Fin 256) (l : Fin 1024) :
    k0_pay1 (F := Ideal) (View.ld (iblk m c 0 t : Vec Ideal S256x1024 .bf16) r0_0 : Vec Ideal S256x1024 .bf16) (View.ld (iblk m c 1 t : Vec Ideal S1024x1024 .bf16) r0_1 : Vec Ideal S1024x1024 .bf16) (View.ld (iblk m c 2 t : Vec Ideal S256x1024 .f32) r0_0 : Vec Ideal S256x1024 .f32)
        (View.ld (iblk m c 3 t : Vec Ideal S1x1024 .f32) r0_2 : Vec Ideal S1x1024 .f32) (View.ld (iblk m c 4 t : Vec Ideal S1x1024 .f32) r0_2 : Vec Ideal S1x1024 .f32) (ix2 r l) = RES m c (ix2 (row t r) l) := by
  refine (pay_at _ _ _ _ _ _ _).trans ?_
  simp only [iblk0, iblk1, iblk2, iblk3, iblk4, flat_at, line_at]
  rfl
end

theorem final5 (c : Dev nD) : (dats m 0 c).arrAt 5 cfg0.N = RES m c := by
  refine (dats m 0 c).arrAt_eq_of_covers 5 _ (by decide +kernel) fun t _ y => ?_
  blk_simp
  rw [after0_5]
  have h : ∀ y : S256x1024.Idx, out0_5 (iblk m c 0 t) (iblk m c 1 t) (iblk m c 2 t) (iblk m c 3 t) (iblk m c 4 t) y = RES m c (((cfg0.win 5).blk t).view.emb y) := by
    have h : ∀ (r : Fin 256) (l : Fin 1024), out0_5 (iblk m c 0 t) (iblk m c 1 t) (iblk m c 2 t) (iblk m c 3 t) (iblk m c 4 t) (ix2 r l) = RES m c (((cfg0.win 5).blk t).view.emb (ix2 r l)) := by
      intro r l
      rw [out0_5, View.canon_cons_unit_lit _ _ _ (by decide), emb5]
      exact point m c t r l
    intro y
    rw [eq_ix2 y]
    exact h _ _
  exact h y

theorem final6 (c : Dev nD) : (dats m 0 c).arrAt 6 cfg0.N = truncf (F := Ideal) .bf16 (RES m c) bitsLt_bf16_f32 := by
  refine (dats m 0 c).arrAt_eq_of_covers 6 _ (by decide +kernel) fun t _ y => ?_
  blk_simp
  rw [after0_6]
  have h : ∀ y : S256x1024.Idx, out0_6 (iblk m c 0 t) (iblk m c 1 t) (iblk m c 2 t) (iblk m c 3 t) (iblk m c 4 t) y = RES m c (((cfg0.win 6).blk t).view.emb y) := by
    have h : ∀ (r : Fin 256) (l : Fin 1024), out0_6 (iblk m c 0 t) (iblk m c 1 t) (iblk m c 2 t) (iblk m c 3 t) (iblk m c 4 t) (ix2 r l) = RES m c (((cfg0.win 6).blk t).view.emb (ix2 r l)) := by
      intro r l
      rw [out0_6, View.canon_cons_unit_lit _ _ _ (by decide), emb6]
      exact point m c t r l
    intro y
    rw [eq_ix2 y]
    exact h _ _
  exact h y

end Cert.Kernel5Ideal.Read

end
-- ==== Proof.MmRef.lean ====
/-
  The output projection's reference read entry by entry.
-/
module

public import proofs.«01_k».proof.Proof.Gen.Reference5Ideal.Run
public import proofs.«01_k».proof.Proof.Mm

@[expose] public section

set_option maxRecDepth 16384

noncomputable section

namespace Cert.Reference5Ideal.Read

open Cert.Reference5Ideal Cert.Reference5Ideal.Gen Cert.Rows Cert.Mm
open Idealize.ShloMosaic Idealize.ShloMosaic.TcCoe Idealize.SL.Sem

abbrev Stream : Type := FVec Ideal S8x2048x1024 .f32

/-- The mean of each row. -/
def mean3 (x : Stream) : FVec Ideal S8x2048x1 .f32 :=
  Host.divf (broadcastInDim S8x2048x1 ![0, 1] bcast_S8x2048_S8x2048x1_0_1 (Host.reduceAdd x (constant (F := Ideal) S_ .f32 0x00000000#32) reducesTo_S8x2048x1024_S8x2048_d2 h_S_))
    (broadcastInDim S8x2048x1 ![] bcast_S_S8x2048x1 (constant (F := Ideal) S_ .f32 0x44800000#32))

def spread (x : FVec Ideal S8x2048x1 .f32) : Stream := broadcastInDim S8x2048x1024 ![0, 1, 2] bcast_S8x2048x1_S8x2048x1024_0_1_2 x

def lane (g : FVec Ideal S1024 .f32) : Stream :=
  broadcastInDim S8x2048x1024 ![0, 1, 2] bcast_S1x1x1024_S8x2048x1024_0_1_2 (broadcastInDim S1x1x1024 ![2] bcast_S1024_S1x1x1024_2 g)

/-- The layer norm, as the reference takes it. -/
def normed (x : Stream) (g b : FVec Ideal S1024 .f32) : Stream :=
  addf (mulf (mulf (subf x (spread (mean3 x)))
    (spread (Host.rsqrt (addf (mean3 (mulf (subf x (spread (mean3 x))) (subf x (spread (mean3 x))))) (broadcastInDim S8x2048x1 ![] bcast_S_S8x2048x1 (constant (F := Ideal) S_ .f32 0x3727C5AC#32))))))
    (lane g)) (lane b)

/-- The residual with the projection added. -/
def sum3 (o : Stream) (w : FVec Ideal S1024x1024 .f32) (x : Stream) : Stream :=
  addf (mulf (broadcastInDim S8x2048x1024 ![] bcast_S_S8x2048x1024 (constant (F := Ideal) S_ .f32 0x3FD744FD#32)) x)
    (Host.dotGeneral dot_S8x2048x1024_S1024x1024_S8x2048x1024_2_0_01_1_n_n none o w)

def REF (o : Stream) (w : FVec Ideal S1024x1024 .f32) (x : Stream) (g b : FVec Ideal S1024 .f32) : FVec Ideal S16384x1024 .f32 :=
  shapeCast S16384x1024 (normed (sum3 o w x) g b) shapeCasts_S8x2048x1024_S16384x1024

def val0 (m : (ℓ : Loc nD τ sig) → Buf (Elt Ideal) ℓ) (c : Dev nD) : FVec Ideal S16384x1024 .f32 :=
    REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
def val1 (m : (ℓ : Loc nD τ sig) → Buf (Elt Ideal) ℓ) (c : Dev nD) : FVec Ideal S16384x1024 .bf16 :=
    truncf (F := Ideal) .bf16 (REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) bitsLt_bf16_f32

theorem normed_at (x : Stream) (g h : FVec Ideal S1024 .f32) (b : Fin 8) (p : Fin 2048) (l : Fin 1024) :
    normed x g h (ix3 b p l) = norm (fun y => x (ix3 b p y)) (g (ix1 l)) (h (ix1 l)) l := by
  pointwise [normed, mean3, spread, lane]
  rfl

theorem sum3_at (o : Stream) (w : FVec Ideal S1024x1024 .f32) (x : Stream) (b : Fin 8) (p : Fin 2048) (y : Fin 1024) :
    sum3 o w x (ix3 b p y) = alpha * x (ix3 b p y) + ∑ e : Fin 1024, o (ix3 b p e) * w (ix2 e y) := by
  pointwise [sum3]
  rfl

theorem REF_eq (o : Stream) (w : FVec Ideal S1024x1024 .f32) (x : Stream) (g b : FVec Ideal S1024 .f32) :
    REF o w x g b = OUT o w x g b := by
  funext i
  rw [eq_ix2 i]
  pointwise [REF, normed_at, sum3_at]
  rfl

theorem eq0 (o : Stream) (w : FVec Ideal S1024x1024 .f32) (x : Stream) (g b : FVec Ideal S1024 .f32) :
    REF o w x g b = OUT o w x g b := REF_eq o w x g b

theorem eq1 (o : Stream) (w : FVec Ideal S1024x1024 .f32) (x : Stream) (g b : FVec Ideal S1024 .f32) :
    truncf (F := Ideal) .bf16 (REF o w x g b) bitsLt_bf16_f32 = truncf (F := Ideal) .bf16 (OUT o w x g b) bitsLt_bf16_f32 :=
  congrArg (fun y => truncf (F := Ideal) .bf16 y bitsLt_bf16_f32) (REF_eq o w x g b)

end Cert.Reference5Ideal.Read

end
-- ==== Proof.KvBody.lean ====
/-
  The memory projection's body: four blocks from the memory rows and the two halves of a layer's weights. Half a row of a
  block of lines is stored eight strips at a time, each at its own number modulo eight.
-/
module

public import proofs.«01_k».proof.Proof.Gen.Kernel6Ideal.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Rows
public import Idealize.ShloMosaic.Lib.Pipeline.ValueKit
public import Idealize.ShloMosaic.Adequacy
public import Idealize.ShloMosaic.Init

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The lines of a block -/

/-- The block of lines of `y`: line `8 * m + 4 * l + h` is row `m`'s lanes `256 * h + 128 * l` and on. -/
def lines (y : FVec F S256x1024 .f32) : Vec F S1x1x2048x128 .f32 := fun j =>
  y (ix2 ⟨(j 2).val / 8, by have : (j 2).val < 2048 := (j 2).isLt; omega⟩
    ⟨256 * ((j 2).val % 4) + 128 * ((j 2).val % 8 / 4) + (j 3).val, by have : (j 3).val < 128 := (j 3).isLt; omega⟩)

/-- Every eighth line from `g` on. -/
def rect (g : Nat) (hg : g < 8) : Rect S1x1x2048x128 where
  off := ![0, 0, g, 0]
  size := S1x1x256x128.size
  stride := ![1, 1, 8, 1]
  inb a := by
    match a with
    | ⟨0, _⟩ => exact Or.inr (show 0 + 1 * (1 - 1) < 1 by decide)
    | ⟨1, _⟩ => exact Or.inr (show 0 + 1 * (1 - 1) < 1 by decide)
    | ⟨2, _⟩ => exact Or.inr (show g + 8 * (256 - 1) < 2048 by omega)
    | ⟨3, _⟩ => exact Or.inr (show 0 + 1 * (128 - 1) < 128 by decide)
  stride_pos := by decide

theorem lines_emb (y : FVec F S256x1024 .f32) (g : Nat) (hg : g < 8) (x : (rect g hg).shape.Idx) :
    lines y ((rect g hg).emb x) = y (ix2 ⟨(x 2).val, (x 2).isLt⟩ ⟨256 * (g % 4) + 128 * (g / 4) + (x 3).val, by have : (x 3).val < 128 := (x 3).isLt; omega⟩) := by
  have h2 : ((rect g hg).emb x 2).val = g + 8 * (x 2).val := rfl
  have h3 : ((rect g hg).emb x 3).val = 0 + 1 * (x 3).val := rfl
  have hx : (x 2).val < 256 := (x 2).isLt
  unfold lines
  refine congrArg y ?_
  congr 1
  · exact Fin.ext (by show ((rect g hg).emb x 2).val / 8 = (x 2).val; rw [h2]; omega)
  · exact Fin.ext (by
      show 256 * (((rect g hg).emb x 2).val % 4) + 128 * (((rect g hg).emb x 2).val % 8 / 4) + ((rect g hg).emb x 3).val = _
      rw [h2, h3]
      show _ = 256 * (g % 4) + 128 * (g / 4) + (x 3).val
      omega)

theorem mem_rect (y : S1x1x2048x128.Idx) (g : Nat) (hg : g < 8) (h : (y 2).val % 8 = g) : y ∈ (rect g hg).set := by
  have h0 : (y 0).val < 1 := (y 0).isLt
  have h1 : (y 1).val < 1 := (y 1).isLt
  have h2 : (y 2).val < 2048 := (y 2).isLt
  rw [LoadRect.mem_set]
  intro a
  match a with
  | ⟨0, _⟩ => exact ⟨0, Nat.one_pos, show (y 0).val = 0 + 1 * 0 by omega⟩
  | ⟨1, _⟩ => exact ⟨0, Nat.one_pos, show (y 1).val = 0 + 1 * 0 by omega⟩
  | ⟨2, _⟩ => exact ⟨(y 2).val / 8, show (y 2).val / 8 < 256 by omega, show (y 2).val = g + 8 * ((y 2).val / 8) by omega⟩
  | ⟨3, _⟩ => exact ⟨(y 3).val, (y 3).isLt, show (y 3).val = 0 + 1 * (y 3).val by omega⟩

/-- A strip of `y` as it is stored. -/
def strip (y : FVec F S256x1024 .f32) (lo : Nat) (h : S256x1024.Slices ![0, lo] S256x128) : FVec F S1x1x256x128 .f32 :=
  shapeCast S1x1x256x128 (extractStridedSlice S256x128 ![0, lo] y h) shapeCasts_S256x128_S1x1x256x128

theorem strip_apply (y : FVec F S256x1024 .f32) (lo : Nat) (h : S256x1024.Slices ![0, lo] S256x128) (x : S1x1x256x128.Idx)
    (hl : lo + (x 3).val < 1024) : strip y lo h x = y (ix2 ⟨(x 2).val, (x 2).isLt⟩ ⟨lo + (x 3).val, hl⟩) := by
  have h0 : (x 0).val < 1 := (x 0).isLt
  have h1 : (x 1).val < 1 := (x 1).isLt
  have h2 : (x 2).val < 256 := (x 2).isLt
  have h3 : (x 3).val < 128 := (x 3).isLt
  pointwise [strip]

/-- The eight strips, the last stored first. -/
def pieces (y : FVec F S256x1024 .f32) : List (View.Piece (Elt F) S1x1x2048x128 .f32) :=
  [⟨rect 7 (by decide), strip y 896 slices_S256x1024_o0_896_S256x128⟩, ⟨rect 3 (by decide), strip y 768 slices_S256x1024_o0_768_S256x128⟩,
   ⟨rect 6 (by decide), strip y 640 slices_S256x1024_o0_640_S256x128⟩, ⟨rect 2 (by decide), strip y 512 slices_S256x1024_o0_512_S256x128⟩,
   ⟨rect 5 (by decide), strip y 384 slices_S256x1024_o0_384_S256x128⟩, ⟨rect 1 (by decide), strip y 256 slices_S256x1024_o0_256_S256x128⟩,
   ⟨rect 4 (by decide), strip y 128 slices_S256x1024_o0_128_S256x128⟩, ⟨rect 0 (by decide), strip y 0 slices_S256x1024_o0_0_S256x128⟩]

theorem pieces_at (y : FVec F S256x1024 .f32) : ∀ p ∈ pieces y, ∀ x : p.1.shape.Idx, p.2 x = lines y (p.1.emb x) := by
  intro p hp
  simp only [pieces, List.mem_cons, List.not_mem_nil, or_false] at hp
  have key : ∀ (g lo : Nat) (hg : g < 8) (hs : S256x1024.Slices ![0, lo] S256x128) (e : 256 * (g % 4) + 128 * (g / 4) = lo)
      (x : (rect g hg).shape.Idx), strip y lo hs x = lines y ((rect g hg).emb x) := by
    intro g lo hg hs e x
    subst e
    exact (strip_apply y _ hs x (by have : (x 3).val < 128 := (x 3).isLt; omega)).trans (lines_emb y g hg x).symm
  rcases hp with rfl | rfl | rfl | rfl | rfl | rfl | rfl | rfl
  · exact key 7 896 (by decide) slices_S256x1024_o0_896_S256x128 (by decide)
  · exact key 3 768 (by decide) slices_S256x1024_o0_768_S256x128 (by decide)
  · exact key 6 640 (by decide) slices_S256x1024_o0_640_S256x128 (by decide)
  · exact key 2 512 (by decide) slices_S256x1024_o0_512_S256x128 (by decide)
  · exact key 5 384 (by decide) slices_S256x1024_o0_384_S256x128 (by decide)
  · exact key 1 256 (by decide) slices_S256x1024_o0_256_S256x128 (by decide)
  · exact key 4 128 (by decide) slices_S256x1024_o0_128_S256x128 (by decide)
  · exact key 0 0 (by decide) slices_S256x1024_o0_0_S256x128 (by decide)

theorem cover (y : FVec F S256x1024 .f32) (j : S1x1x2048x128.Idx) : ∃ p ∈ pieces y, j ∈ p.1.set := by
  have h : (j 2).val % 8 < 8 := Nat.mod_lt _ (by decide)
  generalize hr : (j 2).val % 8 = r at h
  match r, h with
  | 0, _ => exact ⟨_, List.getElem_mem (l := pieces y) (n := 7) (show 7 < 8 by decide), mem_rect j 0 (by decide) hr⟩
  | 1, _ => exact ⟨_, List.getElem_mem (l := pieces y) (n := 5) (show 5 < 8 by decide), mem_rect j 1 (by decide) hr⟩
  | 2, _ => exact ⟨_, List.getElem_mem (l := pieces y) (n := 3) (show 3 < 8 by decide), mem_rect j 2 (by decide) hr⟩
  | 3, _ => exact ⟨_, List.getElem_mem (l := pieces y) (n := 1) (show 1 < 8 by decide), mem_rect j 3 (by decide) hr⟩
  | 4, _ => exact ⟨_, List.getElem_mem (l := pieces y) (n := 6) (show 6 < 8 by decide), mem_rect j 4 (by decide) hr⟩
  | 5, _ => exact ⟨_, List.getElem_mem (l := pieces y) (n := 4) (show 4 < 8 by decide), mem_rect j 5 (by decide) hr⟩
  | 6, _ => exact ⟨_, List.getElem_mem (l := pieces y) (n := 2) (show 2 < 8 by decide), mem_rect j 6 (by decide) hr⟩
  | 7, _ => exact ⟨_, List.getElem_mem (l := pieces y) (n := 0) (show 0 < 8 by decide), mem_rect j 7 (by decide) hr⟩

theorem read_lines (arg : Memref sig .tc .vmem S1x1x2048x128 .f32) (f : BufTy.Contents (Elt F) arg.view.ty) (y : FVec F S256x1024 .f32) :
    arg.view.read (Elt F) (arg.view.writes (Elt F) f (pieces y)) = lines y := by
  rw [View.read_writes_eq_canon _ _ _ (cover y)]
  exact funext fun j => View.canon_apply_of_pieces _ _ (pieces_at y) j (cover y j)

theorem read_whole (arg : Memref sig .tc .vmem S1x256x1024 .bf16) (f : BufTy.Contents (Elt F) arg.view.ty) (p : Vec F S1x256x1024 .bf16) :
    arg.view.read (Elt F) (arg.view.writes (Elt F) f [⟨Rect.unit (s := S1x256x1024) ![0, 0, 0] S1x256x1024.size inb_S1x256x1024_S1x256x1024_0_0_0, p⟩]) = p := by
  rw [View.read_writes_eq_canon _ _ _ (fun j => View.cover_of_tiled [⟨Rect.unit (s := S1x256x1024) ![0, 0, 0] S1x256x1024.size inb_S1x256x1024_S1x256x1024_0_0_0, p⟩] S1x256x1024.size (by rfl) j)]
  exact View.canon_unit_zero (by decide) ..

/-! ## The body -/

/-- The keys' half and the values' half of a layer's product. -/
def keys (x0 : Vec F S256x1024 .bf16) (x1 : Vec F S1x1024x2048 .bf16) : FVec F S256x1024 .f32 :=
  k0_pay2 x0 (View.ld x1 (Rect.unit (s := S1x1024x2048) ![0, 0, 0] S1x1024x1024.size inb_S1x1024x2048_S1x1024x1024_0_0_0))
def vals (x0 : Vec F S256x1024 .bf16) (x1 : Vec F S1x1024x2048 .bf16) : FVec F S256x1024 .f32 :=
  k0_pay13 (k0_pay1 x0) (View.ld x1 (Rect.unit (s := S1x1024x2048) ![0, 0, 1024] S1x1024x1024.size inb_S1x1024x2048_S1x1024x1024_0_0_1024))
/-- The rows of a half as they are stored. -/
def flat (y : FVec F S256x1024 .f32) : Vec F S1x256x1024 .bf16 := shapeCast S1x256x1024 (truncf .bf16 y bitsLt_bf16_f32) shapeCasts_S256x1024_S1x256x1024

set_option maxHeartbeats 4000000 in
/-- The body on the memory rows `x0` and a layer's weights `x1`. -/
theorem sound (c : Dev nD) (E : Set ℕ) (i : grid0.Coords) (arg2 : Memref sig .tc .vmem S256x1024 .bf16) (harg2 : arg2.IsWhole) (arg3 : Memref sig .tc .vmem S1x1024x2048 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1x2048x128 .f32) (harg6 : arg6.IsWhole) (arg7 : Memref sig .tc .vmem S1x1x2048x128 .f32) (harg7 : arg7.IsWhole)
    (x0 : Vec F S256x1024 .bf16) (x1 : Vec F S1x1024x2048 .bf16) (K : PUnit → sProp 𝕄) :
    iprop(owns (c : Thread nD τ) arg2 fullShare x0 ∗ owns (c : Thread nD τ) arg3 fullShare x1
      ∗ (∃ d, owns (c : Thread nD τ) arg4 fullShare d) ∗ (∃ d, owns (c : Thread nD τ) arg5 fullShare d)
      ∗ (∃ d, owns (c : Thread nD τ) arg6 fullShare d) ∗ (∃ d, owns (c : Thread nD τ) arg7 fullShare d)
      ∗ (iprop(owns (c : Thread nD τ) arg2 fullShare x0 ∗ owns (c : Thread nD τ) arg3 fullShare x1
          ∗ owns (c : Thread nD τ) arg4 fullShare (flat (keys x0 x1)) ∗ owns (c : Thread nD τ) arg5 fullShare (flat (vals x0 x1))
          ∗ owns (c : Thread nD τ) arg6 fullShare (lines (keys x0 x1)) ∗ owns (c : Thread nD τ) arg7 fullShare (lines (vals x0 x1))) -∗ K ⟨⟩))
    ⊢ wp frame (wpE (defs₀ (F := F)) Variants.none c none) E (cc0_memkv_proj (F := F) i arg2 harg2 arg3 harg3 arg4 harg4 arg5 harg5 arg6 harg6 arg7 harg7) K := by
  simp only [cc0_memkv_proj_eq_skeleton]
  unfold cc0_memkv_proj_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  have e0 : View.ld (arg2.view.read (Elt F) f0) (Rect.unit (s := S256x1024) ![0, 0] S256x1024.size inb_S256x1024_S256x1024_0_0) = arg2.view.read (Elt F) f0 :=
    View.ld_unit_zero (by decide) ..
  isplitl [H0]
  · iexists f0; isplitr
    · ipureintro; rfl
    iexact H0
  isplitl [H1]
  · iexists f1; isplitr
    · ipureintro; rfl
    iexact H1
  isplitl [H2]
  · iexists _
    isplitr
    swap
    · iexact H2
    ipureintro
    rw [← e0]
    exact read_whole arg4 _ _
  isplitl [H3]
  · iexists _
    isplitr
    swap
    · iexact H3
    ipureintro
    rw [← e0]
    exact read_whole arg5 _ _
  isplitl [H4]
  · iexists _
    isplitr
    swap
    · iexact H4
    ipureintro
    rw [← e0]
    exact read_lines arg6 _ _
  iexists _
  isplitr
  swap
  · iexact H5
  ipureintro
  rw [← e0]
  exact read_lines arg7 _ _

/-! ## The launch -/

variable (m : (ℓ : Loc nD τ sig) → Buf (Elt F) ℓ) (ρ : Dev nD → PrngReg)

/-- The proof data: each input's block in place, each output's block as the body stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => flat (keys (iblk m c 0 t) (iblk m c 1 t))
    | ⟨3, _⟩ => flat (vals (iblk m c 0 t) (iblk m c 1 t))
    | ⟨4, _⟩ => lines (keys (iblk m c 0 t) (iblk m c 1 t))
    | ⟨5, _⟩ => lines (vals (iblk m c 0 t) (iblk m c 1 t))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = flat (keys (iblk m c 0 t) (iblk m c 1 t)) := by dsimp only [dats]
theorem after0_3 (c : Dev nD) (t : Fin cfg0.N) : (dats m 0 c).after 3 t = flat (vals (iblk m c 0 t) (iblk m c 1 t)) := by dsimp only [dats]
theorem after0_4 (c : Dev nD) (t : Fin cfg0.N) : (dats m 0 c).after 4 t = lines (keys (iblk m c 0 t) (iblk m c 1 t)) := by dsimp only [dats]
theorem after0_5 (c : Dev nD) (t : Fin cfg0.N) : (dats m 0 c).after 5 t = lines (vals (iblk m c 0 t) (iblk m c 1 t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

attribute [local irreducible] flat lines keys vals cc0_memkv_proj in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every array of the launch as its blocks leave it, every other as the launch found it, and no semaphore up. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- The frame: the arguments end as they were, and no semaphore is up. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩) (run_main m ρ)

/-- The run's results, window by window. -/
theorem run_blocks : θ_run defs (onTc (τ := τ) (main (F := F))) ⟨m, fun _ => 0, ρ⟩ (fun r => ∀ c : Dev nD,
      r.2.mem ((c.tc : Thread nD τ).loc main_v3_0) = (dats m 0 c).arrAt 2 cfg0.N
      ∧ r.2.mem ((c.tc : Thread nD τ).loc main_v3_1) = (dats m 0 c).arrAt 3 cfg0.N
      ∧ r.2.mem ((c.tc : Thread nD τ).loc main_v3_2) = (dats m 0 c).arrAt 4 cfg0.N
      ∧ r.2.mem ((c.tc : Thread nD τ).loc main_v3_3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h.1 c).1 2, (h.1 c).1 3, (h.1 c).1 4, (h.1 c).1 5,
       ((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩) (run_main m ρ)

end Cert.Kernel6Ideal.Body

end
-- ==== Proof.Kv.lean ====
/-
  The memory projection: what the kernel leaves.
-/
module

public import proofs.«01_k».proof.Proof.KvBody

@[expose] public section

set_option maxRecDepth 16384

noncomputable section

namespace Cert.Kv

open Idealize.ShloMosaic

/-- An entry of layer `d`'s projection of memory token `p` of sequence `b`. -/
def entry (x : FVec Ideal ⟨3, ![8, 256, 1024]⟩ .f32) (w : FVec Ideal ⟨3, ![4, 1024, 2048]⟩ .f32) (d : Fin 4) (b : Fin 8) (p : Fin 256) (n : Fin 2048) : EReal :=
  ∑ y : Fin 1024, x (ix3 b p y) * w (ix3 d y n)

/-- A half (the keys, then the values), a row for each token. -/
def ROWS (x : FVec Ideal ⟨3, ![8, 256, 1024]⟩ .f32) (w : FVec Ideal ⟨3, ![4, 1024, 2048]⟩ .f32) (j : Fin 2) : FVec Ideal ⟨3, ![4, 2048, 1024]⟩ .bf16 := fun i =>
  entry x w (i 0) ⟨(i 1).val / 256, by have : (i 1).val < 2048 := (i 1).isLt; omega⟩ ⟨(i 1).val % 256, by omega⟩
    ⟨1024 * j.val + (i 2).val, by have : (i 2).val < 1024 := (i 2).isLt; omega⟩

/-- A half in lines of 128: for each token the lines of the heads' first lanes, then those of their last ones. -/
def LINES (x : FVec Ideal ⟨3, ![8, 256, 1024]⟩ .f32) (w : FVec Ideal ⟨3, ![4, 1024, 2048]⟩ .f32) (j : Fin 2) : FVec Ideal ⟨4, ![4, 8, 2048, 128]⟩ .f32 := fun i =>
  entry x w (i 0) (i 1) ⟨(i 2).val / 8, by have : (i 2).val < 2048 := (i 2).isLt; omega⟩
    ⟨1024 * j.val + (256 * ((i 2).val % 4) + 128 * ((i 2).val % 8 / 4) + (i 3).val), by have : (i 3).val < 128 := (i 3).isLt; omega⟩

end Cert.Kv

namespace Cert.Kernel6Ideal.Read

open Cert.Kernel6Ideal Cert.Kernel6Ideal.Gen Cert.Kernel6Ideal.Body Cert.Kv
open Idealize.ShloMosaic Idealize.ShloMosaic.TcCoe Idealize.ShloMosaic.Tactic Idealize.SL.Sem

variable (m : (ℓ : Loc nD τ sig) → Buf (Elt Ideal) ℓ)

section
variable (x0 : FVec Ideal S256x1024 .bf16) (x1 : FVec Ideal S1x1024x2048 .bf16)

theorem prod_at (w : FVec Ideal S1x1024x1024 .bf16) (r : Fin 256) (l : Fin 1024) :
    k0_pay2 (F := Ideal) x0 w (ix2 r l) = ∑ y : Fin 1024, x0 (ix2 r y) * w (ix3 0 y l) := by
  pointwise [k0_pay2, k0_pay1]
theorem prod'_at (w : FVec Ideal S1x1024x1024 .bf16) (r : Fin 256) (l : Fin 1024) :
    k0_pay13 (F := Ideal) (k0_pay1 x0) w (ix2 r l) = ∑ y : Fin 1024, x0 (ix2 r y) * w (ix3 0 y l) := by
  pointwise [k0_pay13, k0_pay1]

theorem keys_at (r : Fin 256) (l : Fin 1024) : keys (F := Ideal) x0 x1 (ix2 r l) = ∑ y : Fin 1024, x0 (ix2 r y) * x1 (ix3 0 y ⟨l.val, by omega⟩) := by
  refine (prod_at _ _ _ _).trans ?_
  pointwise
  first | done | rfl
theorem vals_at (r : Fin 256) (l : Fin 1024) : vals (F := Ideal) x0 x1 (ix2 r l) = ∑ y : Fin 1024, x0 (ix2 r y) * x1 (ix3 0 y ⟨1024 + l.val, by omega⟩) := by
  refine (prod'_at _ _ _ _).trans ?_
  pointwise
  first | done | rfl
theorem flat_at (y : FVec Ideal S256x1024 .f32) (r : Fin 256) (l : Fin 1024) : Body.flat (F := Ideal) y (ix3 0 r l) = y (ix2 r l) := by
  pointwise [Body.flat]
end

def rows (x : FVec Ideal S8x256x1024 .f32) : FVec Ideal S2048x1024 .f32 := shapeCast S2048x1024 x shapeCasts_S8x256x1024_S2048x1024

theorem V_v1 (c : Dev nD) : V m c main_v1 = truncf (F := Ideal) .bf16 (rows (m ((c.tc : Thread nD τ).loc main_arg0))) bitsLt_bf16_f32 := by
  simp only [V, hostOps0]
  after_results_simp <;> rfl
theorem V_v2 (c : Dev nD) : V m c main_v2 = truncf (F := Ideal) (s := S4x1024x2048) .bf16 (m ((c.tc : Thread nD τ).loc main_arg1)) bitsLt_bf16_f32 := by
  simp only [V, hostOps0]
  after_results_simp <;> rfl

theorem rows_at (x : FVec Ideal S8x256x1024 .f32) (b : Fin 8) (p : Fin 256) (l : Fin 1024) :
    rows x (ix2 (⟨256 * b.val + p.val, by omega⟩ : Fin 2048) l) = x (ix3 b p l) := by
  pointwise [rows]

theorem idx : ∀ t : Fin cfg0.N,
    win0_0.index t = ![t.val % 8, 0] ∧ win0_1.index t = ![t.val / 8, 0, 0] ∧ win0_2.index t = ![t.val / 8, t.val % 8, 0] ∧ win0_3.index t = ![t.val / 8, t.val % 8, 0] ∧
    win0_4.index t = ![t.val / 8, t.val % 8, 0, 0] ∧ win0_5.index t = ![t.val / 8, t.val % 8, 0, 0] :=
  (by decide +kernel : ∀ t : Fin grid0.N, _)

theorem tlt (t : Fin cfg0.N) : t.val < 32 := t.isLt

/-- The layer and the sequence of a point. -/
def lay (t : Fin cfg0.N) : Fin 4 := ⟨t.val / 8, by have := tlt t; omega⟩
def seqOf (t : Fin cfg0.N) : Fin 8 := ⟨t.val % 8, by omega⟩
def row (t : Fin cfg0.N) (r : Fin 256) : Fin 2048 := ⟨256 * (seqOf t).val + r.val, by omega⟩

theorem emb0 (t : Fin cfg0.N) (r : Fin 256) (l : Fin 1024) : ((cfg0.win 0).blk t).view.emb (ix2 r l) = (ix2 (row t r) l : S2048x1024.Idx) := by
  blk_ext [idx t, row, seqOf]
theorem emb1 (t : Fin cfg0.N) (y : Fin 1024) (l : Fin 2048) : ((cfg0.win 1).blk t).view.emb (ix3 0 y l) = (ix3 (lay t) y l : S4x1024x2048.Idx) := by
  blk_ext [idx t, lay]
theorem emb2 (t : Fin cfg0.N) (r : Fin 256) (l : Fin 1024) : ((cfg0.win 2).blk t).view.emb (ix3 0 r l) = (ix3 (lay t) (row t r) l : S4x2048x1024.Idx) := by
  blk_ext [idx t, row, lay, seqOf]
theorem emb3 (t : Fin cfg0.N) (r : Fin 256) (l : Fin 1024) : ((cfg0.win 3).blk t).view.emb (ix3 0 r l) = (ix3 (lay t) (row t r) l : S4x2048x1024.Idx) := by
  blk_ext [idx t, row, lay, seqOf]
theorem emb4 (t : Fin cfg0.N) (r : Fin 2048) (l : Fin 128) : ((cfg0.win 4).blk t).view.emb (ix4 0 0 r l) = (ix4 (lay t) (seqOf t) r l : S4x8x2048x128.Idx) := by
  blk_ext [idx t, lay, seqOf]
theorem emb5 (t : Fin cfg0.N) (r : Fin 2048) (l : Fin 128) : ((cfg0.win 5).blk t).view.emb (ix4 0 0 r l) = (ix4 (lay t) (seqOf t) r l : S4x8x2048x128.Idx) := by
  blk_ext [idx t, lay, seqOf]

section
variable (c : Dev nD) (t : Fin cfg0.N)

theorem iblk0 (r : Fin 256) (l : Fin 1024) : iblk m c 0 t (ix2 r l) = (m ((c.tc : Thread nD τ).loc main_arg0) : FVec Ideal S8x256x1024 .f32) (ix3 (seqOf t) r l) :=
  (congrArg (V m c main_v1) (emb0 t r l)).trans (by rw [V_v1]; exact rows_at _ _ _ _)
theorem iblk1 (y : Fin 1024) (l : Fin 2048) : iblk m c 1 t (ix3 0 y l) = (m ((c.tc : Thread nD τ).loc main_arg1) : FVec Ideal S4x1024x2048 .f32) (ix3 (lay t) y l) :=
  (congrArg (V m c main_v2) (emb1 t y l)).trans (by rw [V_v2]; rfl)

abbrev ent (r : Fin 256) (n : Fin 2048) : EReal :=
  entry (m ((c.tc : Thread nD τ).loc main_arg0)) (m ((c.tc : Thread nD τ).loc main_arg1)) (lay t) (seqOf t) r n

theorem keys_ent (r : Fin 256) (l : Fin 1024) : keys (iblk m c 0 t) (iblk m c 1 t) (ix2 r l) = ent m c t r ⟨l.val, by omega⟩ := by
  refine (keys_at _ _ _ _).trans ?_
  simp only [iblk0, iblk1]
  rfl
theorem vals_ent (r : Fin 256) (l : Fin 1024) : vals (iblk m c 0 t) (iblk m c 1 t) (ix2 r l) = ent m c t r ⟨1024 + l.val, by omega⟩ := by
  refine (vals_at _ _ _ _).trans ?_
  simp only [iblk0, iblk1]
  rfl

/-- What the kernel leaves, by its arguments. -/
abbrev RES (j : Fin 2) : FVec Ideal S4x2048x1024 .bf16 := ROWS (m ((c.tc : Thread nD τ).loc main_arg0)) (m ((c.tc : Thread nD τ).loc main_arg1)) j
abbrev RESL (j : Fin 2) : FVec Ideal S4x8x2048x128 .f32 := LINES (m ((c.tc : Thread nD τ).loc main_arg0)) (m ((c.tc : Thread nD τ).loc main_arg1)) j

theorem res_at (j : Fin 2) (r : Fin 256) (l : Fin 1024) : RES m c j (ix3 (lay t) (row t r) l) = ent m c t r ⟨1024 * j.val + l.val, by omega⟩ := by
  have e1 : (⟨(row t r).val / 256, by omega⟩ : Fin 8) = seqOf t := Fin.ext (by
    show (256 * (seqOf t).val + r.val) / 256 = _
    omega)
  have e2 : (⟨(row t r).val % 256, by omega⟩ : Fin 256) = r := Fin.ext (by
    show (256 * (seqOf t).val + r.val) % 256 = _
    omega)
  show entry _ _ (lay t) ⟨(row t r).val / 256, _⟩ ⟨(row t r).val % 256, _⟩ _ = _
  rw [e1, e2]
  rfl

theorem ent_eq (r : Fin 256) {n n' : Fin 2048} (h : n.val = n'.val) : ent m c t r n = ent m c t r n' := by
  rw [Fin.ext h]
end

theorem final2 (c : Dev nD) : (dats m 0 c).arrAt 2 cfg0.N = RES m c 0 := by
  refine (dats m 0 c).arrAt_eq_of_covers 2 _ (by decide +kernel) fun t _ y => ?_
  blk_simp
  rw [after0_2]
  have h : ∀ y : S1x256x1024.Idx, Body.flat (keys (iblk m c 0 t) (iblk m c 1 t)) y = RES m c 0 (((cfg0.win 2).blk t).view.emb y) := by
    have h : ∀ (a : Fin 1) (r : Fin 256) (l : Fin 1024), Body.flat (keys (iblk m c 0 t) (iblk m c 1 t)) (ix3 a r l) = RES m c 0 (((cfg0.win 2).blk t).view.emb (ix3 a r l)) := by
      intro a r l
      rw [Subsingleton.elim a 0, emb2, res_at, flat_at, keys_ent]
      exact ent_eq m c t r (by simp)
    intro y
    rw [eq_ix3 y]
    exact h _ _ _
  exact h y

theorem final3 (c : Dev nD) : (dats m 0 c).arrAt 3 cfg0.N = RES m c 1 := by
  refine (dats m 0 c).arrAt_eq_of_covers 3 _ (by decide +kernel) fun t _ y => ?_
  blk_simp
  rw [after0_3]
  have h : ∀ y : S1x256x1024.Idx, Body.flat (vals (iblk m c 0 t) (iblk m c 1 t)) y = RES m c 1 (((cfg0.win 3).blk t).view.emb y) := by
    have h : ∀ (a : Fin 1) (r : Fin 256) (l : Fin 1024), Body.flat (vals (iblk m c 0 t) (iblk m c 1 t)) (ix3 a r l) = RES m c 1 (((cfg0.win 3).blk t).view.emb (ix3 a r l)) := by
      intro a r l
      rw [Subsingleton.elim a 0, emb3, res_at, flat_at, vals_ent]
      exact ent_eq m c t r (by simp)
    intro y
    rw [eq_ix3 y]
    exact h _ _ _
  exact h y

theorem final4 (c : Dev nD) : (dats m 0 c).arrAt 4 cfg0.N = RESL m c 0 := by
  refine (dats m 0 c).arrAt_eq_of_covers 4 _ (by decide +kernel) fun t _ y => ?_
  blk_simp
  rw [after0_4]
  have h : ∀ y : S1x1x2048x128.Idx, lines (keys (iblk m c 0 t) (iblk m c 1 t)) y = RESL m c 0 (((cfg0.win 4).blk t).view.emb y) := by
    have h : ∀ (a b : Fin 1) (r : Fin 2048) (l : Fin 128), lines (keys (iblk m c 0 t) (iblk m c 1 t)) (ix4 a b r l) = RESL m c 0 (((cfg0.win 4).blk t).view.emb (ix4 a b r l)) := by
      intro a b r l
      rw [Subsingleton.elim a 0, Subsingleton.elim b 0, emb4]
      refine (keys_ent m c t _ _).trans (ent_eq m c t _ ?_)
      simp
    intro y
    rw [eq_ix4 y]
    exact h _ _ _ _
  exact h y

theorem final5 (c : Dev nD) : (dats m 0 c).arrAt 5 cfg0.N = RESL m c 1 := by
  refine (dats m 0 c).arrAt_eq_of_covers 5 _ (by decide +kernel) fun t _ y => ?_
  blk_simp
  rw [after0_5]
  have h : ∀ y : S1x1x2048x128.Idx, lines (vals (iblk m c 0 t) (iblk m c 1 t)) y = RESL m c 1 (((cfg0.win 5).blk t).view.emb y) := by
    have h : ∀ (a b : Fin 1) (r : Fin 2048) (l : Fin 128), lines (vals (iblk m c 0 t) (iblk m c 1 t)) (ix4 a b r l) = RESL m c 1 (((cfg0.win 5).blk t).view.emb (ix4 a b r l)) := by
      intro a b r l
      rw [Subsingleton.elim a 0, Subsingleton.elim b 0, emb5]
      refine (vals_ent m c t _ _).trans (ent_eq m c t _ ?_)
      simp
    intro y
    rw [eq_ix4 y]
    exact h _ _ _ _
  exact h y

end Cert.Kernel6Ideal.Read

end
-- ==== Proof.KvRef.lean ====
/-
  The memory projection's reference read entry by entry.
-/
module

public import proofs.«01_k».proof.Proof.Gen.Reference6Ideal.Run
public import proofs.«01_k».proof.Proof.Kv

@[expose] public section

set_option maxRecDepth 16384

noncomputable section

namespace Cert.Reference6Ideal.Read

open Cert.Reference6Ideal Cert.Reference6Ideal.Gen Cert.Kv
open Idealize.ShloMosaic Idealize.ShloMosaic.TcCoe Idealize.SL.Sem

section
variable (x : FVec Ideal S8x256x1024 .f32) (w : FVec Ideal S4x1024x2048 .f32)

def both : FVec Ideal S4x8x256x2048 .f32 :=
  transpose S4x8x256x2048 [0, 2, 3, 1] (Host.dotGeneral dot_S4x1024x2048_S8x256x1024_S4x2048x8x256_1_2_02_01_n_n none w x) transposes_S4x2048x8x256_S4x8x256x2048_0_2_3_1
def half0 : FVec Ideal S4x8x256x1024 .f32 := extractStridedSlice S4x8x256x1024 ![0, 0, 0, 0] (both x w) slices_S4x8x256x2048_S4x8x256x1024_0_0_0_0
def half1 : FVec Ideal S4x8x256x1024 .f32 := extractStridedSlice S4x8x256x1024 ![0, 0, 0, 1024] (both x w) slices_S4x8x256x2048_S4x8x256x1024_0_0_0_1024
def rows (y : FVec Ideal S4x8x256x1024 .f32) : FVec Ideal S4x2048x1024 .bf16 := truncf .bf16 (shapeCast S4x2048x1024 y shapeCasts_S4x8x256x1024_S4x2048x1024) bitsLt_bf16_f32
def split (y : FVec Ideal S4x8x256x1024 .f32) : FVec Ideal S4x8x256x4x2x128 .f32 := shapeCast S4x8x256x4x2x128 y shapeCasts_S4x8x256x1024_S4x8x256x4x2x128
def swap (y : FVec Ideal S4x8x256x4x2x128 .f32) : FVec Ideal S4x8x256x2x4x128 .f32 :=
  transpose S4x8x256x2x4x128 [0, 1, 2, 4, 3, 5] y transposes_S4x8x256x4x2x128_S4x8x256x2x4x128_0_1_2_4_3_5
def join (y : FVec Ideal S4x8x256x2x4x128 .f32) : FVec Ideal S4x8x2048x128 .f32 := shapeCast S4x8x2048x128 y shapeCasts_S4x8x256x2x4x128_S4x8x2048x128

theorem both_at (d : Fin 4) (b : Fin 8) (p : Fin 256) (n : Fin 2048) : both x w (ix4 d b p n) = entry x w d b p n := by
  pointwise [both, entry]
  exact Finset.sum_congr rfl fun y _ => EReal.mul_comm ..
theorem half0_at (d : Fin 4) (b : Fin 8) (p : Fin 256) (n : Fin 1024) : half0 x w (ix4 d b p n) = entry x w d b p ⟨n.val, by omega⟩ := by
  pointwise [half0, both_at]
  first | done | rfl
theorem half1_at (d : Fin 4) (b : Fin 8) (p : Fin 256) (n : Fin 1024) : half1 x w (ix4 d b p n) = entry x w d b p ⟨1024 + n.val, by omega⟩ := by
  pointwise [half1, both_at]
  first | done | rfl
theorem rows_at (y : FVec Ideal S4x8x256x1024 .f32) (d : Fin 4) (r : Fin 2048) (n : Fin 1024) :
    rows y (ix3 d r n) = y (ix4 d (⟨r.val / 256, by omega⟩ : Fin 8) (⟨r.val % 256, by omega⟩ : Fin 256) n) := by
  pointwise [rows]
theorem lines_at (y : FVec Ideal S4x8x256x1024 .f32) (d : Fin 4) (b : Fin 8) (r : Fin 2048) (e : Fin 128) :
    join (swap (split y)) (ix4 d b r e) = y (ix4 d b (⟨r.val / 8, by omega⟩ : Fin 256) (⟨256 * (r.val % 4) + 128 * (r.val % 8 / 4) + e.val, by omega⟩ : Fin 1024)) := by
  have k : ∀ {n n' : Nat} (hn : n < 1024) (hn' : n' < 1024), n = n' → ∀ (q : Fin 256), y (ix4 d b q ⟨n, hn⟩) = y (ix4 d b q ⟨n', hn'⟩) := by
    rintro _ _ _ _ rfl _
    rfl
  pointwise [join, swap, split]
  exact k _ _ (by omega) _

theorem ent_eq (d : Fin 4) (b : Fin 8) (p : Fin 256) {n n' : Fin 2048} (h : n.val = n'.val) : entry x w d b p n = entry x w d b p n' := by
  rw [Fin.ext h]

theorem eq0 : rows (half0 x w) = ROWS x w 0 := by
  have h : ∀ (d : Fin 4) (r : Fin 2048) (l : Fin 1024), rows (half0 x w) (ix3 d r l) = ROWS x w 0 (ix3 d r l) := by
    intro d r l
    rw [rows_at, half0_at]
    exact ent_eq x w _ _ _ (by simp)
  funext i
  rw [eq_ix3 i]
  exact h _ _ _
theorem eq1 : rows (half1 x w) = ROWS x w 1 := by
  have h : ∀ (d : Fin 4) (r : Fin 2048) (l : Fin 1024), rows (half1 x w) (ix3 d r l) = ROWS x w 1 (ix3 d r l) := by
    intro d r l
    rw [rows_at, half1_at]
    exact ent_eq x w _ _ _ (by simp)
  funext i
  rw [eq_ix3 i]
  exact h _ _ _
theorem eq2 : join (swap (split (half0 x w))) = LINES x w 0 := by
  have h : ∀ (d : Fin 4) (b : Fin 8) (r : Fin 2048) (l : Fin 128), join (swap (split (half0 x w))) (ix4 d b r l) = LINES x w 0 (ix4 d b r l) := by
    intro d b r l
    rw [lines_at, half0_at]
    exact ent_eq x w _ _ _ (by simp)
  funext i
  rw [eq_ix4 i]
  exact h _ _ _ _
theorem eq3 : join (swap (split (half1 x w))) = LINES x w 1 := by
  have h : ∀ (d : Fin 4) (b : Fin 8) (r : Fin 2048) (l : Fin 128), join (swap (split (half1 x w))) (ix4 d b r l) = LINES x w 1 (ix4 d b r l) := by
    intro d b r l
    rw [lines_at, half1_at]
    exact ent_eq x w _ _ _ (by simp)
  funext i
  rw [eq_ix4 i]
  exact h _ _ _ _
end

def val0 (m : (ℓ : Loc nD τ sig) → Buf (Elt Ideal) ℓ) (c : Dev nD) : FVec Ideal S4x2048x1024 .bf16 :=
  rows (half0 (m ((c.tc : Thread nD τ).loc main_arg0)) (m ((c.tc : Thread nD τ).loc main_arg1)))
def val1 (m : (ℓ : Loc nD τ sig) → Buf (Elt Ideal) ℓ) (c : Dev nD) : FVec Ideal S4x2048x1024 .bf16 :=
  rows (half1 (m ((c.tc : Thread nD τ).loc main_arg0)) (m ((c.tc : Thread nD τ).loc main_arg1)))
def val2 (m : (ℓ : Loc nD τ sig) → Buf (Elt Ideal) ℓ) (c : Dev nD) : FVec Ideal S4x8x2048x128 .f32 :=
  join (swap (split (half0 (m ((c.tc : Thread nD τ).loc main_arg0)) (m ((c.tc : Thread nD τ).loc main_arg1)))))
def val3 (m : (ℓ : Loc nD τ sig) → Buf (Elt Ideal) ℓ) (c : Dev nD) : FVec Ideal S4x8x2048x128 .f32 :=
  join (swap (split (half1 (m ((c.tc : Thread nD τ).loc main_arg0)) (m ((c.tc : Thread nD τ).loc main_arg1)))))

end Cert.Reference6Ideal.Read

end
-- ==== Proof.ConvBody.lean ====
/-
  The gated convolution's body: a block of rows gated into the scratch, two rows before it kept from the block before, and
  three taps over the rows as they then lie.
-/
module

public import proofs.«01_k».proof.Proof.Gen.Kernel7Ideal.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Rows
public import Idealize.ShloMosaic.Lib.Pipeline.ValueKit
public import Idealize.ShloMosaic.Lib.VecWindow
public import Idealize.ShloMosaic.Adequacy
public import Idealize.ShloMosaic.Init

@[expose] public section

set_option maxRecDepth 16384

noncomputable section

namespace Cert.Kernel7Ideal.Body

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- A block's rows as they go into the scratch. -/
def hid (x0 : Vec F S256x1024 .f32) (x1 : Vec F S1024x3072 .bf16) : FVec F S256x1024 .f32 :=
  k0_pay6 x0 (View.ld x1 (Rect.unit (s := S1024x3072) ![0, 1024] S1024x1024.size inb_S1024x3072_S1024x1024_0_1024))
    (View.ld x1 (Rect.unit (s := S1024x3072) ![0, 2048] S1024x1024.size inb_S1024x3072_S1024x1024_0_2048))

/-- The scratch's last two rows. -/
def tail (y : Vec F S264x1024 .f32) : Vec F S2x1024 .f32 :=
  View.ld y (Rect.unit (s := S264x1024) ![262, 0] S2x1024.size inb_S264x1024_S2x1024_262_0)

/-- The scratch once the two rows before the block and the block itself are in. -/
def scr (y : Vec F S264x1024 .f32) (s : Vec F S2x1024 .f32) (h : Vec F S256x1024 .f32) : Vec F S264x1024 .f32 :=
  VecWindow.put (VecWindow.put y ![6, 0] S2x1024.size s) ![8, 0] S256x1024.size h

/-- The block's rows from the scratch. -/
def res (x0 : Vec F S256x1024 .f32) (x1 : Vec F S1024x3072 .bf16) (x2 : Vec F S3x1024 .f32) (x3 : Vec F S1024x1024 .bf16) (x5 x6 : Vec F S1x1024 .f32)
    (y : Vec F S264x1024 .f32) : FVec F S256x1024 .f32 :=
  k0_pay8 (k0_pay5 x0)
    (k0_pay7 (View.ld y (Rect.unit (s := S264x1024) ![6, 0] S256x1024.size inb_S264x1024_S256x1024_6_0)) (View.ld x2 (Rect.unit (s := S3x1024) ![0, 0] S1x1024.size inb_S3x1024_S1x1024_0_0))
      (View.ld y (Rect.unit (s := S264x1024) ![7, 0] S256x1024.size inb_S264x1024_S256x1024_7_0)) (View.ld x2 (Rect.unit (s := S3x1024) ![1, 0] S1x1024.size inb_S3x1024_S1x1024_1_0)))
    (View.ld y (Rect.unit (s := S264x1024) ![8, 0] S256x1024.size inb_S264x1024_S256x1024_8_0)) (View.ld x2 (Rect.unit (s := S3x1024) ![2, 0] S1x1024.size inb_S3x1024_S1x1024_2_0))
    (View.ld x1 (Rect.unit (s := S1024x3072) ![0, 0] S1024x1024.size inb_S1024x3072_S1024x1024_0_0)) x3 x0 x5 x6

abbrev c1 (i : grid0.Coords) : BitVec 1 := Scalar.cmpi .ne (Scalar.extui (Scalar.cmpi .eq (BitVec.ofNat 32 (i 1).val) 0#32) : BitVec 32) 0#32
abbrev c2 (i : grid0.Coords) : BitVec 1 := Scalar.cmpi .ne (Scalar.extui (Scalar.cmpi .sgt (BitVec.ofNat 32 (i 1).val) 0#32) : BitVec 32) 0#32

theorem scr_read (arg : Memref sig .tc .vmem S264x1024 .f32) (f : BufTy.Contents (Elt F) arg.view.ty) (s : Vec F S2x1024 .f32) (h : Vec F S256x1024 .f32) :
    arg.view.read (Elt F) (arg.view.writes (Elt F) f
        [⟨Rect.unit (s := S264x1024) ![8, 0] S256x1024.size inb_S264x1024_S256x1024_8_0, h⟩, ⟨Rect.unit (s := S264x1024) ![6, 0] S2x1024.size inb_S264x1024_S2x1024_6_0, s⟩])
      = scr (arg.view.read (Elt F) f) s h := by
  rw [View.read_writes_cons_put _ _ _ _ _ rfl, View.read_writes_cons_put _ _ _ _ _ rfl]
  rfl

theorem scr_indep (y y' : Vec F S264x1024 .f32) (s : Vec F S2x1024 .f32) (h : Vec F S256x1024 .f32) (i : S264x1024.Idx) (hi : 6 ≤ (i 0).val) :
    scr y s h i = scr y' s h i := by
  have h0 : (i 0).val < 264 := (i 0).isLt
  have h1 : (i 1).val < 1024 := (i 1).isLt
  unfold scr VecWindow.put
  split
  · rfl
  · rename_i n
    split
    · rfl
    · rename_i k
      exfalso
      by_cases hr : (i 0).val < 8
      · exact k fun a => match a with
          | ⟨0, _⟩ => ⟨hi, show (i 0).val < 6 + 2 by omega⟩
          | ⟨1, _⟩ => ⟨Nat.zero_le _, show (i 1).val < 0 + 1024 by omega⟩
      · exact n fun a => match a with
          | ⟨0, _⟩ => ⟨show 8 ≤ (i 0).val by omega, show (i 0).val < 8 + 256 by omega⟩
          | ⟨1, _⟩ => ⟨Nat.zero_le _, show (i 1).val < 0 + 1024 by omega⟩

/-- The scratch's stores of a point, the last first. -/
def pcs (s : Vec F S2x1024 .f32) (h : Vec F S256x1024 .f32) : List (View.Piece (Elt F) S264x1024 .f32) :=
  [⟨Rect.unit (s := S264x1024) ![8, 0] S256x1024.size inb_S264x1024_S256x1024_8_0, h⟩, ⟨Rect.unit (s := S264x1024) ![6, 0] S2x1024.size inb_S264x1024_S2x1024_6_0, s⟩]

theorem scr_cov (arg : Memref sig .tc .vmem S264x1024 .f32) (y : Vec F S264x1024 .f32) (s : Vec F S2x1024 .f32) (h : Vec F S256x1024 .f32) (r : Rect S264x1024)
    (hr : ∀ x, 6 ≤ (r.emb x 0).val) : arg.view.readCov (pcs s h) r.toLoadRect = View.ld (scr y s h) r := by
  funext x
  show arg.view.read (Elt F) (arg.view.writes (Elt F) arg.view.junk (pcs s h)) (r.emb x) = scr y s h (r.emb x)
  exact (congrFun (scr_read arg _ s h) (r.emb x)).trans (scr_indep _ _ _ _ _ (hr x))

theorem tail_cov (arg : Memref sig .tc .vmem S264x1024 .f32) (y : Vec F S264x1024 .f32) (s : Vec F S2x1024 .f32) (h : Vec F S256x1024 .f32) :
    arg.view.readCov (pcs s h) (Rect.unit (s := S264x1024) ![262, 0] S2x1024.size inb_S264x1024_S2x1024_262_0).toLoadRect = tail (scr y s h) :=
  scr_cov arg y s h _ fun x => show 6 ≤ 262 + 1 * (x 0).val by omega

/-- The block's rows, the scratch read back off its stores. -/
def resC (arg : Memref sig .tc .vmem S264x1024 .f32) (x0 : Vec F S256x1024 .f32) (x1 : Vec F S1024x3072 .bf16) (x2 : Vec F S3x1024 .f32) (x3 : Vec F S1024x1024 .bf16) (x5 x6 : Vec F S1x1024 .f32)
    (p : List (View.Piece (Elt F) S264x1024 .f32)) : FVec F S256x1024 .f32 :=
  k0_pay8 (k0_pay5 x0)
    (k0_pay7 (arg.view.readCov p (Rect.unit (s := S264x1024) ![6, 0] S256x1024.size inb_S264x1024_S256x1024_6_0).toLoadRect) (View.ld x2 (Rect.unit (s := S3x1024) ![0, 0] S1x1024.size inb_S3x1024_S1x1024_0_0))
      (arg.view.readCov p (Rect.unit (s := S264x1024) ![7, 0] S256x1024.size inb_S264x1024_S256x1024_7_0).toLoadRect) (View.ld x2 (Rect.unit (s := S3x1024) ![1, 0] S1x1024.size inb_S3x1024_S1x1024_1_0)))
    (arg.view.readCov p (Rect.unit (s := S264x1024) ![8, 0] S256x1024.size inb_S264x1024_S256x1024_8_0).toLoadRect) (View.ld x2 (Rect.unit (s := S3x1024) ![2, 0] S1x1024.size inb_S3x1024_S1x1024_2_0))
    (View.ld x1 (Rect.unit (s := S1024x3072) ![0, 0] S1024x1024.size inb_S1024x3072_S1024x1024_0_0)) x3 x0 x5 x6

theorem resC_eq (arg : Memref sig .tc .vmem S264x1024 .f32) (x0 : Vec F S256x1024 .f32) (x1 : Vec F S1024x3072 .bf16) (x2 : Vec F S3x1024 .f32) (x3 : Vec F S1024x1024 .bf16) (x5 x6 : Vec F S1x1024 .f32)
    (y : Vec F S264x1024 .f32) (s : Vec F S2x1024 .f32) (h : Vec F S256x1024 .f32) :
    resC arg x0 x1 x2 x3 x5 x6 (pcs s h) = res x0 x1 x2 x3 x5 x6 (scr y s h) := by
  unfold resC res
  rw [scr_cov arg y s h (Rect.unit (s := S264x1024) ![6, 0] S256x1024.size inb_S264x1024_S256x1024_6_0) fun x => show 6 ≤ 6 + 1 * (x 0).val by omega,
    scr_cov arg y s h (Rect.unit (s := S264x1024) ![7, 0] S256x1024.size inb_S264x1024_S256x1024_7_0) fun x => show 6 ≤ 7 + 1 * (x 0).val by omega,
    scr_cov arg y s h (Rect.unit (s := S264x1024) ![8, 0] S256x1024.size inb_S264x1024_S256x1024_8_0) fun x => show 6 ≤ 8 + 1 * (x 0).val by omega]

set_option maxHeartbeats 4000000 in
/-- The body at the first block of a sequence. -/
theorem sound_first (c : Dev nD) (E : Set ℕ) (i : grid0.Coords) (h1 : c1 i = 1#1) (h2 : ¬ c2 i = 1#1) (h3 : ¬ k0_cond3 i = 1#1) (arg2 : Memref sig .tc .vmem S256x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x2x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S264x1024 .f32) (harg12 : arg12.IsWhole)
    (x0 : Vec F S256x1024 .f32) (x1 : Vec F S1024x3072 .bf16) (x2 : Vec F S3x1024 .f32) (x3 : Vec F S1024x1024 .bf16) (x4 : Vec F S1x2x1024 .f32) (x5 : Vec F S1x1024 .f32) (x6 : Vec F S1x1024 .f32) (x9 : Vec F S1x2x1024 .f32) (y : Vec F S264x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
      ∗ (∃ d, owns (c : Thread nD τ) arg9 fullShare d) ∗ (∃ d, owns (c : Thread nD τ) arg10 fullShare d)
      ∗ owns (c : Thread nD τ) arg11 fullShare x9 ∗ owns (c : Thread nD τ) arg12 fullShare y
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (res x0 x1 x2 x3 x5 x6 (scr y (k0_pay3 x4) (hid x0 x1))) ∗ owns (c : Thread nD τ) arg10 fullShare (k0_pay1 (res x0 x1 x2 x3 x5 x6 (scr y (k0_pay3 x4) (hid x0 x1))))
          ∗ owns (c : Thread nD τ) arg11 fullShare (x9) ∗ owns (c : Thread nD τ) arg12 fullShare (scr y (k0_pay3 x4) (hid x0 x1))) -∗ K ⟨⟩))
    ⊢ wp frame (wpE (defs₀ (F := F)) Variants.none c none) E (cc0_b_mixer (F := F) i arg2 harg2 arg3 harg3 arg4 harg4 arg5 harg5 arg6 harg6 arg7 harg7 arg8 harg8 arg9 harg9 arg10 harg10 arg11 harg11 arg12 harg12) K := by
  simp only [cc0_b_mixer_eq_skeleton]
  unfold cc0_b_mixer_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  subst hf0 hf1 hf2 hf3 hf4 hf5 hf6 hf9 hf10
  sl_exec (disch := first | sl_exact h1 | sl_exact h2 | sl_exact h3)
  sl_step
  iapply Hk
  have e0 : View.ld (arg2.view.read (Elt F) f0) (Rect.unit (s := S256x1024) ![0, 0] S256x1024.size inb_S256x1024_S256x1024_0_0) = arg2.view.read (Elt F) f0 :=
    View.ld_unit_zero (by decide) ..
  have e3 : View.ld (arg5.view.read (Elt F) f3) (Rect.unit (s := S1024x1024) ![0, 0] S1024x1024.size inb_S1024x1024_S1024x1024_0_0) = arg5.view.read (Elt F) f3 :=
    View.ld_unit_zero (by decide) ..
  have e4 : View.ld (arg6.view.read (Elt F) f4) (Rect.unit (s := S1x2x1024) ![0, 0, 0] S1x2x1024.size inb_S1x2x1024_S1x2x1024_0_0_0) = arg6.view.read (Elt F) f4 :=
    View.ld_unit_zero (by decide) ..
  have e5 : View.ld (arg7.view.read (Elt F) f5) (Rect.unit (s := S1x1024) ![0, 0] S1x1024.size inb_S1x1024_S1x1024_0_0) = arg7.view.read (Elt F) f5 :=
    View.ld_unit_zero (by decide) ..
  have e6 : View.ld (arg8.view.read (Elt F) f6) (Rect.unit (s := S1x1024) ![0, 0] S1x1024.size inb_S1x1024_S1x1024_0_0) = arg8.view.read (Elt F) f6 :=
    View.ld_unit_zero (by decide) ..
  have eY := (scr_read arg12 f10 (k0_pay3 (View.ld (arg6.view.read (Elt F) f4) (Rect.unit (s := S1x2x1024) ![0, 0, 0] S1x2x1024.size inb_S1x2x1024_S1x2x1024_0_0_0))) (hid (View.ld (arg2.view.read (Elt F) f0) (Rect.unit (s := S256x1024) ![0, 0] S256x1024.size inb_S256x1024_S256x1024_0_0)) (arg3.view.read (Elt F) f1))).trans
    (show _ = scr (arg12.view.read (Elt F) f10) (k0_pay3 (arg6.view.read (Elt F) f4)) (hid (arg2.view.read (Elt F) f0) (arg3.view.read (Elt F) f1)) by rw [e0, e4])
  have er := (resC_eq arg12 (View.ld (arg2.view.read (Elt F) f0) (Rect.unit (s := S256x1024) ![0, 0] S256x1024.size inb_S256x1024_S256x1024_0_0)) (arg3.view.read (Elt F) f1) (arg4.view.read (Elt F) f2) (View.ld (arg5.view.read (Elt F) f3) (Rect.unit (s := S1024x1024) ![0, 0] S1024x1024.size inb_S1024x1024_S1024x1024_0_0)) (View.ld (arg7.view.read (Elt F) f5) (Rect.unit (s := S1x1024) ![0, 0] S1x1024.size inb_S1x1024_S1x1024_0_0)) (View.ld (arg8.view.read (Elt F) f6) (Rect.unit (s := S1x1024) ![0, 0] S1x1024.size inb_S1x1024_S1x1024_0_0)) (arg12.view.read (Elt F) f10) (k0_pay3 (View.ld (arg6.view.read (Elt F) f4) (Rect.unit (s := S1x2x1024) ![0, 0, 0] S1x2x1024.size inb_S1x2x1024_S1x2x1024_0_0_0))) (hid (View.ld (arg2.view.read (Elt F) f0) (Rect.unit (s := S256x1024) ![0, 0] S256x1024.size inb_S256x1024_S256x1024_0_0)) (arg3.view.read (Elt F) f1))).trans
    (show _ = res (arg2.view.read (Elt F) f0) (arg3.view.read (Elt F) f1) (arg4.view.read (Elt F) f2) (arg5.view.read (Elt F) f3) (arg7.view.read (Elt F) f5) (arg8.view.read (Elt F) f6) (scr (arg12.view.read (Elt F) f10) (k0_pay3 (arg6.view.read (Elt F) f4)) (hid (arg2.view.read (Elt F) f0) (arg3.view.read (Elt F) f1))) by rw [e0, e3, e4, e5, e6])
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _
    isplitr
    swap
    · iexact H7
    ipureintro
    refine (View.read_writes_full ..).trans ?_
    refine Eq.trans ?_ er
    unfold resC
    rfl
  isplitl [H8]
  · iexists _
    isplitr
    swap
    · iexact H8
    ipureintro
    refine (View.read_writes_full ..).trans ?_
    refine Eq.trans ?_ (congrArg (k0_pay1 (F := F)) er)
    unfold resC
    rfl
  isplitl [H9]
  · iexists _
    isplitr
    swap
    · iexact H9
    ipureintro
    rfl
  iexists _
  isplitr
  swap
  · iexact H10
  ipureintro
  exact eY

set_option maxHeartbeats 4000000 in
/-- The body at a block between. -/
theorem sound_mid (c : Dev nD) (E : Set ℕ) (i : grid0.Coords) (h1 : ¬ c1 i = 1#1) (h2 : c2 i = 1#1) (h3 : ¬ k0_cond3 i = 1#1) (arg2 : Memref sig .tc .vmem S256x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x2x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S264x1024 .f32) (harg12 : arg12.IsWhole)
    (x0 : Vec F S256x1024 .f32) (x1 : Vec F S1024x3072 .bf16) (x2 : Vec F S3x1024 .f32) (x3 : Vec F S1024x1024 .bf16) (x4 : Vec F S1x2x1024 .f32) (x5 : Vec F S1x1024 .f32) (x6 : Vec F S1x1024 .f32) (x9 : Vec F S1x2x1024 .f32) (y : Vec F S264x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
      ∗ (∃ d, owns (c : Thread nD τ) arg9 fullShare d) ∗ (∃ d, owns (c : Thread nD τ) arg10 fullShare d)
      ∗ owns (c : Thread nD τ) arg11 fullShare x9 ∗ owns (c : Thread nD τ) arg12 fullShare y
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (res x0 x1 x2 x3 x5 x6 (scr y (k0_pay4 (tail y)) (hid x0 x1))) ∗ owns (c : Thread nD τ) arg10 fullShare (k0_pay1 (res x0 x1 x2 x3 x5 x6 (scr y (k0_pay4 (tail y)) (hid x0 x1))))
          ∗ owns (c : Thread nD τ) arg11 fullShare (x9) ∗ owns (c : Thread nD τ) arg12 fullShare (scr y (k0_pay4 (tail y)) (hid x0 x1))) -∗ K ⟨⟩))
    ⊢ wp frame (wpE (defs₀ (F := F)) Variants.none c none) E (cc0_b_mixer (F := F) i arg2 harg2 arg3 harg3 arg4 harg4 arg5 harg5 arg6 harg6 arg7 harg7 arg8 harg8 arg9 harg9 arg10 harg10 arg11 harg11 arg12 harg12) K := by
  simp only [cc0_b_mixer_eq_skeleton]
  unfold cc0_b_mixer_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  subst hf0 hf1 hf2 hf3 hf4 hf5 hf6 hf9 hf10
  sl_exec (disch := first | sl_exact h1 | sl_exact h2 | sl_exact h3)
  sl_step
  iapply Hk
  have e0 : View.ld (arg2.view.read (Elt F) f0) (Rect.unit (s := S256x1024) ![0, 0] S256x1024.size inb_S256x1024_S256x1024_0_0) = arg2.view.read (Elt F) f0 :=
    View.ld_unit_zero (by decide) ..
  have e3 : View.ld (arg5.view.read (Elt F) f3) (Rect.unit (s := S1024x1024) ![0, 0] S1024x1024.size inb_S1024x1024_S1024x1024_0_0) = arg5.view.read (Elt F) f3 :=
    View.ld_unit_zero (by decide) ..
  have e5 : View.ld (arg7.view.read (Elt F) f5) (Rect.unit (s := S1x1024) ![0, 0] S1x1024.size inb_S1x1024_S1x1024_0_0) = arg7.view.read (Elt F) f5 :=
    View.ld_unit_zero (by decide) ..
  have e6 : View.ld (arg8.view.read (Elt F) f6) (Rect.unit (s := S1x1024) ![0, 0] S1x1024.size inb_S1x1024_S1x1024_0_0) = arg8.view.read (Elt F) f6 :=
    View.ld_unit_zero (by decide) ..
  have eY := (scr_read arg12 f10 (k0_pay4 (tail (arg12.view.read (Elt F) f10))) (hid (View.ld (arg2.view.read (Elt F) f0) (Rect.unit (s := S256x1024) ![0, 0] S256x1024.size inb_S256x1024_S256x1024_0_0)) (arg3.view.read (Elt F) f1))).trans
    (show _ = scr (arg12.view.read (Elt F) f10) (k0_pay4 (tail (arg12.view.read (Elt F) f10))) (hid (arg2.view.read (Elt F) f0) (arg3.view.read (Elt F) f1)) by rw [e0])
  have er := (resC_eq arg12 (View.ld (arg2.view.read (Elt F) f0) (Rect.unit (s := S256x1024) ![0, 0] S256x1024.size inb_S256x1024_S256x1024_0_0)) (arg3.view.read (Elt F) f1) (arg4.view.read (Elt F) f2) (View.ld (arg5.view.read (Elt F) f3) (Rect.unit (s := S1024x1024) ![0, 0] S1024x1024.size inb_S1024x1024_S1024x1024_0_0)) (View.ld (arg7.view.read (Elt F) f5) (Rect.unit (s := S1x1024) ![0, 0] S1x1024.size inb_S1x1024_S1x1024_0_0)) (View.ld (arg8.view.read (Elt F) f6) (Rect.unit (s := S1x1024) ![0, 0] S1x1024.size inb_S1x1024_S1x1024_0_0)) (arg12.view.read (Elt F) f10) (k0_pay4 (tail (arg12.view.read (Elt F) f10))) (hid (View.ld (arg2.view.read (Elt F) f0) (Rect.unit (s := S256x1024) ![0, 0] S256x1024.size inb_S256x1024_S256x1024_0_0)) (arg3.view.read (Elt F) f1))).trans
    (show _ = res (arg2.view.read (Elt F) f0) (arg3.view.read (Elt F) f1) (arg4.view.read (Elt F) f2) (arg5.view.read (Elt F) f3) (arg7.view.read (Elt F) f5) (arg8.view.read (Elt F) f6) (scr (arg12.view.read (Elt F) f10) (k0_pay4 (tail (arg12.view.read (Elt F) f10))) (hid (arg2.view.read (Elt F) f0) (arg3.view.read (Elt F) f1))) by rw [e0, e3, e5, e6])
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _
    isplitr
    swap
    · iexact H7
    ipureintro
    refine (View.read_writes_full ..).trans ?_
    refine Eq.trans ?_ er
    unfold resC
    rfl
  isplitl [H8]
  · iexists _
    isplitr
    swap
    · iexact H8
    ipureintro
    refine (View.read_writes_full ..).trans ?_
    refine Eq.trans ?_ (congrArg (k0_pay1 (F := F)) er)
    unfold resC
    rfl
  isplitl [H9]
  · iexists _
    isplitr
    swap
    · iexact H9
    ipureintro
    rfl
  iexists _
  isplitr
  swap
  · iexact H10
  ipureintro
  exact eY

set_option maxHeartbeats 4000000 in
/-- The body at the last block. -/
theorem sound_last (c : Dev nD) (E : Set ℕ) (i : grid0.Coords) (h1 : ¬ c1 i = 1#1) (h2 : c2 i = 1#1) (h3 : k0_cond3 i = 1#1) (arg2 : Memref sig .tc .vmem S256x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x2x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S264x1024 .f32) (harg12 : arg12.IsWhole)
    (x0 : Vec F S256x1024 .f32) (x1 : Vec F S1024x3072 .bf16) (x2 : Vec F S3x1024 .f32) (x3 : Vec F S1024x1024 .bf16) (x4 : Vec F S1x2x1024 .f32) (x5 : Vec F S1x1024 .f32) (x6 : Vec F S1x1024 .f32) (x9 : Vec F S1x2x1024 .f32) (y : Vec F S264x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
      ∗ (∃ d, owns (c : Thread nD τ) arg9 fullShare d) ∗ (∃ d, owns (c : Thread nD τ) arg10 fullShare d)
      ∗ owns (c : Thread nD τ) arg11 fullShare x9 ∗ owns (c : Thread nD τ) arg12 fullShare y
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (res x0 x1 x2 x3 x5 x6 (scr y (k0_pay4 (tail y)) (hid x0 x1))) ∗ owns (c : Thread nD τ) arg10 fullShare (k0_pay1 (res x0 x1 x2 x3 x5 x6 (scr y (k0_pay4 (tail y)) (hid x0 x1))))
          ∗ owns (c : Thread nD τ) arg11 fullShare (k0_pay2 (tail (scr y (k0_pay4 (tail y)) (hid x0 x1)))) ∗ owns (c : Thread nD τ) arg12 fullShare (scr y (k0_pay4 (tail y)) (hid x0 x1))) -∗ K ⟨⟩))
    ⊢ wp frame (wpE (defs₀ (F := F)) Variants.none c none) E (cc0_b_mixer (F := F) i arg2 harg2 arg3 harg3 arg4 harg4 arg5 harg5 arg6 harg6 arg7 harg7 arg8 harg8 arg9 harg9 arg10 harg10 arg11 harg11 arg12 harg12) K := by
  simp only [cc0_b_mixer_eq_skeleton]
  unfold cc0_b_mixer_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  subst hf0 hf1 hf2 hf3 hf4 hf5 hf6 hf9 hf10
  sl_exec (disch := first | sl_exact h1 | sl_exact h2 | sl_exact h3)
  sl_step
  iapply Hk
  have e0 : View.ld (arg2.view.read (Elt F) f0) (Rect.unit (s := S256x1024) ![0, 0] S256x1024.size inb_S256x1024_S256x1024_0_0) = arg2.view.read (Elt F) f0 :=
    View.ld_unit_zero (by decide) ..
  have e3 : View.ld (arg5.view.read (Elt F) f3) (Rect.unit (s := S1024x1024) ![0, 0] S1024x1024.size inb_S1024x1024_S1024x1024_0_0) = arg5.view.read (Elt F) f3 :=
    View.ld_unit_zero (by decide) ..
  have e5 : View.ld (arg7.view.read (Elt F) f5) (Rect.unit (s := S1x1024) ![0, 0] S1x1024.size inb_S1x1024_S1x1024_0_0) = arg7.view.read (Elt F) f5 :=
    View.ld_unit_zero (by decide) ..
  have e6 : View.ld (arg8.view.read (Elt F) f6) (Rect.unit (s := S1x1024) ![0, 0] S1x1024.size inb_S1x1024_S1x1024_0_0) = arg8.view.read (Elt F) f6 :=
    View.ld_unit_zero (by decide) ..
  have eY := (scr_read arg12 f10 (k0_pay4 (tail (arg12.view.read (Elt F) f10))) (hid (View.ld (arg2.view.read (Elt F) f0) (Rect.unit (s := S256x1024) ![0, 0] S256x1024.size inb_S256x1024_S256x1024_0_0)) (arg3.view.read (Elt F) f1))).trans
    (show _ = scr (arg12.view.read (Elt F) f10) (k0_pay4 (tail (arg12.view.read (Elt F) f10))) (hid (arg2.view.read (Elt F) f0) (arg3.view.read (Elt F) f1)) by rw [e0])
  have er := (resC_eq arg12 (View.ld (arg2.view.read (Elt F) f0) (Rect.unit (s := S256x1024) ![0, 0] S256x1024.size inb_S256x1024_S256x1024_0_0)) (arg3.view.read (Elt F) f1) (arg4.view.read (Elt F) f2) (View.ld (arg5.view.read (Elt F) f3) (Rect.unit (s := S1024x1024) ![0, 0] S1024x1024.size inb_S1024x1024_S1024x1024_0_0)) (View.ld (arg7.view.read (Elt F) f5) (Rect.unit (s := S1x1024) ![0, 0] S1x1024.size inb_S1x1024_S1x1024_0_0)) (View.ld (arg8.view.read (Elt F) f6) (Rect.unit (s := S1x1024) ![0, 0] S1x1024.size inb_S1x1024_S1x1024_0_0)) (arg12.view.read (Elt F) f10) (k0_pay4 (tail (arg12.view.read (Elt F) f10))) (hid (View.ld (arg2.view.read (Elt F) f0) (Rect.unit (s := S256x1024) ![0, 0] S256x1024.size inb_S256x1024_S256x1024_0_0)) (arg3.view.read (Elt F) f1))).trans
    (show _ = res (arg2.view.read (Elt F) f0) (arg3.view.read (Elt F) f1) (arg4.view.read (Elt F) f2) (arg5.view.read (Elt F) f3) (arg7.view.read (Elt F) f5) (arg8.view.read (Elt F) f6) (scr (arg12.view.read (Elt F) f10) (k0_pay4 (tail (arg12.view.read (Elt F) f10))) (hid (arg2.view.read (Elt F) f0) (arg3.view.read (Elt F) f1))) by rw [e0, e3, e5, e6])
  have et := (tail_cov arg12 (arg12.view.read (Elt F) f10) (k0_pay4 (tail (arg12.view.read (Elt F) f10))) (hid (View.ld (arg2.view.read (Elt F) f0) (Rect.unit (s := S256x1024) ![0, 0] S256x1024.size inb_S256x1024_S256x1024_0_0)) (arg3.view.read (Elt F) f1))).trans (show _ = tail (scr (arg12.view.read (Elt F) f10) (k0_pay4 (tail (arg12.view.read (Elt F) f10))) (hid (arg2.view.read (Elt F) f0) (arg3.view.read (Elt F) f1))) by rw [e0])
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _
    isplitr
    swap
    · iexact H7
    ipureintro
    refine (View.read_writes_full ..).trans ?_
    refine Eq.trans ?_ er
    unfold resC
    rfl
  isplitl [H8]
  · iexists _
    isplitr
    swap
    · iexact H8
    ipureintro
    refine (View.read_writes_full ..).trans ?_
    refine Eq.trans ?_ (congrArg (k0_pay1 (F := F)) er)
    unfold resC
    rfl
  isplitl [H9]
  · iexists _
    isplitr
    swap
    · iexact H9
    ipureintro
    refine (View.read_writes_full ..).trans ?_
    exact congrArg (k0_pay2 (F := F)) et
  iexists _
  isplitr
  swap
  · iexact H10
  ipureintro
  exact eY

/-! ## What the scratch carries -/

/-- A block's last two rows. -/
def last2 (h : Vec F S256x1024 .f32) : Vec F S2x1024 .f32 := fun x =>
  h (ix2 ⟨254 + (x 0).val, by have : (x 0).val < 2 := (x 0).isLt; omega⟩ ⟨(x 1).val, (x 1).isLt⟩)

theorem tail_scr (y : Vec F S264x1024 .f32) (s : Vec F S2x1024 .f32) (h : Vec F S256x1024 .f32) : tail (scr y s h) = last2 h := by
  funext x
  have h0 : (x 0).val < 2 := (x 0).isLt
  have h1 : (x 1).val < 1024 := (x 1).isLt
  have e : ∀ a, ![8, 0] a ≤ ((Rect.unit (s := S264x1024) ![262, 0] S2x1024.size inb_S264x1024_S2x1024_262_0).emb x a).val
      ∧ ((Rect.unit (s := S264x1024) ![262, 0] S2x1024.size inb_S264x1024_S2x1024_262_0).emb x a).val < ![8, 0] a + S256x1024.size a := fun a => match a with
    | ⟨0, _⟩ => ⟨show 8 ≤ 262 + 1 * (x 0).val by omega, show 262 + 1 * (x 0).val < 8 + 256 by omega⟩
    | ⟨1, _⟩ => ⟨Nat.zero_le _, show 0 + 1 * (x 1).val < 0 + 1024 by omega⟩
  show scr y s h ((Rect.unit (s := S264x1024) ![262, 0] S2x1024.size inb_S264x1024_S2x1024_262_0).emb x) = last2 h x
  unfold scr
  refine (dif_pos e).trans ?_
  unfold last2
  refine congrArg h (funext fun a => ?_)
  match a with
  | ⟨0, _⟩ => exact Fin.ext (show 262 + 1 * (x 0).val - 8 = 254 + (x 0).val by omega)
  | ⟨1, _⟩ => exact Fin.ext (show 0 + 1 * (x 1).val - 0 = (x 1).val by omega)

/-- The scratch with its first rows filled from the block. -/
def pad (h : Vec F S256x1024 .f32) : Vec F S264x1024 .f32 := fun i => h (ix2 0 ⟨(i 1).val, (i 1).isLt⟩)

theorem res_indep (x0 : Vec F S256x1024 .f32) (x1 : Vec F S1024x3072 .bf16) (x2 : Vec F S3x1024 .f32) (x3 : Vec F S1024x1024 .bf16) (x5 x6 : Vec F S1x1024 .f32)
    (y y' : Vec F S264x1024 .f32) (s : Vec F S2x1024 .f32) (h : Vec F S256x1024 .f32) :
    res x0 x1 x2 x3 x5 x6 (scr y s h) = res x0 x1 x2 x3 x5 x6 (scr y' s h) :=
  (resC_eq (Memref.whole cc0_scratch0) x0 x1 x2 x3 x5 x6 y s h).symm.trans (resC_eq (Memref.whole cc0_scratch0) x0 x1 x2 x3 x5 x6 y' s h)

/-- Where a point lies in its sequence, by the body's three conditions. -/
theorem cases (t : Fin cfg0.N) :
    (c1 (grid0.coords t) = 1#1 ∧ ¬ c2 (grid0.coords t) = 1#1 ∧ ¬ k0_cond3 (grid0.coords t) = 1#1 ∧ t.val % 8 = 0)
    ∨ (¬ c1 (grid0.coords t) = 1#1 ∧ c2 (grid0.coords t) = 1#1 ∧ ¬ k0_cond3 (grid0.coords t) = 1#1 ∧ t.val % 8 ≠ 0 ∧ t.val % 8 ≠ 7)
    ∨ (¬ c1 (grid0.coords t) = 1#1 ∧ c2 (grid0.coords t) = 1#1 ∧ k0_cond3 (grid0.coords t) = 1#1 ∧ t.val % 8 ≠ 0 ∧ t.val % 8 = 7) := by
  revert t
  exact (by decide +kernel : ∀ t : Fin grid0.N,
    (c1 (grid0.coords t) = 1#1 ∧ ¬ c2 (grid0.coords t) = 1#1 ∧ ¬ k0_cond3 (grid0.coords t) = 1#1 ∧ t.val % 8 = 0)
    ∨ (¬ c1 (grid0.coords t) = 1#1 ∧ c2 (grid0.coords t) = 1#1 ∧ ¬ k0_cond3 (grid0.coords t) = 1#1 ∧ t.val % 8 ≠ 0 ∧ t.val % 8 ≠ 7)
    ∨ (¬ c1 (grid0.coords t) = 1#1 ∧ c2 (grid0.coords t) = 1#1 ∧ k0_cond3 (grid0.coords t) = 1#1 ∧ t.val % 8 ≠ 0 ∧ t.val % 8 = 7))

/-! ## The launch -/

variable (m : (ℓ : Loc nD τ sig) → Buf (Elt F) ℓ) (ρ : Dev nD → PrngReg)

/-- The block a point gates. -/
def gated (c : Dev nD) (t : Fin cfg0.N) : Vec F S256x1024 .f32 := hid (iblk m c 0 t) (iblk m c 1 t)

/-- The point before, or the first. -/
def pre (t : Fin cfg0.N) : Fin cfg0.N := ⟨t.val - 1, by have := t.isLt; omega⟩

/-- The two rows before a point's block. -/
def prev (c : Dev nD) (t : Fin cfg0.N) : Vec F S2x1024 .f32 :=
  if t.val % 8 = 0 then k0_pay3 (iblk m c 4 t) else k0_pay4 (last2 (gated m c (pre t)))

/-- What a point stores of the stream. -/
def outR (c : Dev nD) (t : Fin cfg0.N) : FVec F S256x1024 .f32 :=
  res (iblk m c 0 t) (iblk m c 1 t) (iblk m c 2 t) (iblk m c 3 t) (iblk m c 5 t) (iblk m c 6 t) (scr (pad (gated m c t)) (prev m c t) (gated m c t))

/-- What is known of the scratch before point `n`: the last two rows of the block before. -/
def Inv (c : Dev nD) (n : Fin (cfg0.N + 1)) (y : Vec F S264x1024 .f32) : Prop :=
  ∀ t : Fin cfg0.N, n.val = t.val + 1 → tail y = last2 (gated m c t)

/-- The proof data: each input's block in place, each output's block as the body stores it, the scratch as `Inv` has it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outR m c t
    | ⟨8, _⟩ => k0_pay1 (outR m c t)
    | ⟨9, _⟩ => k0_pay2 (last2 (gated m c t))
  Φ n := iprop((∃ y : Vec F S264x1024 .f32, owns (c : Thread nD τ) (Memref.whole cc0_scratch0) fullShare y ∗ ⌜Inv m c n y⌝) ∗ ∃ r, prngReg c r)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outR m c t := by dsimp only [dats]
theorem after0_8 (c : Dev nD) (t : Fin cfg0.N) : (dats m 0 c).after 8 t = k0_pay1 (outR m c t) := by dsimp only [dats]
theorem after0_9 (c : Dev nD) (t : Fin cfg0.N) : (dats m 0 c).after 9 t = k0_pay2 (last2 (gated m c t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem idle9 (t : Fin cfg0.N) : cfg0.idle 9 (cfg0.grid.coords t) = !(k0_cond3 (grid0.coords t) == 1#1) := rfl

theorem leaves_idle (c : Dev nD) (t : Fin cfg0.N) (h : ¬ k0_cond3 (grid0.coords t) = 1#1) (ht : t.val % 8 ≠ 7) :
    (dats m 0 c).leavesExact 9 t = iprop(∃ d, owns (c : Thread nD τ) (st0_9 t) fullShare ((dats m 0 c).before 9 t d)) :=
  (dats m 0 c).leavesExact_idle 9 t ((idle9 t).trans (by rw [beq_eq_false_iff_ne.mpr h]; rfl))
    (Bool.eq_false_iff.mpr fun hf => ht ((flush0_9 t).mp hf))

theorem leaves_last (c : Dev nD) (t : Fin cfg0.N) (h : k0_cond3 (grid0.coords t) = 1#1) :
    (dats m 0 c).leavesExact 9 t = owns (c : Thread nD τ) (st0_9 t) fullShare ((dats m 0 c).after 9 t) := by
  have hi : cfg0.idle 9 (cfg0.grid.coords t) = false := (idle9 t).trans (by rw [h]; rfl)
  unfold Dat.leavesExact
  rw [hi]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (dats m 0 c).leavesExact 9 t)

theorem Phi_eq (c : Dev nD) (n : Fin (cfg0.N + 1)) : (dats m 0 c).Φ n
    = iprop((∃ y : Vec F S264x1024 .f32, owns (c : Thread nD τ) (Memref.whole cc0_scratch0) fullShare y ∗ ⌜Inv m c n y⌝) ∗ ∃ r, prngReg c r) := rfl

theorem inv_succ (c : Dev nD) (t : Fin cfg0.N) (y : Vec F S264x1024 .f32) (s : Vec F S2x1024 .f32) :
    Inv m c t.succ (scr y s (hid (iblk m c 0 t) (iblk m c 1 t))) := by
  intro t' h
  have e : t' = t := Fin.ext (by have : t.succ.val = t.val + 1 := rfl; omega)
  subst e
  exact tail_scr y s _

theorem out_first (c : Dev nD) (t : Fin cfg0.N) (y : Vec F S264x1024 .f32) (ht : t.val % 8 = 0) :
    res (iblk m c 0 t) (iblk m c 1 t) (iblk m c 2 t) (iblk m c 3 t) (iblk m c 5 t) (iblk m c 6 t) (scr y (k0_pay3 (iblk m c 4 t)) (hid (iblk m c 0 t) (iblk m c 1 t))) = outR m c t := by
  unfold outR prev
  rw [if_pos ht]
  exact res_indep ..

theorem out_later (c : Dev nD) (t : Fin cfg0.N) (y : Vec F S264x1024 .f32) (ht : t.val % 8 ≠ 0) (hy : Inv m c t.castSucc y) :
    res (iblk m c 0 t) (iblk m c 1 t) (iblk m c 2 t) (iblk m c 3 t) (iblk m c 5 t) (iblk m c 6 t) (scr y (k0_pay4 (tail y)) (hid (iblk m c 0 t) (iblk m c 1 t))) = outR m c t := by
  have e := hy (pre t) (show t.val = t.val - 1 + 1 by omega)
  unfold outR prev
  rw [if_neg ht, e]
  exact res_indep ..

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_eq, Phi_eq, show (dats m 0 c).owesAt () t.succ = (dats m 0 c).owesAt () t.castSucc from rfl, after0_0, after0_1, after0_2, after0_3, after0_4, after0_5, after0_6, after0_7, after0_8]
  iintro ⟨⟨⟨%y, Hs, %hy⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rcases cases t with ⟨h1, h2, h3, ht⟩ | ⟨h1, h2, h3, ht, ht7⟩ | ⟨h1, h2, h3, ht, ht7⟩
  ·
    rw [leaves_idle m c t h3 (by omega)]
    iapply (sound_first c Set.univ (grid0.coords t) h1 h2 h3 _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 9 t d9) y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [Hs]; · iexact Hs
    rw [out_first m c t y ht]
    iintro ⟨H0, H1, H2, H3, H4, H5, H6, H7, H8, H9, Hs⟩
    isplitl [Hs Hr]
    · isplitl [Hs]
      · iexists _
        isplitl [Hs]
        · iexact Hs
        ipureintro
        exact inv_succ m c t _ _
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  ·
    rw [leaves_idle m c t h3 ht7]
    iapply (sound_mid c Set.univ (grid0.coords t) h1 h2 h3 _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 9 t d9) y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [Hs]; · iexact Hs
    rw [out_later m c t y ht hy]
    iintro ⟨H0, H1, H2, H3, H4, H5, H6, H7, H8, H9, Hs⟩
    isplitl [Hs Hr]
    · isplitl [Hs]
      · iexists _
        isplitl [Hs]
        · iexact Hs
        ipureintro
        exact inv_succ m c t _ _
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  ·
    rw [leaves_last m c t h3, after0_9]
    iapply (sound_last c Set.univ (grid0.coords t) h1 h2 h3 _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 9 t d9) y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [Hs]; · iexact Hs
    rw [out_later m c t y ht hy, tail_scr]
    iintro ⟨H0, H1, H2, H3, H4, H5, H6, H7, H8, H9, Hs⟩
    isplitl [Hs Hr]
    · isplitl [Hs]
      · iexists _
        isplitl [Hs]
        · iexact Hs
        ipureintro
        exact inv_succ m c t _ _
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

attribute [local irreducible] res hid scr outR gated last2 cc0_b_mixer in
theorem body_obligation (c : Dev nD) : BodyObligation (dats (F := F) m 0 c) (defs₀ (F := F)) Variants.none () Set.univ := fun t => by
  rw [bigSep_W0, bigSep_W0]
  exact sound_body m c t

theorem enter (c : Dev nD) : Pipeline.ΦA spec0 c ⊢ (dats (F := F) m 0 c).Φ 0 := by
  unfold Pipeline.ΦA
  rw [Phi_eq, scopedRest0_eq]
  iintro ⟨⟨%f, H⟩, Hr⟩
  isplitl [H]
  · iexists f
    rw [owns_whole]
    isplitl [H]
    · iexact H
    ipureintro
    intro t h
    exact absurd h (by show ¬ (0 = t.val + 1); omega)
  iexact Hr

theorem leave (c : Dev nD) : (dats (F := F) m 0 c).Φ (Fin.last cfg0.N) ⊢ Pipeline.ΦA spec0 c := by
  unfold Pipeline.ΦA
  rw [Phi_eq, scopedRest0_eq]
  simp only [owns_whole]
  iintro ⟨⟨%y, H, -⟩, Hr⟩
  isplitl [H]
  · iexists y
    iexact H
  iexact Hr

set_option backward.isDefEq.respectTransparency.types false in
/-- The run: every array of the launch as its blocks leave it, every other as the launch found it, and no semaphore up. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := enter m) (hout := leave m)
    (Q' := fun r => Pipeline.FramePost cfgs (dats m) 0 (V m) r ∧ r.2.sem = fun _ => 0) (hQ' := fun _ h => h)

/-- The frame: the arguments end as they were, and no semaphore is up. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).1 4).trans (((dats m 0 c).arrAt_in 4 rfl _).trans (V_main_arg1 m c)),
       ((h.1 c).2 main_arg2 (Pipeline.mem_restRefs_of main_arg2 (by decide) (by decide))).trans (V_main_arg2 m c),
       ((h.1 c).1 2).trans (((dats m 0 c).arrAt_in 2 rfl _).trans (V_main_arg3 m c)),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c)⟩, h.2⟩) (run_main m ρ)

/-- The run's results, window by window. -/
theorem run_blocks : θ_run defs (onTc (τ := τ) (main (F := F))) ⟨m, fun _ => 0, ρ⟩ (fun r => ∀ c : Dev nD,
      r.2.mem ((c.tc : Thread nD τ).loc main_v5_0) = (dats m 0 c).arrAt 7 cfg0.N
      ∧ r.2.mem ((c.tc : Thread nD τ).loc main_v5_1) = (dats m 0 c).arrAt 8 cfg0.N
      ∧ r.2.mem ((c.tc : Thread nD τ).loc main_v5_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h.1 c).1 7, (h.1 c).1 8, (h.1 c).1 9,
       ((h.1 c).2 main_arg0 (Pipeline.mem_restRefs_of main_arg0 (by decide) (by decide))).trans (V_main_arg0 m c),
       ((h.1 c).1 4).trans (((dats m 0 c).arrAt_in 4 rfl _).trans (V_main_arg1 m c)),
       ((h.1 c).2 main_arg2 (Pipeline.mem_restRefs_of main_arg2 (by decide) (by decide))).trans (V_main_arg2 m c),
       ((h.1 c).1 2).trans (((dats m 0 c).arrAt_in 2 rfl _).trans (V_main_arg3 m c)),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c)⟩) (run_main m ρ)

end Cert.Kernel7Ideal.Body

end
-- ==== Proof.Conv.lean ====
/-
  The gated convolution with its residual and layer norm: what the kernel leaves.
-/
module

public import proofs.«01_k».proof.Proof.ConvBody
public import proofs.«01_k».proof.Proof.Rows

@[expose] public section

set_option maxRecDepth 16384

noncomputable section

namespace Cert.Conv

open Cert.Rows Idealize.ShloMosaic

section
variable (x : FVec Ideal ⟨3, ![8, 2048, 1024]⟩ .f32) (s : FVec Ideal ⟨3, ![8, 2, 1024]⟩ .f32) (w : FVec Ideal ⟨2, ![1024, 3072]⟩ .f32)
  (k : FVec Ideal ⟨2, ![3, 1024]⟩ .f32) (o : FVec Ideal ⟨2, ![1024, 1024]⟩ .f32) (g h : FVec Ideal ⟨1, ![1024]⟩ .f32)

/-- The input projection at position `p` of sequence `b`. -/
def proj (b : Fin 8) (p : Fin 2048) (j : Fin 3072) : EReal := ∑ e : Fin 1024, x (ix3 b p e) * w (ix2 e j)

/-- The gated rows the convolution runs over. -/
def gate (b : Fin 8) (p : Fin 2048) (l : Fin 1024) : EReal :=
  proj x w b p ⟨1024 + l.val, by omega⟩ * proj x w b p ⟨2048 + l.val, by omega⟩

/-- The same with the two rows of the state before them. -/
def padded (b : Fin 8) (q : Fin 2050) (l : Fin 1024) : EReal :=
  if h : q.val < 2 then s (ix3 b ⟨q.val, h⟩ l) else gate x w b ⟨q.val - 2, by omega⟩ l

/-- The three taps at position `p`. -/
def taps (b : Fin 8) (p : Fin 2048) (l : Fin 1024) : EReal :=
  padded x s w b ⟨p.val, by omega⟩ l * k (ix2 0 l) + padded x s w b ⟨1 + p.val, by omega⟩ l * k (ix2 1 l) + padded x s w b ⟨2 + p.val, by omega⟩ l * k (ix2 2 l)

/-- The residual stream after the mixer and its norm. -/
def out (b : Fin 8) (p : Fin 2048) (l : Fin 1024) : EReal :=
  norm (fun y => alpha * x (ix3 b p y) + ∑ e : Fin 1024, (proj x w b p ⟨e.val, by omega⟩ * taps x s w k b p e) * o (ix2 e y)) (g (ix1 l)) (h (ix1 l)) l

/-- The same, by the row of the stream. -/
def OUT : FVec Ideal ⟨2, ![16384, 1024]⟩ .f32 := fun i =>
  out x s w k o g h ⟨(i 0).val / 2048, by have : (i 0).val < 16384 := (i 0).isLt; omega⟩ ⟨(i 0).val % 2048, by omega⟩ (i 1)

/-- The state the next block of positions starts from: the last two gated rows. -/
def STATE (_ : FVec Ideal ⟨2, ![3, 1024]⟩ .f32) (_ : FVec Ideal ⟨2, ![1024, 1024]⟩ .f32) (_ _ : FVec Ideal ⟨1, ![1024]⟩ .f32) :
    FVec Ideal ⟨3, ![8, 2, 1024]⟩ .f32 := fun i =>
  padded x s w ⟨(i 0).val, (i 0).isLt⟩ ⟨2048 + (i 1).val, by have : (i 1).val < 2 := (i 1).isLt; omega⟩ ⟨(i 2).val, (i 2).isLt⟩
end

end Cert.Conv

namespace Cert.Kernel7Ideal.Read

open Cert.Kernel7Ideal Cert.Kernel7Ideal.Gen Cert.Kernel7Ideal.Body Cert.Rows Cert.Conv
open Idealize.ShloMosaic Idealize.ShloMosaic.TcCoe Idealize.SL.Sem Idealize.ShloMosaic.StableHlo

/-- The layer norm of a block's rows, as the kernel takes it. -/
def normed (v : FVec Ideal S256x1024 .f32) (g b : FVec Ideal S1x1024 .f32) : FVec Ideal S256x1024 .f32 :=
  let n : FVec Ideal S256x1 .f32 := broadcast S256x1 (Scalar.ofBits .f32 0x44800000#32)
  let mean : FVec Ideal S256x1 .f32 := divf (shapeCast S256x1 (multiReduction .add [1] S256 v 0x00000000#32 reduces_S256x1024_S256 (.inl rfl) rfl) shapeCasts_S256_S256x1) n
  let d := subf v (broadcastTo S256x1024 mean broadcasts_S256x1_S256x1024)
  let var : FVec Ideal S256x1 .f32 := divf (shapeCast S256x1 (multiReduction .add [1] S256 (mulf d d) 0x00000000#32 reduces_S256x1024_S256 (.inl rfl) rfl) shapeCasts_S256_S256x1) n
  let s : FVec Ideal S256x1 .f32 := rsqrt (addf var (broadcast S256x1 (Scalar.ofBits .f32 0x3727C5AC#32)))
  addf (mulf (mulf d (broadcastTo S256x1024 s broadcasts_S256x1_S256x1024)) (broadcastTo S256x1024 g broadcasts_S1x1024_S256x1024))
    (broadcastTo S256x1024 b broadcasts_S1x1024_S256x1024)

theorem normed_at (v : FVec Ideal S256x1024 .f32) (g b : FVec Ideal S1x1024 .f32) (r : Fin 256) (l : Fin 1024) :
    normed v g b (ix2 r l) = norm (fun x => v (ix2 r x)) (g (ix2 0 l)) (b (ix2 0 l)) l := by
  pointwise [normed]
  rfl

section
variable (x : FVec Ideal S256x1024 .bf16) (a z : FVec Ideal S256x1024 .f32) (k : FVec Ideal S1x1024 .f32) (w o : FVec Ideal S1024x1024 .bf16) (y : FVec Ideal S256x1024 .f32)

/-- The residual with the gated taps projected onto it. -/
def summed : FVec Ideal S256x1024 .f32 :=
  addf (mulf (broadcast S256x1024 (Scalar.ofBits .f32 0x3FD744FD#32)) y)
    (matmul dot_S256x1024_S1024x1024_S256x1024_1_0_0_1_n_n none
      (truncf .bf16 (mulf (matmul dot_S256x1024_S1024x1024_S256x1024_1_0_0_1_n_n none x w (constant S256x1024 .f32 0x00000000#32))
        (addf a (mulf z (broadcastTo S256x1024 k broadcasts_S1x1024_S256x1024)))) bitsLt_bf16_f32) o (constant S256x1024 .f32 0x00000000#32))

theorem summed_at (r : Fin 256) (l : Fin 1024) :
    summed x a z k w o y (ix2 r l) = alpha * y (ix2 r l)
      + ∑ e : Fin 1024, ((∑ j : Fin 1024, x (ix2 r j) * w (ix2 j e)) * (a (ix2 r e) + z (ix2 r e) * k (ix2 0 e))) * o (ix2 e l) := by
  pointwise [summed]
  rfl

theorem pay8_eq (g b : FVec Ideal S1x1024 .f32) : k0_pay8 (F := Ideal) x a z k w o y g b = normed (summed x a z k w o y) g b := by
  unfold k0_pay8
  simp only [shapeCast_self]
  rfl
end

theorem pay7_at (a z : FVec Ideal S256x1024 .f32) (k j : FVec Ideal S1x1024 .f32) (r : Fin 256) (l : Fin 1024) :
    k0_pay7 (F := Ideal) a k z j (ix2 r l) = a (ix2 r l) * k (ix2 0 l) + z (ix2 r l) * j (ix2 0 l) := by
  pointwise [k0_pay7]
theorem pay5_at (x : FVec Ideal S256x1024 .f32) (r : Fin 256) (l : Fin 1024) : k0_pay5 (F := Ideal) x (ix2 r l) = x (ix2 r l) := by
  pointwise [k0_pay5]
theorem pay6_at (x : FVec Ideal S256x1024 .f32) (w u : FVec Ideal S1024x1024 .bf16) (r : Fin 256) (l : Fin 1024) :
    k0_pay6 (F := Ideal) x w u (ix2 r l) = (∑ e : Fin 1024, x (ix2 r e) * w (ix2 e l)) * ∑ e : Fin 1024, x (ix2 r e) * u (ix2 e l) := by
  pointwise [k0_pay6, k0_pay5]
theorem pay3_at (s : FVec Ideal S1x2x1024 .f32) (r : Fin 2) (l : Fin 1024) : k0_pay3 (F := Ideal) s (ix2 r l) = s (ix3 0 r l) := by
  pointwise [k0_pay3]
theorem pay4_at (s : FVec Ideal S2x1024 .f32) (r : Fin 2) (l : Fin 1024) : k0_pay4 (F := Ideal) s (ix2 r l) = s (ix2 r l) := by
  pointwise [k0_pay4]
theorem pay2_at (s : FVec Ideal S2x1024 .f32) (r : Fin 2) (l : Fin 1024) : k0_pay2 (F := Ideal) s (ix3 0 r l) = s (ix2 r l) := by
  pointwise [k0_pay2]

theorem hid_at (x0 : Vec Ideal S256x1024 .f32) (x1 : Vec Ideal S1024x3072 .bf16) (r : Fin 256) (l : Fin 1024) :
    hid (F := Ideal) x0 x1 (ix2 r l) = (∑ e : Fin 1024, x0 (ix2 r e) * x1 (ix2 e ⟨1024 + l.val, by omega⟩)) * ∑ e : Fin 1024, x0 (ix2 r e) * x1 (ix2 e ⟨2048 + l.val, by omega⟩) := by
  refine (pay6_at _ _ _ _ _).trans ?_
  pointwise
  first | done | rfl

theorem scr_hi (y : Vec Ideal S264x1024 .f32) (s : Vec Ideal S2x1024 .f32) (h : Vec Ideal S256x1024 .f32) (r : Fin 256) (l : Fin 1024) :
    scr (F := Ideal) y s h (ix2 (⟨8 + r.val, by omega⟩ : Fin 264) l) = h (ix2 r l) := by
  have e : ∀ a, ![8, 0] a ≤ ((ix2 (⟨8 + r.val, by omega⟩ : Fin 264) l : S264x1024.Idx) a).val
      ∧ ((ix2 (⟨8 + r.val, by omega⟩ : Fin 264) l : S264x1024.Idx) a).val < ![8, 0] a + S256x1024.size a := fun a => match a with
    | ⟨0, _⟩ => ⟨show 8 ≤ 8 + r.val by omega, show 8 + r.val < 8 + 256 by omega⟩
    | ⟨1, _⟩ => ⟨Nat.zero_le _, show l.val < 0 + 1024 by omega⟩
  unfold scr
  refine (dif_pos e).trans ?_
  refine congrArg h (funext fun a => ?_)
  match a with
  | ⟨0, _⟩ => exact Fin.ext (show 8 + r.val - 8 = r.val by omega)
  | ⟨1, _⟩ => exact Fin.ext (show l.val - 0 = l.val by omega)

theorem scr_lo (y : Vec Ideal S264x1024 .f32) (s : Vec Ideal S2x1024 .f32) (h : Vec Ideal S256x1024 .f32) (r : Fin 2) (l : Fin 1024) :
    scr (F := Ideal) y s h (ix2 (⟨6 + r.val, by omega⟩ : Fin 264) l) = s (ix2 r l) := by
  have n : ¬ ∀ a, ![8, 0] a ≤ ((ix2 (⟨6 + r.val, by omega⟩ : Fin 264) l : S264x1024.Idx) a).val
      ∧ ((ix2 (⟨6 + r.val, by omega⟩ : Fin 264) l : S264x1024.Idx) a).val < ![8, 0] a + S256x1024.size a := fun k => by
    have : 8 ≤ 6 + r.val := (k 0).1
    omega
  have e : ∀ a, ![6, 0] a ≤ ((ix2 (⟨6 + r.val, by omega⟩ : Fin 264) l : S264x1024.Idx) a).val
      ∧ ((ix2 (⟨6 + r.val, by omega⟩ : Fin 264) l : S264x1024.Idx) a).val < ![6, 0] a + S2x1024.size a := fun a => match a with
    | ⟨0, _⟩ => ⟨show 6 ≤ 6 + r.val by omega, show 6 + r.val < 6 + 2 by omega⟩
    | ⟨1, _⟩ => ⟨Nat.zero_le _, show l.val < 0 + 1024 by omega⟩
  unfold scr
  refine (dif_neg n).trans ?_
  refine (dif_pos e).trans ?_
  refine congrArg s (funext fun a => ?_)
  match a with
  | ⟨0, _⟩ => exact Fin.ext (show 6 + r.val - 6 = r.val by omega)
  | ⟨1, _⟩ => exact Fin.ext (show l.val - 0 = l.val by omega)

/-- What a point stores of the stream, by the rows, weights and scratch it reads. -/
theorem res_at (x0 : Vec Ideal S256x1024 .f32) (x1 : Vec Ideal S1024x3072 .bf16) (x2 : Vec Ideal S3x1024 .f32) (x3 : Vec Ideal S1024x1024 .bf16)
    (x5 x6 : Vec Ideal S1x1024 .f32) (y : Vec Ideal S264x1024 .f32) (r : Fin 256) (l : Fin 1024) :
    res (F := Ideal) x0 x1 x2 x3 x5 x6 y (ix2 r l) =
      norm (fun l => alpha * x0 (ix2 r l) + ∑ e : Fin 1024, ((∑ j : Fin 1024, x0 (ix2 r j) * x1 (ix2 j ⟨e.val, by omega⟩)) *
          (y (ix2 ⟨6 + r.val, by omega⟩ e) * x2 (ix2 0 e) + y (ix2 ⟨7 + r.val, by omega⟩ e) * x2 (ix2 1 e) + y (ix2 ⟨8 + r.val, by omega⟩ e) * x2 (ix2 2 e))) * x3 (ix2 e l))
        (x5 (ix2 0 l)) (x6 (ix2 0 l)) l := by
  unfold res
  rw [pay8_eq, normed_at]
  simp only [summed_at, pay7_at, pay5_at]
  pointwise
  first | done | rfl

variable (m : (ℓ : Loc nD τ sig) → Buf (Elt Ideal) ℓ)

def flat (x : FVec Ideal S8x2048x1024 .f32) : FVec Ideal S16384x1024 .f32 := shapeCast S16384x1024 x shapeCasts_S8x2048x1024_S16384x1024
def line (g : FVec Ideal S1024 .f32) : FVec Ideal S1x1024 .f32 := broadcastInDim S1x1024 ![1] bcast_S1024_S1x1024_1 g

theorem V_v0 (c : Dev nD) : V m c main_v0 = flat (m ((c.tc : Thread nD τ).loc main_arg0)) := by
  simp only [V, hostOps0]
  after_results_simp <;> rfl
theorem V_v1 (c : Dev nD) : V m c main_v1 = truncf (F := Ideal) (s := S1024x3072) .bf16 (m ((c.tc : Thread nD τ).loc main_arg2)) bitsLt_bf16_f32 := by
  simp only [V, hostOps0]
  after_results_simp <;> rfl
theorem V_v2 (c : Dev nD) : V m c main_v2 = truncf (F := Ideal) (s := S1024x1024) .bf16 (m ((c.tc : Thread nD τ).loc main_arg4)) bitsLt_bf16_f32 := by
  simp only [V, hostOps0]
  after_results_simp <;> rfl
theorem V_v3 (c : Dev nD) : V m c main_v3 = line (m ((c.tc : Thread nD τ).loc main_arg5)) := by
  simp only [V, hostOps0]
  after_results_simp <;> rfl
theorem V_v4 (c : Dev nD) : V m c main_v4 = line (m ((c.tc : Thread nD τ).loc main_arg6)) := by
  simp only [V, hostOps0]
  after_results_simp <;> rfl

theorem flat_at (x : FVec Ideal S8x2048x1024 .f32) (r : Fin 16384) (l : Fin 1024) :
    flat x (ix2 r l) = x (ix3 (⟨r.val / 2048, by omega⟩ : Fin 8) (⟨r.val % 2048, by omega⟩ : Fin 2048) l) := by
  pointwise [flat]
theorem line_at (g : FVec Ideal S1024 .f32) (l : Fin 1024) : line g (ix2 0 l) = g (ix1 l) := by
  pointwise [line]

theorem idx : ∀ t : Fin cfg0.N,
    win0_0.index t = ![t.val, 0] ∧ win0_1.index t = ![0, 0] ∧ win0_2.index t = ![0, 0] ∧ win0_3.index t = ![0, 0] ∧
    win0_4.index t = ![t.val / 8, 0, 0] ∧ win0_5.index t = ![0, 0] ∧ win0_6.index t = ![0, 0] ∧
    win0_7.index t = ![t.val, 0] ∧ win0_8.index t = ![t.val, 0] ∧ win0_9.index t = ![t.val / 8, 0, 0] :=
  (by decide +kernel : ∀ t : Fin grid0.N, _)

theorem tlt (t : Fin cfg0.N) : t.val < 64 := t.isLt

/-- The row of the stream that a block's row is. -/
def row (t : Fin cfg0.N) (r : Fin 256) : Fin 16384 := ⟨256 * t.val + r.val, by have := tlt t; omega⟩
/-- A point's sequence. -/
def seq (t : Fin cfg0.N) : Fin 8 := ⟨t.val / 8, by have := tlt t; omega⟩
/-- The position in it that a block's row is. -/
def pos (t : Fin cfg0.N) (r : Fin 256) : Fin 2048 := ⟨256 * (t.val % 8) + r.val, by omega⟩

theorem emb0 (t : Fin cfg0.N) (r : Fin 256) (l : Fin 1024) : ((cfg0.win 0).blk t).view.emb (ix2 r l) = (ix2 (row t r) l : S16384x1024.Idx) := by
  blk_ext [idx t, row]
theorem emb7 (t : Fin cfg0.N) (r : Fin 256) (l : Fin 1024) : ((cfg0.win 7).blk t).view.emb (ix2 r l) = (ix2 (row t r) l : S16384x1024.Idx) := by
  blk_ext [idx t, row]
theorem emb8 (t : Fin cfg0.N) (r : Fin 256) (l : Fin 1024) : ((cfg0.win 8).blk t).view.emb (ix2 r l) = (ix2 (row t r) l : S16384x1024.Idx) := by
  blk_ext [idx t, row]
theorem emb1 (t : Fin cfg0.N) (r : Fin 1024) (l : Fin 3072) : ((cfg0.win 1).blk t).view.emb (ix2 r l) = (ix2 r l : S1024x3072.Idx) := by
  blk_ext [idx t]
theorem emb2 (t : Fin cfg0.N) (r : Fin 3) (l : Fin 1024) : ((cfg0.win 2).blk t).view.emb (ix2 r l) = (ix2 r l : S3x1024.Idx) := by
  blk_ext [idx t]
theorem emb3 (t : Fin cfg0.N) (r l : Fin 1024) : ((cfg0.win 3).blk t).view.emb (ix2 r l) = (ix2 r l : S1024x1024.Idx) := by
  blk_ext [idx t]
theorem emb4 (t : Fin cfg0.N) (r : Fin 2) (l : Fin 1024) : ((cfg0.win 4).blk t).view.emb (ix3 0 r l) = (ix3 (seq t) r l : S8x2x1024.Idx) := by
  blk_ext [idx t, seq]
theorem emb9 (t : Fin cfg0.N) (r : Fin 2) (l : Fin 1024) : ((cfg0.win 9).blk t).view.emb (ix3 0 r l) = (ix3 (seq t) r l : S8x2x1024.Idx) := by
  blk_ext [idx t, seq]
theorem emb5 (t : Fin cfg0.N) (l : Fin 1024) : ((cfg0.win 5).blk t).view.emb (ix2 0 l) = (ix2 0 l : S1x1024.Idx) := by
  blk_ext [idx t]
theorem emb6 (t : Fin cfg0.N) (l : Fin 1024) : ((cfg0.win 6).blk t).view.emb (ix2 0 l) = (ix2 0 l : S1x1024.Idx) := by
  blk_ext [idx t]

section
variable (c : Dev nD) (t : Fin cfg0.N)

abbrev X : FVec Ideal S8x2048x1024 .f32 := m ((c.tc : Thread nD τ).loc main_arg0)
abbrev ST : FVec Ideal S8x2x1024 .f32 := m ((c.tc : Thread nD τ).loc main_arg1)
abbrev W : FVec Ideal S1024x3072 .f32 := m ((c.tc : Thread nD τ).loc main_arg2)
abbrev K : FVec Ideal S3x1024 .f32 := m ((c.tc : Thread nD τ).loc main_arg3)
abbrev O : FVec Ideal S1024x1024 .f32 := m ((c.tc : Thread nD τ).loc main_arg4)

theorem iblk0 (r : Fin 256) (l : Fin 1024) : iblk m c 0 t (ix2 r l) = X m c (ix3 (seq t) (pos t r) l) :=
  (congrArg (V m c main_v0) (emb0 t r l)).trans (by
    rw [V_v0]
    refine (flat_at _ _ _).trans ?_
    have e1 : (⟨(row t r).val / 2048, by omega⟩ : Fin 8) = seq t := Fin.ext (show (256 * t.val + r.val) / 2048 = t.val / 8 by omega)
    have e2 : (⟨(row t r).val % 2048, by omega⟩ : Fin 2048) = pos t r := Fin.ext (show (256 * t.val + r.val) % 2048 = 256 * (t.val % 8) + r.val by omega)
    rw [e1, e2])
theorem iblk1 (r : Fin 1024) (l : Fin 3072) : iblk m c 1 t (ix2 r l) = W m c (ix2 r l) :=
  (congrArg (V m c main_v1) (emb1 t r l)).trans (by rw [V_v1]; rfl)
theorem iblk2 (r : Fin 3) (l : Fin 1024) : iblk m c 2 t (ix2 r l) = K m c (ix2 r l) :=
  (congrArg (V m c main_arg3) (emb2 t r l)).trans (by rw [V_main_arg3])
theorem iblk3 (r l : Fin 1024) : iblk m c 3 t (ix2 r l) = O m c (ix2 r l) :=
  (congrArg (V m c main_v2) (emb3 t r l)).trans (by rw [V_v2]; rfl)
theorem iblk4 (r : Fin 2) (l : Fin 1024) : iblk m c 4 t (ix3 0 r l) = ST m c (ix3 (seq t) r l) :=
  (congrArg (V m c main_arg1) (emb4 t r l)).trans (by rw [V_main_arg1])
theorem iblk5 (l : Fin 1024) : iblk m c 5 t (ix2 0 l) = line (m ((c.tc : Thread nD τ).loc main_arg5)) (ix2 0 l) :=
  (congrArg (V m c main_v3) (emb5 t l)).trans (by rw [V_v3])
theorem iblk6 (l : Fin 1024) : iblk m c 6 t (ix2 0 l) = line (m ((c.tc : Thread nD τ).loc main_arg6)) (ix2 0 l) :=
  (congrArg (V m c main_v4) (emb6 t l)).trans (by rw [V_v4])

/-- What the kernel leaves of the stream, by its arguments. -/
abbrev RES : FVec Ideal S16384x1024 .f32 :=
  OUT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
/-- What it leaves of the state. -/
abbrev NEXT : FVec Ideal S8x2x1024 .f32 :=
  STATE (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem gated_at (r : Fin 256) (l : Fin 1024) : gated (F := Ideal) m c t (ix2 r l) = gate (X m c) (W m c) (seq t) (pos t r) l := by
  refine (hid_at _ _ _ _).trans ?_
  simp only [iblk0, iblk1]
  rfl

theorem prev_at (r : Fin 2) (l : Fin 1024) :
    prev (F := Ideal) m c t (ix2 r l) = padded (X m c) (ST m c) (W m c) (seq t) ⟨256 * (t.val % 8) + r.val, by omega⟩ l := by
  unfold prev padded
  by_cases ht : t.val % 8 = 0
  · rw [if_pos ht, dif_pos (show 256 * (t.val % 8) + r.val < 2 by omega)]
    refine (pay3_at _ _ _).trans ((iblk4 m c t r l).trans ?_)
    exact congrArg (fun q => ST m c (ix3 (seq t) q l)) (Fin.ext (show r.val = 256 * (t.val % 8) + r.val by omega))
  · rw [if_neg ht, dif_neg (show ¬ 256 * (t.val % 8) + r.val < 2 by omega)]
    refine (pay4_at _ _ _).trans ((gated_at m c (pre t) ⟨254 + r.val, by omega⟩ l).trans ?_)
    have e1 : seq (pre t) = seq t := Fin.ext (show (t.val - 1) / 8 = t.val / 8 by omega)
    have e2 : pos (pre t) ⟨254 + r.val, by omega⟩ = ⟨256 * (t.val % 8) + r.val - 2, by omega⟩ :=
      Fin.ext (show 256 * ((t.val - 1) % 8) + (254 + r.val) = 256 * (t.val % 8) + r.val - 2 by omega)
    rw [e1, e2]

/-- The scratch's rows from the sixth on are the padded rows at the block. -/
theorem scr_at (q : Fin 258) (l : Fin 1024) :
    scr (F := Ideal) (pad (gated m c t)) (prev m c t) (gated m c t) (ix2 (⟨6 + q.val, by omega⟩ : Fin 264) l)
      = padded (X m c) (ST m c) (W m c) (seq t) ⟨256 * (t.val % 8) + q.val, by omega⟩ l := by
  by_cases hq : q.val < 2
  · exact (scr_lo _ _ _ ⟨q.val, hq⟩ l).trans (prev_at m c t ⟨q.val, hq⟩ l)
  · have e : (⟨6 + q.val, by omega⟩ : Fin 264) = ⟨8 + (⟨q.val - 2, by omega⟩ : Fin 256).val, by omega⟩ := Fin.ext (show 6 + q.val = 8 + (q.val - 2) by omega)
    rw [e]
    refine (scr_hi _ _ _ ⟨q.val - 2, by omega⟩ l).trans ((gated_at m c t _ l).trans ?_)
    unfold padded
    rw [dif_neg (show ¬ 256 * (t.val % 8) + q.val < 2 by omega)]
    exact congrArg (fun p => gate (X m c) (W m c) (seq t) p l) (Fin.ext (show 256 * (t.val % 8) + (q.val - 2) = 256 * (t.val % 8) + q.val - 2 by omega))

theorem tap_at (i : Nat) (hi : i < 3) (r : Fin 256) (l : Fin 1024) :
    scr (F := Ideal) (pad (gated m c t)) (prev m c t) (gated m c t) (ix2 (⟨6 + i + r.val, by omega⟩ : Fin 264) l)
      = padded (X m c) (ST m c) (W m c) (seq t) ⟨i + (pos t r).val, by omega⟩ l := by
  have e : (⟨6 + i + r.val, by omega⟩ : Fin 264) = ⟨6 + (⟨i + r.val, by omega⟩ : Fin 258).val, by omega⟩ := Fin.ext (show 6 + i + r.val = 6 + (i + r.val) by omega)
  rw [e]
  refine (scr_at m c t ⟨i + r.val, by omega⟩ l).trans ?_
  exact congrArg (fun q => padded (X m c) (ST m c) (W m c) (seq t) q l) (Fin.ext (show 256 * (t.val % 8) + (i + r.val) = i + (256 * (t.val % 8) + r.val) by omega))

theorem tap0 (r : Fin 256) (l : Fin 1024) :
    scr (F := Ideal) (pad (gated m c t)) (prev m c t) (gated m c t) (ix2 (⟨6 + r.val, by omega⟩ : Fin 264) l)
      = padded (X m c) (ST m c) (W m c) (seq t) ⟨(pos t r).val, by omega⟩ l :=
  scr_at m c t ⟨r.val, by omega⟩ l
theorem tap1 (r : Fin 256) (l : Fin 1024) :
    scr (F := Ideal) (pad (gated m c t)) (prev m c t) (gated m c t) (ix2 (⟨7 + r.val, by omega⟩ : Fin 264) l)
      = padded (X m c) (ST m c) (W m c) (seq t) ⟨1 + (pos t r).val, by omega⟩ l := tap_at m c t 1 (by omega) r l
theorem tap2 (r : Fin 256) (l : Fin 1024) :
    scr (F := Ideal) (pad (gated m c t)) (prev m c t) (gated m c t) (ix2 (⟨8 + r.val, by omega⟩ : Fin 264) l)
      = padded (X m c) (ST m c) (W m c) (seq t) ⟨2 + (pos t r).val, by omega⟩ l := tap_at m c t 2 (by omega) r l

theorem point (r : Fin 256) (l : Fin 1024) : outR (F := Ideal) m c t (ix2 r l) = RES m c (ix2 (row t r) l) := by
  unfold outR
  refine (res_at _ _ _ _ _ _ _ _ _).trans ?_
  simp only [tap0, tap1, tap2, iblk0, iblk1, iblk2, iblk3, iblk5, iblk6, line_at]
  have e1 : (⟨(row t r).val / 2048, by omega⟩ : Fin 8) = seq t := Fin.ext (show (256 * t.val + r.val) / 2048 = t.val / 8 by omega)
  have e2 : (⟨(row t r).val % 2048, by omega⟩ : Fin 2048) = pos t r := Fin.ext (show (256 * t.val + r.val) % 2048 = 256 * (t.val % 8) + r.val by omega)
  show _ = out _ _ _ _ _ _ _ (⟨(row t r).val / 2048, by omega⟩ : Fin 8) (⟨(row t r).val % 2048, by omega⟩ : Fin 2048) l
  rw [e1, e2]
  rfl
end

theorem final7 (c : Dev nD) : (dats m 0 c).arrAt 7 cfg0.N = RES m c := by
  refine (dats m 0 c).arrAt_eq_of_covers 7 _ (by decide +kernel) fun t _ y => ?_
  blk_simp
  rw [after0_7]
  have h : ∀ y : S256x1024.Idx, outR (F := Ideal) m c t y = RES m c (((cfg0.win 7).blk t).view.emb y) := by
    have h : ∀ (r : Fin 256) (l : Fin 1024), outR (F := Ideal) m c t (ix2 r l) = RES m c (((cfg0.win 7).blk t).view.emb (ix2 r l)) := by
      intro r l
      rw [emb7]
      exact point m c t r l
    intro y
    rw [eq_ix2 y]
    exact h _ _
  exact h y

theorem final8 (c : Dev nD) : (dats m 0 c).arrAt 8 cfg0.N = truncf (F := Ideal) .bf16 (RES m c) bitsLt_bf16_f32 := by
  refine (dats m 0 c).arrAt_eq_of_covers 8 _ (by decide +kernel) fun t _ y => ?_
  blk_simp
  rw [after0_8]
  have h : ∀ y : S256x1024.Idx, k0_pay1 (F := Ideal) (outR m c t) y = RES m c (((cfg0.win 8).blk t).view.emb y) := by
    have h : ∀ (r : Fin 256) (l : Fin 1024), k0_pay1 (F := Ideal) (outR m c t) (ix2 r l) = RES m c (((cfg0.win 8).blk t).view.emb (ix2 r l)) := by
      intro r l
      rw [emb8]
      exact point m c t r l
    intro y
    rw [eq_ix2 y]
    exact h _ _
  exact h y

theorem final9 (c : Dev nD) : (dats m 0 c).arrAt 9 cfg0.N = NEXT m c := by
  refine (dats m 0 c).arrAt_eq_of_covers 9 _ (by decide +kernel) fun t ht y => ?_
  have h7 : t.val % 8 = 7 := (flush0_9 t).mp ht
  blk_simp
  rw [after0_9]
  have h : ∀ y : S1x2x1024.Idx, k0_pay2 (F := Ideal) (last2 (gated m c t)) y = NEXT m c (((cfg0.win 9).blk t).view.emb y) := by
    have h : ∀ (z : Fin 1) (r : Fin 2) (l : Fin 1024), k0_pay2 (F := Ideal) (last2 (gated m c t)) (ix3 z r l) = NEXT m c (((cfg0.win 9).blk t).view.emb (ix3 z r l)) := by
      intro z r l
      rw [Fin.fin_one_eq_zero z, emb9]
      refine (pay2_at _ _ _).trans ((gated_at m c t ⟨254 + r.val, by omega⟩ l).trans ?_)
      show _ = padded (X m c) (ST m c) (W m c) (seq t) ⟨2048 + r.val, by omega⟩ l
      unfold padded
      rw [dif_neg (show ¬ 2048 + r.val < 2 by omega)]
      exact congrArg (fun p => gate (X m c) (W m c) (seq t) p l) (Fin.ext (show 256 * (t.val % 8) + (254 + r.val) = 2048 + r.val - 2 by omega))
    intro y
    rw [eq_ix3 y]
    exact h _ _ _
  exact h y

end Cert.Kernel7Ideal.Read

end
-- ==== Proof.ConvRef.lean ====
/-
  The gated convolution's reference read entry by entry.
-/
module

public import proofs.«01_k».proof.Proof.Gen.Reference7Ideal.Run
public import proofs.«01_k».proof.Proof.Conv

@[expose] public section

set_option maxRecDepth 16384

noncomputable section

namespace Cert.Reference7Ideal.Read

open Cert.Reference7Ideal Cert.Reference7Ideal.Gen Cert.Rows Cert.Conv
open Idealize.ShloMosaic Idealize.ShloMosaic.TcCoe Idealize.SL.Sem

abbrev Stream : Type := FVec Ideal S8x2048x1024 .f32

/-- The mean of each row. -/
def mean3 (x : Stream) : FVec Ideal S8x2048x1 .f32 :=
  Host.divf (broadcastInDim S8x2048x1 ![0, 1] bcast_S8x2048_S8x2048x1_0_1 (Host.reduceAdd x (constant (F := Ideal) S_ .f32 0x00000000#32) reducesTo_S8x2048x1024_S8x2048_d2 h_S_))
    (broadcastInDim S8x2048x1 ![] bcast_S_S8x2048x1 (constant (F := Ideal) S_ .f32 0x44800000#32))

def spread (x : FVec Ideal S8x2048x1 .f32) : Stream := broadcastInDim S8x2048x1024 ![0, 1, 2] bcast_S8x2048x1_S8x2048x1024_0_1_2 x

def lane (g : FVec Ideal S1024 .f32) : Stream :=
  broadcastInDim S8x2048x1024 ![0, 1, 2] bcast_S1x1x1024_S8x2048x1024_0_1_2 (broadcastInDim S1x1x1024 ![2] bcast_S1024_S1x1x1024_2 g)

/-- The layer norm, as the reference takes it. -/
def normed (x : Stream) (g b : FVec Ideal S1024 .f32) : Stream :=
  addf (mulf (mulf (subf x (spread (mean3 x)))
    (spread (Host.rsqrt (addf (mean3 (mulf (subf x (spread (mean3 x))) (subf x (spread (mean3 x))))) (broadcastInDim S8x2048x1 ![] bcast_S_S8x2048x1 (constant (F := Ideal) S_ .f32 0x3727C5AC#32))))))
    (lane g)) (lane b)

theorem normed_at (x : Stream) (g h : FVec Ideal S1024 .f32) (b : Fin 8) (p : Fin 2048) (l : Fin 1024) :
    normed x g h (ix3 b p l) = norm (fun y => x (ix3 b p y)) (g (ix1 l)) (h (ix1 l)) l := by
  pointwise [normed, mean3, spread, lane]
  rfl

section
variable (x : Stream) (s : FVec Ideal S8x2x1024 .f32) (w : FVec Ideal S1024x3072 .f32) (k : FVec Ideal S3x1024 .f32) (o : FVec Ideal S1024x1024 .f32) (g h : FVec Ideal S1024 .f32)

/-- The input projection. -/
def all : FVec Ideal S8x2048x3072 .f32 := Host.dotGeneral dot_S8x2048x1024_S1024x3072_S8x2048x3072_2_0_01_1_n_n none x w
def third0 : Stream := extractStridedSlice S8x2048x1024 ![0, 0, 0] (all x w) slices_S8x2048x3072_S8x2048x1024_0_0_0
def third1 : Stream := extractStridedSlice S8x2048x1024 ![0, 0, 1024] (all x w) slices_S8x2048x3072_S8x2048x1024_0_0_1024
def third2 : Stream := extractStridedSlice S8x2048x1024 ![0, 0, 2048] (all x w) slices_S8x2048x3072_S8x2048x1024_0_0_2048
/-- The rows the convolution runs over, for any rows after the state. -/
def joined (z : Stream) : FVec Ideal S8x2050x1024 .f32 :=
  concatenate S8x2050x1024 1 [⟨S8x2x1024, s⟩, ⟨S8x2048x1024, z⟩] concatenates_S8x2x1024_S8x2048x1024_S8x2050x1024_d1
def longer : FVec Ideal S8x2050x1024 .f32 := joined s (mulf (third1 x w) (third2 x w))

def tap0 (y : FVec Ideal S8x2050x1024 .f32) : Stream :=
  mulf (extractStridedSlice S8x2048x1024 ![0, 0, 0] y slices_S8x2050x1024_S8x2048x1024_0_0_0) (lane (shapeCast _ (extractStridedSlice S1x1024 ![0, 0] k slices_S3x1024_S1x1024_0_0) shapeCasts_S1x1024_S1024))
def tap1 (y : FVec Ideal S8x2050x1024 .f32) : Stream :=
  mulf (extractStridedSlice S8x2048x1024 ![0, 1, 0] y slices_S8x2050x1024_S8x2048x1024_0_1_0) (lane (shapeCast _ (extractStridedSlice S1x1024 ![1, 0] k slices_S3x1024_S1x1024_1_0) shapeCasts_S1x1024_S1024))
def tap2 (y : FVec Ideal S8x2050x1024 .f32) : Stream :=
  mulf (extractStridedSlice S8x2048x1024 ![0, 2, 0] y slices_S8x2050x1024_S8x2048x1024_0_2_0) (lane (shapeCast _ (extractStridedSlice S1x1024 ![2, 0] k slices_S3x1024_S1x1024_2_0) shapeCasts_S1x1024_S1024))

/-- The three taps' sum, from nought. -/
def conv (y : FVec Ideal S8x2050x1024 .f32) : Stream :=
  addf (addf (addf (broadcastInDim S8x2048x1024 ![] bcast_S_S8x2048x1024 (constant (F := Ideal) S_ .f32 0x00000000#32)) (tap0 k y)) (tap1 k y)) (tap2 k y)

/-- The residual with the projection added. -/
def sum3 (y : Stream) : Stream :=
  addf (mulf (broadcastInDim S8x2048x1024 ![] bcast_S_S8x2048x1024 (constant (F := Ideal) S_ .f32 0x3FD744FD#32)) x)
    (Host.dotGeneral dot_S8x2048x1024_S1024x1024_S8x2048x1024_2_0_01_1_n_n none y o)

def REF : FVec Ideal S16384x1024 .f32 :=
  shapeCast S16384x1024 (normed (sum3 x o (mulf (third0 x w) (conv k (longer x s w)))) g h) shapeCasts_S8x2048x1024_S16384x1024

def REFS (_ : FVec Ideal S3x1024 .f32) (_ : FVec Ideal S1024x1024 .f32) (_ _ : FVec Ideal S1024 .f32) : FVec Ideal S8x2x1024 .f32 :=
  extractStridedSlice S8x2x1024 ![0, 2048, 0] (longer x s w) slices_S8x2050x1024_S8x2x1024_0_2048_0

theorem all_at (b : Fin 8) (p : Fin 2048) (j : Fin 3072) : all x w (ix3 b p j) = proj x w b p j := by
  pointwise [all]
  first | done | rfl
theorem third0_at (b : Fin 8) (p : Fin 2048) (l : Fin 1024) : third0 x w (ix3 b p l) = proj x w b p ⟨l.val, by omega⟩ := by
  pointwise [third0, all_at]
  first | done | rfl
theorem third1_at (b : Fin 8) (p : Fin 2048) (l : Fin 1024) : third1 x w (ix3 b p l) = proj x w b p ⟨1024 + l.val, by omega⟩ := by
  pointwise [third1, all_at]
  first | done | rfl
theorem third2_at (b : Fin 8) (p : Fin 2048) (l : Fin 1024) : third2 x w (ix3 b p l) = proj x w b p ⟨2048 + l.val, by omega⟩ := by
  pointwise [third2, all_at]
  first | done | rfl

theorem joined_at (z : Stream) (b : Fin 8) (q : Fin 2050) (l : Fin 1024) :
    joined s z (ix3 b q l) = if h : q.val < 2 then s (ix3 b ⟨q.val, h⟩ l) else z (ix3 b ⟨q.val - 2, by omega⟩ l) := by
  pointwise [joined]
  first | done | rfl

theorem longer_at (b : Fin 8) (q : Fin 2050) (l : Fin 1024) : longer x s w (ix3 b q l) = padded x s w b q l := by
  refine (joined_at _ _ _ _ _).trans ?_
  unfold padded
  split
  · rfl
  · exact congrArg₂ (· * ·) (third1_at x w b _ l) (third2_at x w b _ l)

theorem tap0_at (y : FVec Ideal S8x2050x1024 .f32) (b : Fin 8) (p : Fin 2048) (l : Fin 1024) : tap0 k y (ix3 b p l) = y (ix3 b ⟨p.val, by omega⟩ l) * k (ix2 0 l) := by
  pointwise [tap0, lane]
  first | done | rfl
theorem tap1_at (y : FVec Ideal S8x2050x1024 .f32) (b : Fin 8) (p : Fin 2048) (l : Fin 1024) : tap1 k y (ix3 b p l) = y (ix3 b ⟨1 + p.val, by omega⟩ l) * k (ix2 1 l) := by
  pointwise [tap1, lane]
  first | done | rfl
theorem tap2_at (y : FVec Ideal S8x2050x1024 .f32) (b : Fin 8) (p : Fin 2048) (l : Fin 1024) : tap2 k y (ix3 b p l) = y (ix3 b ⟨2 + p.val, by omega⟩ l) * k (ix2 2 l) := by
  pointwise [tap2, lane]
  first | done | rfl

theorem conv_at (b : Fin 8) (p : Fin 2048) (l : Fin 1024) : conv k (longer x s w) (ix3 b p l) = taps x s w k b p l := by
  have e : conv k (longer x s w) (ix3 b p l) = tap0 k (longer x s w) (ix3 b p l) + tap1 k (longer x s w) (ix3 b p l) + tap2 k (longer x s w) (ix3 b p l) := by
    pointwise [conv]
  rw [e, tap0_at, tap1_at, tap2_at, longer_at, longer_at, longer_at]
  rfl

theorem sum3_at (y : Stream) (b : Fin 8) (p : Fin 2048) (l : Fin 1024) :
    sum3 x o y (ix3 b p l) = alpha * x (ix3 b p l) + ∑ e : Fin 1024, y (ix3 b p e) * o (ix2 e l) := by
  pointwise [sum3]
  rfl

theorem mixed_at (b : Fin 8) (p : Fin 2048) (l : Fin 1024) :
    mulf (F := Ideal) (third0 x w) (conv k (longer x s w)) (ix3 b p l) = proj x w b p ⟨l.val, by omega⟩ * taps x s w k b p l :=
  congrArg₂ (· * ·) (third0_at x w b p l) (conv_at x s w k b p l)

theorem eq0 : REF x s w k o g h = OUT x s w k o g h := by
  have e : ∀ (r : Fin 16384) (l : Fin 1024), REF x s w k o g h (ix2 r l) = OUT x s w k o g h (ix2 r l) := by
    intro r l
    have e : REF x s w k o g h (ix2 r l) = normed (sum3 x o (mulf (third0 x w) (conv k (longer x s w)))) g h (ix3 (⟨r.val / 2048, by omega⟩ : Fin 8) (⟨r.val % 2048, by omega⟩ : Fin 2048) l) := by
      pointwise [REF]
    rw [e, normed_at]
    simp only [sum3_at, mixed_at]
    rfl
  funext i
  rw [eq_ix2 i]
  exact e _ _

theorem eq1 : truncf (F := Ideal) .bf16 (REF x s w k o g h) bitsLt_bf16_f32 = truncf (F := Ideal) .bf16 (OUT x s w k o g h) bitsLt_bf16_f32 :=
  congrArg (fun y => truncf (F := Ideal) .bf16 y bitsLt_bf16_f32) (eq0 x s w k o g h)

theorem eq2 : REFS x s w k o g h = STATE x s w k o g h := by
  have e : ∀ (b : Fin 8) (r : Fin 2) (l : Fin 1024), REFS x s w k o g h (ix3 b r l) = STATE x s w k o g h (ix3 b r l) := by
    intro b r l
    have e : REFS x s w k o g h (ix3 b r l) = longer x s w (ix3 b ⟨2048 + r.val, by omega⟩ l) := by
      pointwise [REFS]
      first | done | rfl
    exact e.trans (longer_at x s w b _ l)
  funext i
  rw [eq_ix3 i]
  exact e _ _ _
end

def val0 (m : (ℓ : Loc nD τ sig) → Buf (Elt Ideal) ℓ) (c : Dev nD) : FVec Ideal S16384x1024 .f32 :=
  REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
def val1 (m : (ℓ : Loc nD τ sig) → Buf (Elt Ideal) ℓ) (c : Dev nD) : FVec Ideal S16384x1024 .bf16 :=
  truncf (F := Ideal) .bf16 (REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))) bitsLt_bf16_f32
def val2 (m : (ℓ : Loc nD τ sig) → Buf (Elt Ideal) ℓ) (c : Dev nD) : FVec Ideal S8x2x1024 .f32 :=
  REFS (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

end Cert.Reference7Ideal.Read

end
-- ==== Proof.Visit.lean ====
/-
  What one visit of a key tile does to the running sums of the attention kernel, named once: the scores of the tile,
  the log-probabilities of passing a key by, their suffix sums, the weights, and the two running sums they are added
  to. The kernel's four branches and its loop are iterations of these.
-/
module

public import proofs.«01_k».proof.Proof.Gen.KernelIdeal.Frame

@[expose] public section

noncomputable section

namespace Cert.KernelIdeal.Visit

open Cert.KernelIdeal Cert.KernelIdeal.Gen
open Idealize.ShloMosaic Idealize.SL.Sem

variable {F : FTy → Type} [FloatOps F]

/-- The running sums of the two heads: their weighted values, then the sums of the log-probabilities so far. -/
abbrev St (F : FTy → Type) : Type := FVec F S256x128 .f32 × FVec F S256x128 .f32 × FVec F S256x1 .f32 × FVec F S256x1 .f32

/-- Queries against a tile of keys. -/
def scores (q k : FVec F S256x128 .bf16) : FVec F S256x256 .f32 :=
  matmul dot_S256x128_S256x128_S256x256_1_1_0_0_n_n none q k (constant S256x256 .f32 0x00000000#32)

/-- The logarithm of one minus the sigmoid. -/
def lsn (s : FVec F S256x256 .f32) : FVec F S256x256 .f32 :=
  subf (minimumf (subf (broadcast S256x256 (Scalar.ofBits .f32 0x00000000#32)) s) (broadcast S256x256 (Scalar.ofBits .f32 0x00000000#32)))
    (log (addf (broadcast S256x256 (Scalar.ofBits .f32 0x3F800000#32))
      (exp (subf (broadcast S256x256 (Scalar.ofBits .f32 0x00000000#32)) (absf s)))))

/-- Zero off the strict lower triangle. -/
def tri (x : FVec F S256x256 .f32) : FVec F S256x256 .f32 :=
  select (cmpi .slt (iota .tc S256x256 32 [1] iota_S256x256_d1_w32) (iota .tc S256x256 32 [0] iota_S256x256_d0_w32)) x
    (broadcast S256x256 (Scalar.ofBits .f32 0x00000000#32))

/-- Sums over the later columns, in a high and a low half. -/
def suffix (u : FVec F S256x256 .bf16) (l : FVec F S256x256 .f32) : FVec F S256x256 .f32 :=
  addf (matmul dot_S256x256_S256x256_S256x256_1_0_0_1_n_n none (truncf .bf16 l bitsLt_bf16_f32) u (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) u (constant S256x256 .f32 0x00000000#32))

/-- The weights of a tile's keys. -/
def weights (u : FVec F S256x256 .bf16) (s l : FVec F S256x256 .f32) (carry : FVec F S256x1 .f32) : FVec F S256x256 .f32 :=
  exp (addf (addf (addf s (lsn s)) (suffix u l)) (broadcastTo S256x256 carry broadcasts_S256x1_S256x256))

/-- The weighted values added to their running sum. -/
def accum (acc : FVec F S256x128 .f32) (w : FVec F S256x256 .f32) (v : FVec F S256x128 .bf16) : FVec F S256x128 .f32 :=
  addf acc (matmul dot_S256x256_S256x128_S256x128_1_0_0_1_n_n none (truncf .bf16 w bitsLt_bf16_f32) v (constant S256x128 .f32 0x00000000#32))

/-- The row sums added to theirs. -/
def rowsum (carry : FVec F S256x1 .f32) (l : FVec F S256x256 .f32) : FVec F S256x1 .f32 :=
  addf carry (shapeCast S256x1 (multiReduction .add [1] S256 l 0x00000000#32 reduces_S256x256_S256 (.inl rfl) rfl) shapeCasts_S256_S256x1)

/-- A tile off the diagonal. -/
def stepF (u : FVec F S256x256 .bf16) (q0 q1 k v : FVec F S256x128 .bf16) (st : St F) : St F :=
  (accum st.1 (weights u (scores q0 k) (lsn (scores q0 k)) st.2.2.1) v,
   accum st.2.1 (weights u (scores q1 k) (lsn (scores q1 k)) st.2.2.2) v,
   rowsum st.2.2.1 (lsn (scores q0 k)), rowsum st.2.2.2 (lsn (scores q1 k)))

/-- The tile on the diagonal. -/
def stepD (u : FVec F S256x256 .bf16) (q0 q1 k v : FVec F S256x128 .bf16) (st : St F) : St F :=
  (accum st.1 (tri (weights u (scores q0 k) (tri (lsn (scores q0 k))) st.2.2.1)) v,
   accum st.2.1 (tri (weights u (scores q1 k) (tri (lsn (scores q1 k))) st.2.2.2)) v,
   rowsum st.2.2.1 (tri (lsn (scores q0 k))), rowsum st.2.2.2 (tri (lsn (scores q1 k))))

/-- The running sums at the start. -/
def init : St F :=
  (broadcast S256x128 (Scalar.ofBits .f32 0x00000000#32), broadcast S256x128 (Scalar.ofBits .f32 0x00000000#32),
   broadcast S256x1 (Scalar.ofBits .f32 0x00000000#32), broadcast S256x1 (Scalar.ofBits .f32 0x00000000#32))

/-- A tile of 256 rows of a keys' or values' block, from row `o 0`. -/
def tile (x : Vec F S2048x128 .bf16) (o : Fin 2 → Nat) (h : ∀ a, o a + S256x128.size a ≤ S2048x128.size a) : FVec F S256x128 .bf16 :=
  shapeCast S256x128 (View.ld x (Rect.unit (s := S2048x128) o S256x128.size h)) shapeCasts_S256x128_S256x128

/-- The tile of keys or values numbered `j`. -/
def tileN (x : Vec F S2048x128 .bf16) (j : Nat) : FVec F S256x128 .bf16 :=
  tile x ![256 * (j % 8), 0] (by
    intro a
    have := Nat.mod_lt j (show 0 < 8 by decide)
    match a with
    | ⟨0, _⟩ => show 256 * (j % 8) + 256 ≤ 2048; omega
    | ⟨1, _⟩ => show 0 + 128 ≤ 128; omega)

theorem tile_eq {x : Vec F S2048x128 .bf16} {o : Fin 2 → Nat} {h : ∀ a, o a + S256x128.size a ≤ S2048x128.size a} {j : Nat}
    (e : o = ![256 * (j % 8), 0]) : tile x o h = tileN x j := by subst e; rfl

/-- The running sums of query tile `a` after its own tile of keys and the `n` before it, from the last to the first. -/
def run (u : FVec F S256x256 .bf16) (q0 q1 : FVec F S256x128 .bf16) (xk xv : Vec F S2048x128 .bf16) (a : Nat) : Nat → St F
  | 0 => stepD u q0 q1 (tileN xk a) (tileN xv a) init
  | n + 1 => stepF u q0 q1 (tileN xk (a - (n + 1))) (tileN xv (a - (n + 1))) (run u q0 q1 xk xv a n)

/-- One trip of the loop over tiles, four at a time. -/
def trip (u : FVec F S256x256 .bf16) (q0 q1 : FVec F S256x128 .bf16) (xk xv : Vec F S2048x128 .bf16) (a t : Nat) (st : St F) : St F :=
  let j (r : Nat) := a - (a % 4 + 4 * t + r + 1)
  let s (r : Nat) := stepF u q0 q1 (tileN xk (j r)) (tileN xv (j r))
  s 3 (s 2 (s 1 (s 0 st)))

/-- The state before trip `t`. -/
def trips (u : FVec F S256x256 .bf16) (q0 q1 : FVec F S256x128 .bf16) (xk xv : Vec F S2048x128 .bf16) (a : Nat) (st : St F) : Nat → St F
  | 0 => st
  | t + 1 => trip u q0 q1 xk xv a t (trips u q0 q1 xk xv a st t)

theorem trips_run (u : FVec F S256x256 .bf16) (q0 q1 : FVec F S256x128 .bf16) (xk xv : Vec F S2048x128 .bf16) (a t : Nat) :
    trips u q0 q1 xk xv a (run u q0 q1 xk xv a (a % 4)) t = run u q0 q1 xk xv a (a % 4 + 4 * t) := by
  induction t with
  | zero => rfl
  | succ t ih => rw [trips, ih, show a % 4 + 4 * (t + 1) = a % 4 + 4 * t + 1 + 1 + 1 + 1 by omega]; rfl

end Cert.KernelIdeal.Visit

end
-- ==== Proof.Trip.lean ====
module

public import proofs.«01_k».proof.Proof.Visit
public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Body

open Cert.KernelIdeal Cert.KernelIdeal.Gen Cert.KernelIdeal.Visit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off5 : ∀ (i : grid0.Coords) (t : Fin (k0_t1_loop i).trips) (r : Fin 4),
    k0_off5 i t (BitVec.ofNat 32 r.val) = ![256 * (((i 2).val - ((i 2).val % 4 + 4 * t.val + r.val + 1)) % 8), 0] := by
  have h : ∀ (a : Fin 8) (t : Fin 2) (r : Fin 4), t.val < a.val / 4 →
      (Scalar.indexCast (Scalar.muli (Scalar.subi (Scalar.subi (Scalar.subi (Scalar.subi (BitVec.ofNat 32 a.val) 1#32)
        (Scalar.remsi (BitVec.ofNat 32 a.val) 4#32)) (Scalar.muli 4#32 (Scf.iv 0#32 1#32 t.val))) (BitVec.ofNat 32 r.val)) 256#32) : Index).toNat
      = 256 * ((a.val - (a.val % 4 + 4 * t.val + r.val + 1)) % 8) := by decide +kernel
  have hn : ∀ a : Fin 8, Scf.trips 0#32 (Scalar.addi 0#32 (Scalar.muli (Scalar.divsi (Scalar.subi (Scalar.divsi (BitVec.ofNat 32 a.val) 4#32) 0#32) 1#32) 1#32)) 1#32 = a.val / 4 := by
    decide +kernel
  intro i t r
  have ht : t.val < (i 2).val / 4 := lt_of_lt_of_eq t.isLt (hn (i 2))
  have ha : (i 2).val < 8 := (i 2).isLt
  funext x
  match x with
  | ⟨0, _⟩ => exact h (i 2) ⟨t.val, by omega⟩ r ht
  | ⟨1, _⟩ => rfl

/-- Four tiles off the diagonal, at the rows the loop computes. -/
def trip4 (i : grid0.Coords) (u : FVec F S256x256 .bf16) (q0 q1 : FVec F S256x128 .bf16) (xk xv : Vec F S2048x128 .bf16)
    (t : Fin (k0_t1_loop i).trips) (st : St F) : St F :=
  let s (r : Fin 4) := stepF u q0 q1 (tile xk (k0_off5 i t (BitVec.ofNat 32 r.val)) (k0_off5_inb i t r))
    (tile xv (k0_off5 i t (BitVec.ofNat 32 r.val)) (k0_off5_inb i t r))
  s 3 (s 2 (s 1 (s 0 st)))

theorem trip4_eq (i : grid0.Coords) (u : FVec F S256x256 .bf16) (q0 q1 : FVec F S256x128 .bf16) (xk xv : Vec F S2048x128 .bf16)
    (t : Fin (k0_t1_loop i).trips) (st : St F) : trip4 i u q0 q1 xk xv t st = trip u q0 q1 xk xv (i 2).val t.val st := by
  have e (x : Vec F S2048x128 .bf16) (r : Fin 4) := tile_eq (x := x) (h := k0_off5_inb i t r) (off5 i t r)
  unfold trip4
  simp only [e]
  rfl

/-- The two operands a trip reads, at their contents. -/
abbrev Tiles (c : Dev nD) (arg4 arg5 : Memref sig .tc .vmem S2048x128 .bf16) (f4 : BufTy.Contents (Elt F) arg4.view.ty) (f5 : BufTy.Contents (Elt F) arg5.view.ty) : sProp 𝕄 :=
  iprop((arg4.view.loc (c : Thread nD τ) ↦[arg4.view.set]{fullShare} f4) ∗ (arg5.view.loc (c : Thread nD τ) ↦[arg5.view.set]{fullShare} f5))

set_option maxHeartbeats 1000000 in
theorem trip_run (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (v32 v62 : FVec F S256x128 .bf16) (v67 : FVec F S256x256 .bf16) (v78 c0 : BitVec 32) (f4 : BufTy.Contents (Elt F) arg4.view.ty) (f5 : BufTy.Contents (Elt F) arg5.view.ty)
    (k : Fin (k0_t1_loop i).trips) (acc : St F) :
    Tiles c arg4 arg5 f4 f5
      ⊢ wp frame (wpE (defs₀ (F := F)) Variants.none c none) E (k0_t1_body (F := F) i arg3 harg3 arg4 harg4 arg5 harg5 arg6 harg6 arg7 harg7 v32 v62 v67 v78 c0 k acc)
          (fun yld => iprop(⌜yld = trip v67 v32 v62 (arg4.view.read (Elt F) f4) (arg5.view.read (Elt F) f5) (i 2).val k.val acc⌝ ∗ Tiles c arg4 arg5 f4 f5)) := by
  unfold k0_t1_body
  iintro ⟨H4, H5⟩
  sl_exec
  sl_step
  isplitr
  · ipureintro
    exact Eq.trans (b := trip4 i v67 v32 v62 (arg4.view.read (Elt F) f4) (arg5.view.read (Elt F) f5) k acc) rfl (trip4_eq ..)
  isplitl [H4]
  · iexact H4
  iexact H5

end Cert.KernelIdeal.Body

end
-- ==== Proof.Body.lean ====
module

public import proofs.«01_k».proof.Proof.Trip
public import Idealize.ShloMosaic.Lib.Pipeline.ValueKit

@[expose] public section

set_option maxRecDepth 16384

noncomputable section

namespace Cert.KernelIdeal.Body

open Cert.KernelIdeal Cert.KernelIdeal.Gen Cert.KernelIdeal.Visit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- The loop over tiles, four at a time: the two operands it reads, and the sums so far. -/
@[sl_loop] def tilesInv (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (v32 v62 : FVec F S256x128 .bf16) (v67 : FVec F S256x256 .bf16) (v78 c0 : BitVec 32) (f4 : BufTy.Contents (Elt F) arg4.view.ty) (f5 : BufTy.Contents (Elt F) arg5.view.ty) (init : St F) :
    LoopInvTy_k0_t1 (F := F) Unit ℕ (UR sig nD τ) ℕ Variants.none c none E i arg3 harg3 arg4 harg4 arg5 harg5 arg6 harg6 arg7 harg7 v32 v62 v67 v78 c0 init where
  inv k acc := iprop((arg4.view.loc (c : Thread nD τ) ↦[arg4.view.set]{fullShare} f4) ∗ (arg5.view.loc (c : Thread nD τ) ↦[arg5.view.set]{fullShare} f5)
    ∗ ⌜acc = trips v67 v32 v62 (arg4.view.read (Elt F) f4) (arg5.view.read (Elt F) f5) (i 2).val init k⌝)
  step k acc := by
    iintro ⟨H4, H5, %hacc⟩
    subst hacc
    iapply (wp_wand_r Idealize.ShloMosaic.frame (wpE (defs₀ (F := F)) Variants.none (c : Thread nD τ) none) E)
    isplitl [H4 H5]
    · iapply (trip_run c E i arg3 harg3 arg4 harg4 arg5 harg5 arg6 harg6 arg7 harg7 v32 v62 v67 v78 c0 f4 f5 k _)
      isplitl [H4]; · iexact H4
      iexact H5
    · iintro %yld ⟨%hy, H4, H5⟩
      isplitl [H4]; · iexact H4
      isplitl [H5]; · iexact H5
      ipureintro; rw [hy]; rfl

/-! ## The switch: the diagonal tile and the `n` before it -/

/-- The branch the switch takes, by the number of the query tile. -/
theorem cond1 : ∀ i : grid0.Coords, k0_cond1 i = 1#1 ↔ (i 2).val % 4 ≠ 0 := fun i =>
  (by decide +kernel : ∀ a : Fin 8, Scalar.cmpi .ne (Scalar.minsi (Scalar.maxsi (Scalar.remsi (BitVec.ofNat 32 a.val) 4#32) 0#32) 3#32) 0#32 = 1#1
    ↔ a.val % 4 ≠ 0) (i 2)

theorem cond2 : ∀ i : grid0.Coords, k0_cond2 i = 1#1 ↔ (i 2).val % 4 ≠ 1 := fun i =>
  (by decide +kernel : ∀ a : Fin 8, Scalar.cmpi .ne (Scalar.subi (Scalar.minsi (Scalar.maxsi (Scalar.remsi (BitVec.ofNat 32 a.val) 4#32) 0#32) 3#32) 1#32) 0#32 = 1#1
    ↔ a.val % 4 ≠ 1) (i 2)

theorem cond3 : ∀ i : grid0.Coords, k0_cond3 i = 1#1 ↔ (i 2).val % 4 ≠ 2 := fun i =>
  (by decide +kernel : ∀ a : Fin 8, Scalar.cmpi .ne (Scalar.subi (Scalar.subi (Scalar.minsi (Scalar.maxsi (Scalar.remsi (BitVec.ofNat 32 a.val) 4#32) 0#32) 3#32) 1#32) 1#32) 0#32 = 1#1
    ↔ a.val % 4 ≠ 2) (i 2)

theorem off_at (a : Fin 8) (r : Nat) (h : r ≤ a.val % 4) :
    (Scalar.indexCast (Scalar.muli (Scalar.subi (BitVec.ofNat 32 a.val) (BitVec.ofNat 32 r)) 256#32) : Index).toNat = 256 * ((a.val - r) % 8) :=
  (by decide +kernel : ∀ (a : Fin 8) (r : Fin 4), r.val ≤ a.val % 4 →
    (Scalar.indexCast (Scalar.muli (Scalar.subi (BitVec.ofNat 32 a.val) (BitVec.ofNat 32 r.val)) 256#32) : Index).toNat = 256 * ((a.val - r.val) % 8))
    a ⟨r, by omega⟩ h

/-- The rows of the tile `r` before the diagonal one, as each branch of the switch computes them. -/
theorem off1 (i : grid0.Coords) (r : Nat) (h : r ≤ (i 2).val % 4) : k0_off1 i (BitVec.ofNat 32 r) = ![256 * (((i 2).val - r) % 8), 0] := by
  have := off_at (i 2) r h
  funext x
  match x with
  | ⟨0, _⟩ => exact this
  | ⟨1, _⟩ => rfl
theorem off2 (i : grid0.Coords) (r : Nat) (h : r ≤ (i 2).val % 4) : k0_off2 i (BitVec.ofNat 32 r) = ![256 * (((i 2).val - r) % 8), 0] := off1 i r h
theorem off3 (i : grid0.Coords) (r : Nat) (h : r ≤ (i 2).val % 4) : k0_off3 i (BitVec.ofNat 32 r) = ![256 * (((i 2).val - r) % 8), 0] := off1 i r h
theorem off4 (i : grid0.Coords) : k0_off4 i = ![256 * ((i 2).val % 8), 0] := off1 i 0 (Nat.zero_le _)

section Switch

variable (i : grid0.Coords) (u : FVec F S256x256 .bf16) (q0 q1 : FVec F S256x128 .bf16) (xk xv : Vec F S2048x128 .bf16)

def sw0 (h : ¬ k0_cond1 i = 1#1) : St F :=
  stepD u q0 q1 (tile xk (k0_off4 i) (k0_off4_inb i h)) (tile xv (k0_off4 i) (k0_off4_inb i h)) init

def sw1 (h1 : k0_cond1 i = 1#1) (h2 : ¬ k0_cond2 i = 1#1) : St F :=
  stepF u q0 q1 (tile xk (k0_off3 i 1#32) (k0_off3_inb i h1 h2 1)) (tile xv (k0_off3 i 1#32) (k0_off3_inb i h1 h2 1))
    (stepD u q0 q1 (tile xk (k0_off3 i 0#32) (k0_off3_inb i h1 h2 0)) (tile xv (k0_off3 i 0#32) (k0_off3_inb i h1 h2 0)) init)

def sw2 (h1 : k0_cond1 i = 1#1) (h2 : k0_cond2 i = 1#1) (h3 : ¬ k0_cond3 i = 1#1) : St F :=
  stepF u q0 q1 (tile xk (k0_off2 i 2#32) (k0_off2_inb i h1 h2 h3 2)) (tile xv (k0_off2 i 2#32) (k0_off2_inb i h1 h2 h3 2))
    (stepF u q0 q1 (tile xk (k0_off2 i 1#32) (k0_off2_inb i h1 h2 h3 1)) (tile xv (k0_off2 i 1#32) (k0_off2_inb i h1 h2 h3 1))
      (stepD u q0 q1 (tile xk (k0_off2 i 0#32) (k0_off2_inb i h1 h2 h3 0)) (tile xv (k0_off2 i 0#32) (k0_off2_inb i h1 h2 h3 0)) init))

def sw3 (h1 : k0_cond1 i = 1#1) (h2 : k0_cond2 i = 1#1) (h3 : k0_cond3 i = 1#1) : St F :=
  stepF u q0 q1 (tile xk (k0_off1 i 3#32) (k0_off1_inb i h1 h2 h3 3)) (tile xv (k0_off1 i 3#32) (k0_off1_inb i h1 h2 h3 3))
    (stepF u q0 q1 (tile xk (k0_off1 i 2#32) (k0_off1_inb i h1 h2 h3 2)) (tile xv (k0_off1 i 2#32) (k0_off1_inb i h1 h2 h3 2))
      (stepF u q0 q1 (tile xk (k0_off1 i 1#32) (k0_off1_inb i h1 h2 h3 1)) (tile xv (k0_off1 i 1#32) (k0_off1_inb i h1 h2 h3 1))
        (stepD u q0 q1 (tile xk (k0_off1 i 0#32) (k0_off1_inb i h1 h2 h3 0)) (tile xv (k0_off1 i 0#32) (k0_off1_inb i h1 h2 h3 0)) init)))

theorem sw0_eq (h : ¬ k0_cond1 i = 1#1) : sw0 i u q0 q1 xk xv h = run u q0 q1 xk xv (i 2).val ((i 2).val % 4) := by
  have ha : (i 2).val % 4 = 0 := by have := mt (cond1 i).mpr h; omega
  unfold sw0
  rw [tile_eq (off4 i), tile_eq (off4 i), ha]
  rfl

theorem sw1_eq (h1 : k0_cond1 i = 1#1) (h2 : ¬ k0_cond2 i = 1#1) :
    sw1 i u q0 q1 xk xv h1 h2 = run u q0 q1 xk xv (i 2).val ((i 2).val % 4) := by
  have ha : (i 2).val % 4 = 1 := by have := mt (cond2 i).mpr h2; omega
  unfold sw1
  rw [tile_eq (off3 i 1 (by omega)), tile_eq (off3 i 1 (by omega)), tile_eq (off3 i 0 (by omega)), tile_eq (off3 i 0 (by omega)), ha]
  rfl

theorem sw2_eq (h1 : k0_cond1 i = 1#1) (h2 : k0_cond2 i = 1#1) (h3 : ¬ k0_cond3 i = 1#1) :
    sw2 i u q0 q1 xk xv h1 h2 h3 = run u q0 q1 xk xv (i 2).val ((i 2).val % 4) := by
  have ha : (i 2).val % 4 = 2 := by have := mt (cond3 i).mpr h3; omega
  unfold sw2
  rw [tile_eq (off2 i 2 (by omega)), tile_eq (off2 i 2 (by omega)), tile_eq (off2 i 1 (by omega)), tile_eq (off2 i 1 (by omega)),
    tile_eq (off2 i 0 (by omega)), tile_eq (off2 i 0 (by omega)), ha]
  rfl

theorem sw3_eq (h1 : k0_cond1 i = 1#1) (h2 : k0_cond2 i = 1#1) (h3 : k0_cond3 i = 1#1) :
    sw3 i u q0 q1 xk xv h1 h2 h3 = run u q0 q1 xk xv (i 2).val ((i 2).val % 4) := by
  have ha : (i 2).val % 4 = 3 := by have := (cond1 i).mp h1; have := (cond2 i).mp h2; have := (cond3 i).mp h3; omega
  unfold sw3
  rw [tile_eq (off1 i 3 (by omega)), tile_eq (off1 i 3 (by omega)), tile_eq (off1 i 2 (by omega)), tile_eq (off1 i 2 (by omega)),
    tile_eq (off1 i 1 (by omega)), tile_eq (off1 i 1 (by omega)), tile_eq (off1 i 0 (by omega)), tile_eq (off1 i 0 (by omega)), ha]
  rfl

end Switch

/-! ## The body -/

/-- The queries of the even and of the odd head of the pair of heads in a block. -/
def head0 (x0 : Vec F S256x128 .bf16) : FVec F S256x128 .bf16 := k0_pay238 x0
def head1 (x0 : Vec F S256x128 .bf16) : FVec F S256x128 .bf16 :=
  k0_pay241 (iota .tc S1x128 32 [1] iota_S1x128_d1_w32) (k0_pay237 x0) 64#32 k0_pay239 k0_pay240 0#32

/-- The two heads' sums side by side. -/
def join (st : St F) : FVec F S256x128 .bf16 := k0_pay5 (iota .tc S1x128 32 [1] iota_S1x128_d1_w32) st.1 st.2.1

/-- What the body stores for query tile `a`. -/
def bodyVal (a : Nat) (x0 : Vec F S256x128 .bf16) (x1 x2 : Vec F S2048x128 .bf16) (x3 : Vec F S256x256 .bf16) : FVec F S256x128 .bf16 :=
  join (run (k0_pay243 x3) (head0 x0) (head1 x0) x1 x2 a a)

theorem trips_all (i : grid0.Coords) (u : FVec F S256x256 .bf16) (q0 q1 : FVec F S256x128 .bf16) (xk xv : Vec F S2048x128 .bf16) (st : St F)
    (h : st = run u q0 q1 xk xv (i 2).val ((i 2).val % 4)) :
    trips u q0 q1 xk xv (i 2).val st (Scf.trips (k0_t1_loop i).lb (k0_t1_loop i).ub (k0_t1_loop i).st) = run u q0 q1 xk xv (i 2).val (i 2).val := by
  have hn : ∀ a : Fin 8, Scf.trips 0#32 (Scalar.addi 0#32 (Scalar.muli (Scalar.divsi (Scalar.subi (Scalar.divsi (BitVec.ofNat 32 a.val) 4#32) 0#32) 1#32) 1#32)) 1#32 = a.val / 4 := by
    decide +kernel
  have e := trips_run u q0 q1 xk xv (i 2).val ((i 2).val / 4)
  rw [show (i 2).val % 4 + 4 * ((i 2).val / 4) = (i 2).val by omega] at e
  exact h ▸ (congrArg _ (hn (i 2))).trans e

theorem cover (p : Vec F S256x128 .bf16) (y : S256x128.Idx) :
    ∃ pc ∈ ([⟨Rect.unit (s := S256x128) ![0, 0] S256x128.size inb_S256x128_S256x128_0_0, p⟩] : List (View.Piece (Elt F) S256x128 .bf16)), y ∈ pc.1.set :=
  View.cover_of_tiled [⟨Rect.unit (s := S256x128) ![0, 0] S256x128.size inb_S256x128_S256x128_0_0, p⟩] S256x128.size (by rfl) y

/-- Writing the whole of a block leaves what was written. -/
theorem read_whole (arg : Memref sig .tc .vmem S256x128 .bf16) (f : BufTy.Contents (Elt F) arg.view.ty) (p p' : Vec F S256x128 .bf16) (h : p = p') :
    arg.view.read (Elt F) (arg.view.writes (Elt F) f [⟨Rect.unit (s := S256x128) ![0, 0] S256x128.size inb_S256x128_S256x128_0_0, p⟩]) = p' := by
  subst h
  rw [View.read_writes_eq_canon _ _ _ (cover p)]
  exact View.canon_unit_zero (by decide) ..

set_option maxHeartbeats 4000000 in
/-- The body where the switch takes branch 0. -/
theorem sound0 (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (x0 : Vec F S256x128 .bf16) (x1 x2 : Vec F S2048x128 .bf16) (x3 : Vec F S256x256 .bf16) (K : PUnit → sProp 𝕄) (h1 : ¬ k0_cond1 i = 1#1) :
    iprop(owns (c : Thread nD τ) arg3 fullShare x0 ∗ owns (c : Thread nD τ) arg4 fullShare x1 ∗ owns (c : Thread nD τ) arg5 fullShare x2 ∗ owns (c : Thread nD τ) arg6 fullShare x3
      ∗ (∃ d, owns (c : Thread nD τ) arg7 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (bodyVal (i 2).val x0 x1 x2 x3)) -∗ K ⟨⟩))
    ⊢ wp frame (wpE (defs₀ (F := F)) Variants.none c none) E (cc0_sb_prompt (F := F) i arg3 harg3 arg4 harg4 arg5 harg5 arg6 harg6 arg7 harg7) K := by
  simp only [cc0_sb_prompt_eq_skeleton]
  unfold cc0_sb_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := sl_exact h1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _
  isplitr
  swap
  · iexact H4
  ipureintro
  apply read_whole
  have e0 : View.ld (arg3.view.read (Elt F) f0) (Rect.unit (s := S256x128) ![0, 0] S256x128.size inb_S256x128_S256x128_0_0) = arg3.view.read (Elt F) f0 :=
    View.ld_unit_zero (by decide) ..
  have e3 : View.ld (arg6.view.read (Elt F) f3) (Rect.unit (s := S256x256) ![0, 0] S256x256.size inb_S256x256_S256x256_0_0) = arg6.view.read (Elt F) f3 :=
    View.ld_unit_zero (by decide) ..
  have e := trips_all i (k0_pay243 (arg6.view.read (Elt F) f3)) (head0 (arg3.view.read (Elt F) f0)) (head1 (arg3.view.read (Elt F) f0)) (arg4.view.read (Elt F) f1) (arg5.view.read (Elt F) f2) _ (sw0_eq i _ _ _ _ _ h1)
  unfold bodyVal
  rw [← e, ← e0, ← e3]
  rfl

set_option maxHeartbeats 4000000 in
/-- The body where the switch takes branch 1. -/
theorem sound1 (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (x0 : Vec F S256x128 .bf16) (x1 x2 : Vec F S2048x128 .bf16) (x3 : Vec F S256x256 .bf16) (K : PUnit → sProp 𝕄) (h1 : k0_cond1 i = 1#1) (h2 : ¬ k0_cond2 i = 1#1) :
    iprop(owns (c : Thread nD τ) arg3 fullShare x0 ∗ owns (c : Thread nD τ) arg4 fullShare x1 ∗ owns (c : Thread nD τ) arg5 fullShare x2 ∗ owns (c : Thread nD τ) arg6 fullShare x3
      ∗ (∃ d, owns (c : Thread nD τ) arg7 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (bodyVal (i 2).val x0 x1 x2 x3)) -∗ K ⟨⟩))
    ⊢ wp frame (wpE (defs₀ (F := F)) Variants.none c none) E (cc0_sb_prompt (F := F) i arg3 harg3 arg4 harg4 arg5 harg5 arg6 harg6 arg7 harg7) K := by
  simp only [cc0_sb_prompt_eq_skeleton]
  unfold cc0_sb_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact h1 | sl_exact h2)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _
  isplitr
  swap
  · iexact H4
  ipureintro
  apply read_whole
  have e0 : View.ld (arg3.view.read (Elt F) f0) (Rect.unit (s := S256x128) ![0, 0] S256x128.size inb_S256x128_S256x128_0_0) = arg3.view.read (Elt F) f0 :=
    View.ld_unit_zero (by decide) ..
  have e3 : View.ld (arg6.view.read (Elt F) f3) (Rect.unit (s := S256x256) ![0, 0] S256x256.size inb_S256x256_S256x256_0_0) = arg6.view.read (Elt F) f3 :=
    View.ld_unit_zero (by decide) ..
  have e := trips_all i (k0_pay243 (arg6.view.read (Elt F) f3)) (head0 (arg3.view.read (Elt F) f0)) (head1 (arg3.view.read (Elt F) f0)) (arg4.view.read (Elt F) f1) (arg5.view.read (Elt F) f2) _ (sw1_eq i _ _ _ _ _ h1 h2)
  unfold bodyVal
  rw [← e, ← e0, ← e3]
  rfl

set_option maxHeartbeats 4000000 in
/-- The body where the switch takes branch 2. -/
theorem sound2 (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (x0 : Vec F S256x128 .bf16) (x1 x2 : Vec F S2048x128 .bf16) (x3 : Vec F S256x256 .bf16) (K : PUnit → sProp 𝕄) (h1 : k0_cond1 i = 1#1) (h2 : k0_cond2 i = 1#1) (h3 : ¬ k0_cond3 i = 1#1) :
    iprop(owns (c : Thread nD τ) arg3 fullShare x0 ∗ owns (c : Thread nD τ) arg4 fullShare x1 ∗ owns (c : Thread nD τ) arg5 fullShare x2 ∗ owns (c : Thread nD τ) arg6 fullShare x3
      ∗ (∃ d, owns (c : Thread nD τ) arg7 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (bodyVal (i 2).val x0 x1 x2 x3)) -∗ K ⟨⟩))
    ⊢ wp frame (wpE (defs₀ (F := F)) Variants.none c none) E (cc0_sb_prompt (F := F) i arg3 harg3 arg4 harg4 arg5 harg5 arg6 harg6 arg7 harg7) K := by
  simp only [cc0_sb_prompt_eq_skeleton]
  unfold cc0_sb_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact h1 | sl_exact h2 | sl_exact h3)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _
  isplitr
  swap
  · iexact H4
  ipureintro
  apply read_whole
  have e0 : View.ld (arg3.view.read (Elt F) f0) (Rect.unit (s := S256x128) ![0, 0] S256x128.size inb_S256x128_S256x128_0_0) = arg3.view.read (Elt F) f0 :=
    View.ld_unit_zero (by decide) ..
  have e3 : View.ld (arg6.view.read (Elt F) f3) (Rect.unit (s := S256x256) ![0, 0] S256x256.size inb_S256x256_S256x256_0_0) = arg6.view.read (Elt F) f3 :=
    View.ld_unit_zero (by decide) ..
  have e := trips_all i (k0_pay243 (arg6.view.read (Elt F) f3)) (head0 (arg3.view.read (Elt F) f0)) (head1 (arg3.view.read (Elt F) f0)) (arg4.view.read (Elt F) f1) (arg5.view.read (Elt F) f2) _ (sw2_eq i _ _ _ _ _ h1 h2 h3)
  unfold bodyVal
  rw [← e, ← e0, ← e3]
  rfl

set_option maxHeartbeats 4000000 in
/-- The body where the switch takes branch 3. -/
theorem sound3 (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (x0 : Vec F S256x128 .bf16) (x1 x2 : Vec F S2048x128 .bf16) (x3 : Vec F S256x256 .bf16) (K : PUnit → sProp 𝕄) (h1 : k0_cond1 i = 1#1) (h2 : k0_cond2 i = 1#1) (h3 : k0_cond3 i = 1#1) :
    iprop(owns (c : Thread nD τ) arg3 fullShare x0 ∗ owns (c : Thread nD τ) arg4 fullShare x1 ∗ owns (c : Thread nD τ) arg5 fullShare x2 ∗ owns (c : Thread nD τ) arg6 fullShare x3
      ∗ (∃ d, owns (c : Thread nD τ) arg7 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (bodyVal (i 2).val x0 x1 x2 x3)) -∗ K ⟨⟩))
    ⊢ wp frame (wpE (defs₀ (F := F)) Variants.none c none) E (cc0_sb_prompt (F := F) i arg3 harg3 arg4 harg4 arg5 harg5 arg6 harg6 arg7 harg7) K := by
  simp only [cc0_sb_prompt_eq_skeleton]
  unfold cc0_sb_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact h1 | sl_exact h2 | sl_exact h3)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _
  isplitr
  swap
  · iexact H4
  ipureintro
  apply read_whole
  have e0 : View.ld (arg3.view.read (Elt F) f0) (Rect.unit (s := S256x128) ![0, 0] S256x128.size inb_S256x128_S256x128_0_0) = arg3.view.read (Elt F) f0 :=
    View.ld_unit_zero (by decide) ..
  have e3 : View.ld (arg6.view.read (Elt F) f3) (Rect.unit (s := S256x256) ![0, 0] S256x256.size inb_S256x256_S256x256_0_0) = arg6.view.read (Elt F) f3 :=
    View.ld_unit_zero (by decide) ..
  have e := trips_all i (k0_pay243 (arg6.view.read (Elt F) f3)) (head0 (arg3.view.read (Elt F) f0)) (head1 (arg3.view.read (Elt F) f0)) (arg4.view.read (Elt F) f1) (arg5.view.read (Elt F) f2) _ (sw3_eq i _ _ _ _ _ h1 h2 h3)
  unfold bodyVal
  rw [← e, ← e0, ← e3]
  rfl

end Cert.KernelIdeal.Body

end
-- ==== Proof.Launch.lean ====
/-
  The launch of the attention kernel: each point's body from its blocks, and the run of the whole program over any
  values, with the arguments as they were and the semaphores at rest.
-/
module

public import proofs.«01_k».proof.Proof.Body
public import proofs.«01_k».proof.Proof.Gen.KernelIdeal.Launch
public import proofs.«01_k».proof.Proof.Gen.KernelIdeal.Points
public import Idealize.ShloMosaic.Adequacy
public import Idealize.ShloMosaic.Init

@[expose] public section

set_option maxRecDepth 16384

noncomputable section

namespace Cert.KernelIdeal.Body

open Cert.KernelIdeal Cert.KernelIdeal.Gen Cert.KernelIdeal.Visit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of the query tile at a point. -/
abbrev qt (t : Fin cfg0.N) : Nat := ((grid0.coords t) 2).val

/-- The body on blocks `x0`, `x1`, `x2`, `x3`. -/
theorem sound (c : Dev nD) (E : Set ℕ) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x256 .bf16) (harg6 : arg6.IsWhole) (arg7 : Memref sig .tc .vmem S256x128 .bf16) (harg7 : arg7.IsWhole)
    (x0 : Vec F S256x128 .bf16) (x1 x2 : Vec F S2048x128 .bf16) (x3 : Vec F S256x256 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (∃ d, owns (c : Thread nD τ) arg7 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (bodyVal (i 2).val x0 x1 x2 x3)) -∗ K ⟨⟩))
    ⊢ wp frame (wpE (defs₀ (F := F)) Variants.none c none) E (cc0_sb_prompt (F := F) i arg3 harg3 arg4 harg4 arg5 harg5 arg6 harg6 arg7 harg7) K := by
  by_cases h1 : k0_cond1 i = 1#1
  · by_cases h2 : k0_cond2 i = 1#1
    · by_cases h3 : k0_cond3 i = 1#1
      · exact sound3 c E i arg3 harg3 arg4 harg4 arg5 harg5 arg6 harg6 arg7 harg7 x0 x1 x2 x3 K h1 h2 h3
      · exact sound2 c E i arg3 harg3 arg4 harg4 arg5 harg5 arg6 harg6 arg7 harg7 x0 x1 x2 x3 K h1 h2 h3
    · exact sound1 c E i arg3 harg3 arg4 harg4 arg5 harg5 arg6 harg6 arg7 harg7 x0 x1 x2 x3 K h1 h2
  · exact sound0 c E i arg3 harg3 arg4 harg4 arg5 harg5 arg6 harg6 arg7 harg7 x0 x1 x2 x3 K h1

/-- The proof data: each input's block in place, the output's block as the body stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bodyVal (qt t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = bodyVal (qt t) (iblk m c 0 t) (iblk m c 1 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  iintro ⟨HΦ, Ho, ⟨%d0, H0⟩, ⟨%d1, H1⟩, ⟨%d2, H2⟩, ⟨%d3, H3⟩, ⟨%d4, H4⟩⟩
  iapply (sound c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]
  · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

attribute [local irreducible] bodyVal cc0_sb_prompt in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every array of the launch as its blocks leave it, every other as the launch found it, and no semaphore up. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- The frame: the arguments end as they were, and no semaphore is up. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩) (run_main m ρ)

end Cert.KernelIdeal.Body

end
-- ==== Proof.Sums.lean ====
/-
  Sums over tiles of keys, and the logarithm of one minus the sigmoid on the reals: what the attention kernel
  accumulates tile by tile, from the last key to the first, against the sums over all the keys before a query.
-/
module

public import Idealize.ShloMosaic.PureOps.Ideal

@[expose] public section

noncomputable section

namespace Cert.Stick

open Idealize.ShloMosaic Finset

/-- The logarithm of one minus the sigmoid of `x`. -/
def L (x : ℝ) : ℝ := min (-x) 0 - Real.log (1 + Real.exp (-|x|))

/-- The sum of the log-probabilities of the keys after `k`, up to the query at `p`. -/
def later (Z : ℕ → ℝ) (p k : ℕ) : ℝ := ∑ j ∈ Ico (k + 1) p, L (Z j)

/-- The weight of key `k` for the query at `p`. -/
def W (Z : ℕ → ℝ) (p k : ℕ) : ℝ := Real.exp (Z k + L (Z k) + later Z p k)

theorem coe_sum {ι : Type*} (s : Finset ι) (f : ι → ℝ) : ((∑ i ∈ s, f i : ℝ) : EReal) = ∑ i ∈ s, (f i : EReal) := by
  classical
  induction s using Finset.induction with
  | empty => simp
  | insert a s ha ih => rw [sum_insert ha, sum_insert ha, EReal.coe_add, ih]

theorem one_add_exp_pos (y : ℝ) : ¬ (1 + Real.exp y ≤ 0) := by
  have := Real.exp_pos y
  linarith

/-- The kernel's formula on a real number. -/
theorem lsn_coe (x : ℝ) :
    min (0 - (x : EReal)) 0 - Ideal.log (1 + Ideal.exp (0 - max (x : EReal) (-(x : EReal)))) = ((L x : ℝ) : EReal) := by
  have h1 : max (x : EReal) (-(x : EReal)) = ((|x| : ℝ) : EReal) := by
    rw [← EReal.coe_neg]; exact (EReal.coe_strictMono.monotone.map_max (a := x) (b := -x)).symm
  have h2 : (0 : EReal) - ((|x| : ℝ) : EReal) = ((-|x| : ℝ) : EReal) := by
    rw [← EReal.coe_zero, ← EReal.coe_sub, zero_sub]
  have h3 : (0 : EReal) - (x : EReal) = ((-x : ℝ) : EReal) := by
    rw [← EReal.coe_zero, ← EReal.coe_sub, zero_sub]
  rw [h1, h2, h3, Ideal.exp_coe, ← EReal.coe_one, ← EReal.coe_add, Ideal.log_coe, if_neg (one_add_exp_pos _),
    ← EReal.coe_zero, ← EReal.coe_strictMono.monotone.map_min (a := -x) (b := 0), ← EReal.coe_sub]
  rfl

/-- The reference's formula on a real number. -/
theorem softplus_coe (x : ℝ) :
    -(max (x : EReal) 0 + Ideal.log1p (Ideal.exp (-max (x : EReal) (-(x : EReal))))) = ((L x : ℝ) : EReal) := by
  have h1 : max (x : EReal) (-(x : EReal)) = ((|x| : ℝ) : EReal) := by
    rw [← EReal.coe_neg]; exact (EReal.coe_strictMono.monotone.map_max (a := x) (b := -x)).symm
  rw [h1, ← EReal.coe_neg, Ideal.exp_coe, Ideal.log1p, ← EReal.coe_one, ← EReal.coe_add, Ideal.log_coe, if_neg (one_add_exp_pos _),
    ← EReal.coe_zero, ← EReal.coe_strictMono.monotone.map_max (a := x) (b := 0), ← EReal.coe_add, ← EReal.coe_neg]
  congr 1
  have h2 : -max x 0 = min (-x) 0 := by
    rcases le_total x 0 with h | h
    · rw [max_eq_right h, min_eq_right (by linarith)]; simp
    · rw [max_eq_left h, min_eq_left (by linarith)]
  rw [L, neg_add, h2, sub_eq_add_neg]

/-- The logarithm of the sigmoid is that of one minus it, plus the argument. -/
theorem L_neg (x : ℝ) : L (-x) = x + L x := by
  have h : min x 0 = x + min (-x) 0 := by
    rcases le_total x 0 with h | h
    · rw [min_eq_left h, min_eq_right (by linarith)]; ring
    · rw [min_eq_right h, min_eq_left (by linarith)]; ring
  rw [L, L, neg_neg, abs_neg, h]
  ring

/-- A sum over the keys before `p` from `lo`: a tile of `n` keys, and the rest. -/
theorem tile_sum {M : Type*} [AddCommMonoid M] (f : ℕ → M) (lo n p : ℕ) :
    ∑ c : Fin n, (if lo + c.val < p then f (lo + c.val) else 0) + ∑ k ∈ Ico (lo + n) p, f k = ∑ k ∈ Ico lo p, f k := by
  induction n with
  | zero => simp
  | succ n ih =>
    rw [Fin.sum_univ_castSucc, ← ih, add_assoc]
    congr 1
    by_cases h : lo + n < p
    · rw [sum_eq_sum_Ico_succ_bot h, Fin.val_last, if_pos h]; rfl
    · rw [Fin.val_last, if_neg h, Ico_eq_empty (by omega), Ico_eq_empty (by omega)]; simp

/-- The same from the key after `c` of the tile. -/
theorem tile_later {M : Type*} [AddCommMonoid M] (f : ℕ → M) (lo n p c : ℕ) (hc : c + 1 ≤ n) :
    ∑ x : Fin n, (if c < x.val then (if lo + x.val < p then f (lo + x.val) else 0) else 0) + ∑ k ∈ Ico (lo + n) p, f k
      = ∑ k ∈ Ico (lo + c + 1) p, f k := by
  induction n, hc using Nat.le_induction with
  | base =>
    rw [sum_eq_zero, zero_add]; · rfl
    intro x _
    rw [if_neg (by omega)]
  | succ n hn ih =>
    rw [Fin.sum_univ_castSucc, ← ih, add_assoc]
    congr 1
    rw [Fin.val_last, if_pos (by omega)]
    by_cases h : lo + n < p
    · rw [sum_eq_sum_Ico_succ_bot h, if_pos h]; rfl
    · rw [if_neg h, Ico_eq_empty (by omega), Ico_eq_empty (by omega)]; simp

/-- A sum over all `n` positions with a condition that holds before `p ≤ n`. -/
theorem sum_before {M : Type*} [AddCommMonoid M] (f : ℕ → M) (n p : ℕ) (hp : p ≤ n) :
    ∑ c : Fin n, (if c.val < p then f c.val else 0) = ∑ k ∈ Ico 0 p, f k := by
  have h := tile_sum f 0 n p
  rw [Ico_eq_empty (by omega), sum_empty, add_zero] at h
  rw [← h]
  refine sum_congr rfl fun c _ => ?_
  rw [Nat.zero_add]

end Cert.Stick

end
-- ==== Proof.Read.lean ====
/-
  The steps of the attention kernel read entry by entry, and what its running sums hold after each tile of keys.
-/
module

public import proofs.«01_k».proof.Proof.Visit
public import proofs.«01_k».proof.Proof.Sums
public import Idealize.ShloMosaic.Lib.Pipeline.ValueKit

@[expose] public section

set_option maxRecDepth 16384

noncomputable section

namespace Cert.KernelIdeal.Read

open Cert.KernelIdeal Cert.KernelIdeal.Gen Cert.KernelIdeal.Visit Cert.Stick
open Idealize.ShloMosaic Idealize.SL.Sem

theorem scores_at (q k : FVec Ideal S256x128 .bf16) (r c : Fin 256) :
    scores q k (ix2 r c) = ∑ l : Fin 128, q (ix2 r l) * k (ix2 c l) := by
  pointwise [scores]

theorem lsn_at (s : FVec Ideal S256x256 .f32) (r c : Fin 256) (z : ℝ) (h : s (ix2 r c) = (z : EReal)) :
    lsn s (ix2 r c) = ((L z : ℝ) : EReal) := by
  pointwise [lsn, h]
  exact lsn_coe z

theorem tri_at (s : FVec Ideal S256x256 .f32) (r c : Fin 256) :
    tri s (ix2 r c) = if c.val < r.val then s (ix2 r c) else (0 : EReal) := by
  pointwise [tri]
  have h : IntOp.cmpi CmpIPredicate.slt (BitVec.ofNat 32 c.val) (BitVec.ofNat 32 r.val) = if c.val < r.val then 1#1 else 0#1 := by
    word_cmp
    by_cases h : c.val < r.val <;> simp [h]
  rw [h]
  by_cases hc : c.val < r.val
  · rw [if_pos hc, if_pos hc]; rfl
  · rw [if_neg hc, if_neg hc]; rfl

theorem accum_at (a : FVec Ideal S256x128 .f32) (w : FVec Ideal S256x256 .f32) (v : FVec Ideal S256x128 .bf16) (r : Fin 256) (d : Fin 128) :
    accum a w v (ix2 r d) = a (ix2 r d) + ∑ c : Fin 256, w (ix2 r c) * v (ix2 c d) := by
  pointwise [accum]

theorem rowsum_at (c : FVec Ideal S256x1 .f32) (l : FVec Ideal S256x256 .f32) (r : Fin 256) :
    rowsum c l (ix2 r 0) = c (ix2 r 0) + ∑ x : Fin 256, l (ix2 r x) := by
  pointwise [rowsum]

theorem tileN_at (x : Vec Ideal S2048x128 .bf16) (j : Nat) (hj : j < 8) (r : Fin 256) (d : Fin 128) :
    tileN x j (ix2 r d) = x (ix2 ⟨256 * j + r.val, by omega⟩ d) := by
  pointwise [tileN, tile]
  congr 1
  exact (ix2_inj ..).2 ⟨Fin.ext (by show 256 * (j % 8) + r.val = _; rw [Nat.mod_eq_of_lt hj]), rfl⟩

theorem suffix_raw (u : FVec Ideal S256x256 .bf16) (s : FVec Ideal S256x256 .f32) (r c : Fin 256) :
    suffix u s (ix2 r c) = ∑ x : Fin 256, s (ix2 r x) * u (ix2 x c) + ∑ x : Fin 256, (s (ix2 r x) - s (ix2 r x)) * u (ix2 x c) := by
  pointwise [suffix]

/-- The matrix of ones below the diagonal. -/
def Lower (u : FVec Ideal S256x256 .bf16) : Prop :=
  ∀ a b : Fin 256, u (ix2 a b) = if b.val < a.val then (1 : EReal) else 0

theorem suffix_at (u : FVec Ideal S256x256 .bf16) (hu : Lower u) (s : FVec Ideal S256x256 .f32) (r c : Fin 256) (z : Fin 256 → ℝ)
    (h : ∀ x : Fin 256, s (ix2 r x) = (z x : EReal)) :
    suffix u s (ix2 r c) = ((∑ x : Fin 256, (if c.val < x.val then z x else 0) : ℝ) : EReal) := by
  rw [suffix_raw, coe_sum]
  have h2 : ∑ x : Fin 256, (s (ix2 r x) - s (ix2 r x)) * u (ix2 x c) = (0 : EReal) := by
    refine Finset.sum_eq_zero fun x _ => ?_
    rw [h x, ← EReal.coe_sub, sub_self, EReal.coe_zero]
    exact zero_mul _
  rw [h2, add_zero]
  refine Finset.sum_congr rfl fun x _ => ?_
  rw [h x, hu x c]
  by_cases hc : c.val < x.val
  · rw [if_pos hc, if_pos hc]; exact mul_one _
  · rw [if_neg hc, if_neg hc]; exact mul_zero _

theorem weights_raw (u : FVec Ideal S256x256 .bf16) (s l : FVec Ideal S256x256 .f32) (c : FVec Ideal S256x1 .f32) (r k : Fin 256) :
    weights u s l c (ix2 r k) = Ideal.exp (s (ix2 r k) + lsn s (ix2 r k) + suffix u l (ix2 r k) + c (ix2 r 0)) := by
  pointwise [weights]

/-- What the running sums of one head hold for the queries at `P`, the keys from `lo` visited: the sum of their
    log-probabilities, and of their weighted values. -/
def Good (Z : Fin 256 → ℕ → ℝ) (V : Fin 128 → ℕ → EReal) (P : Fin 256 → ℕ) (lo : ℕ) (acc : FVec Ideal S256x128 .f32) (carry : FVec Ideal S256x1 .f32) : Prop :=
  (∀ r, carry (ix2 r 0) = ((∑ j ∈ Finset.Ico lo (P r), L (Z r j) : ℝ) : EReal)) ∧
  ∀ r d, acc (ix2 r d) = ∑ k ∈ Finset.Ico lo (P r), ((W (Z r) (P r) k : ℝ) : EReal) * V d k

/-- One tile, masked past the queries: the sums hold the keys from `lo + 256`, then those from `lo`. -/
theorem good_tile {Z : Fin 256 → ℕ → ℝ} {V : Fin 128 → ℕ → EReal} {P : Fin 256 → ℕ} {lo : ℕ} {acc : FVec Ideal S256x128 .f32} {carry : FVec Ideal S256x1 .f32}
    (h : Good Z V P (lo + 256) acc carry) {u : FVec Ideal S256x256 .bf16} (hu : Lower u) {s l w : FVec Ideal S256x256 .f32} {v : FVec Ideal S256x128 .bf16}
    (hs : ∀ r c : Fin 256, s (ix2 r c) = ((Z r (lo + c.val) : ℝ) : EReal)) (hv : ∀ (c : Fin 256) (d : Fin 128), v (ix2 c d) = V d (lo + c.val))
    (hl : ∀ r c : Fin 256, l (ix2 r c) = if lo + c.val < P r then lsn s (ix2 r c) else (0 : EReal))
    (hw : ∀ r c : Fin 256, w (ix2 r c) = if lo + c.val < P r then weights u s l carry (ix2 r c) else (0 : EReal)) :
    Good Z V P lo (accum acc w v) (rowsum carry l) := by
  have hl' : ∀ r c : Fin 256, l (ix2 r c) = (((if lo + c.val < P r then L (Z r (lo + c.val)) else 0 : ℝ)) : EReal) := by
    intro r c
    rw [hl, lsn_at s r c _ (hs r c)]
    by_cases hc : lo + c.val < P r
    · rw [if_pos hc, if_pos hc]
    · rw [if_neg hc, if_neg hc]; rfl
  have hw' : ∀ r c : Fin 256, w (ix2 r c) = if lo + c.val < P r then ((W (Z r) (P r) (lo + c.val) : ℝ) : EReal) else (0 : EReal) := by
    intro r c
    rw [hw]
    by_cases hc : lo + c.val < P r
    · rw [if_pos hc, if_pos hc, weights_raw, lsn_at s r c _ (hs r c), suffix_at u hu l r c _ (hl' r), h.1 r, hs r c,
        ← EReal.coe_add, ← EReal.coe_add, ← EReal.coe_add, Ideal.exp_coe]
      congr 1
      unfold W later
      rw [← tile_later (fun j => L (Z r j)) lo 256 (P r) c.val (by omega), add_assoc]
    · rw [if_neg hc, if_neg hc]
  refine ⟨fun r => ?_, fun r d => ?_⟩
  · rw [rowsum_at, h.1 r, Finset.sum_congr rfl fun x _ => hl' r x, ← coe_sum, ← EReal.coe_add, add_comm]
    exact congrArg _ (tile_sum (fun j => L (Z r j)) lo 256 (P r))
  · rw [accum_at, h.2 r d, ← tile_sum (fun k => ((W (Z r) (P r) k : ℝ) : EReal) * V d k) lo 256 (P r), add_comm]
    congr 1
    refine Finset.sum_congr rfl fun c _ => ?_
    rw [hw', hv]
    by_cases hc : lo + c.val < P r
    · rw [if_pos hc, if_pos hc]
    · rw [if_neg hc, if_neg hc]; exact zero_mul _

/-- Before the diagonal tile: no key visited. -/
theorem good_init (Z : Fin 256 → ℕ → ℝ) (V : Fin 128 → ℕ → EReal) (P : Fin 256 → ℕ) (lo : ℕ) (h : ∀ r, P r ≤ lo) :
    Good Z V P lo (broadcast S256x128 (Scalar.ofBits .f32 0x00000000#32)) (broadcast S256x1 (Scalar.ofBits .f32 0x00000000#32)) := by
  refine ⟨fun r => ?_, fun r d => ?_⟩
  · rw [Finset.Ico_eq_empty (by have := h r; omega)]
    pointwise
    simp
  · rw [Finset.Ico_eq_empty (by have := h r; omega)]
    pointwise
    simp

/-- The running sums of both heads, the keys from `256 * (a - n)` visited. -/
theorem good_run (Z0 Z1 : Fin 256 → ℕ → ℝ) (V : Fin 128 → ℕ → EReal) (a : ℕ) (ha : a < 8)
    {u : FVec Ideal S256x256 .bf16} (hu : Lower u) {q0 q1 : FVec Ideal S256x128 .bf16} {xk xv : Vec Ideal S2048x128 .bf16}
    (h0 : ∀ (r : Fin 256) (j : Fin 2048), ∑ l : Fin 128, q0 (ix2 r l) * xk (ix2 j l) = ((Z0 r j.val : ℝ) : EReal))
    (h1 : ∀ (r : Fin 256) (j : Fin 2048), ∑ l : Fin 128, q1 (ix2 r l) * xk (ix2 j l) = ((Z1 r j.val : ℝ) : EReal))
    (hv : ∀ (j : Fin 2048) (d : Fin 128), xv (ix2 j d) = V d j.val) (n : ℕ) (hn : n ≤ a) :
    let st := run u q0 q1 xk xv a n
    Good Z0 V (fun r => 256 * a + r.val) (256 * (a - n)) st.1 st.2.2.1 ∧ Good Z1 V (fun r => 256 * a + r.val) (256 * (a - n)) st.2.1 st.2.2.2 := by
  have hs : ∀ (q : FVec Ideal S256x128 .bf16) (Z : Fin 256 → ℕ → ℝ)
      (h : ∀ (r : Fin 256) (j : Fin 2048), ∑ l : Fin 128, q (ix2 r l) * xk (ix2 j l) = ((Z r j.val : ℝ) : EReal)) (j : ℕ) (hj : j < 8)
      (r c : Fin 256), scores q (tileN xk j) (ix2 r c) = ((Z r (256 * j + c.val) : ℝ) : EReal) := by
    intro q Z h j hj r c
    rw [scores_at, ← h r ⟨256 * j + c.val, by omega⟩]
    refine Finset.sum_congr rfl fun l _ => ?_
    rw [tileN_at xk j hj]
  have hvt : ∀ (j : ℕ) (hj : j < 8) (c : Fin 256) (d : Fin 128), tileN xv j (ix2 c d) = V d (256 * j + c.val) := by
    intro j hj c d
    rw [tileN_at xv j hj, hv]
  induction n with
  | zero =>
    have step : ∀ (q : FVec Ideal S256x128 .bf16) (Z : Fin 256 → ℕ → ℝ)
        (h : ∀ (r : Fin 256) (j : Fin 2048), ∑ l : Fin 128, q (ix2 r l) * xk (ix2 j l) = ((Z r j.val : ℝ) : EReal)), _ :=
      fun q Z h => good_tile (good_init Z V (fun r => 256 * a + r.val) (256 * a + 256) (fun r => by omega)) hu
        (l := tri (lsn (scores q (tileN xk a))))
        (w := tri (weights u (scores q (tileN xk a)) (tri (lsn (scores q (tileN xk a)))) (broadcast S256x1 (Scalar.ofBits .f32 0x00000000#32))))
        (hs q Z h a ha) (hvt a ha)
        (fun r c => by
          rw [tri_at]
          by_cases hc : c.val < r.val
          · rw [if_pos hc, if_pos (by omega)]
          · rw [if_neg hc, if_neg (by omega)])
        (fun r c => by
          rw [tri_at]
          by_cases hc : c.val < r.val
          · rw [if_pos hc, if_pos (by omega)]
          · rw [if_neg hc, if_neg (by omega)])
    exact ⟨step q0 Z0 h0, step q1 Z1 h1⟩
  | succ n ih =>
    obtain ⟨g0, g1⟩ := ih (by omega)
    have e : 256 * (a - n) = 256 * (a - (n + 1)) + 256 := by omega
    rw [e] at g0 g1
    exact ⟨good_tile g0 hu (hs q0 Z0 h0 (a - (n + 1)) (by omega)) (hvt (a - (n + 1)) (by omega))
        (fun r c => by rw [if_pos (by omega)]) (fun r c => by rw [if_pos (by omega)]),
      good_tile g1 hu (hs q1 Z1 h1 (a - (n + 1)) (by omega)) (hvt (a - (n + 1)) (by omega))
        (fun r c => by rw [if_pos (by omega)]) (fun r c => by rw [if_pos (by omega)])⟩

end Cert.KernelIdeal.Read

end
-- ==== Proof.Tile.lean ====
/-
  The block the attention kernel stores for one tile of queries, entry by entry: each lane holds the sum of the values
  before the query, weighted by the scores of the lane's own head.
-/
module

public import proofs.«01_k».proof.Proof.Body
public import proofs.«01_k».proof.Proof.Read

@[expose] public section

set_option maxRecDepth 16384

noncomputable section

namespace Cert.KernelIdeal.Read

open Cert.KernelIdeal Cert.KernelIdeal.Gen Cert.KernelIdeal.Visit Cert.KernelIdeal.Body Cert.Stick
open Idealize.ShloMosaic Idealize.SL.Sem

/-- The number of a lane's head, as the kernel computes it: the lane over 64, rounded down. -/
def laneHead (l : BitVec 32) : BitVec 32 :=
  Scalar.select
    (IntOp.andi
      (IntOp.cmpi CmpIPredicate.ne
        (IntOp.subi (BitVec.setWidth 32 (IntOp.cmpi CmpIPredicate.sgt l 0#32)) (BitVec.setWidth 32 (IntOp.cmpi CmpIPredicate.slt l 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector l 64#32) 0#32))
    (IntOp.subi (IntOp.divsi ArithUnit.vector l 64#32) 1#32) (IntOp.divsi ArithUnit.vector l 64#32)

theorem lane0 : ∀ l : Fin 128, IntOp.cmpi CmpIPredicate.eq (laneHead (BitVec.ofNat 32 l.val)) 0#32 = if l.val < 64 then 1#1 else 0#1 := by
  decide +kernel

theorem lane1 : ∀ l : Fin 128, IntOp.cmpi CmpIPredicate.eq (laneHead (BitVec.ofNat 32 l.val)) 1#32 = if 64 ≤ l.val then 1#1 else 0#1 := by
  decide +kernel

theorem head0_at (x : Vec Ideal S256x128 .bf16) (r : Fin 256) (l : Fin 128) :
    head0 x (ix2 r l) = if l.val < 64 then x (ix2 r l) else (0 : EReal) := by
  pointwise [head0, k0_pay238, k0_pay237]
  refine (congrArg (fun b => Scalar.select b (x (ix2 r l)) (0 : EReal)) (lane0 l)).trans ?_
  by_cases h : l.val < 64
  · rw [if_pos h, if_pos h]; rfl
  · rw [if_neg h, if_neg h]; rfl

theorem head1_at (x : Vec Ideal S256x128 .bf16) (r : Fin 256) (l : Fin 128) :
    head1 x (ix2 r l) = if 64 ≤ l.val then x (ix2 r l) else (0 : EReal) := by
  pointwise [head1, k0_pay241, k0_pay237, k0_pay239, k0_pay240]
  refine (congrArg (fun b => Scalar.select b (x (ix2 r l)) (0 : EReal)) (lane1 l)).trans ?_
  by_cases h : 64 ≤ l.val
  · rw [if_pos h, if_pos h]; rfl
  · rw [if_neg h, if_neg h]; rfl

theorem join_at (st : St Ideal) (r : Fin 256) (l : Fin 128) :
    join st (ix2 r l) = if 64 ≤ l.val then st.2.1 (ix2 r l) else st.1 (ix2 r l) := by
  pointwise [join, k0_pay5]
  refine (congrArg (fun b => Scalar.select b (st.2.1 (ix2 r l)) (st.1 (ix2 r l))) (lane1 l)).trans ?_
  by_cases h : 64 ≤ l.val
  · rw [if_pos h, if_pos h]; rfl
  · rw [if_neg h, if_neg h]; rfl

/-- A sum over the lanes, those of the second head dropped. -/
theorem half0 (f : Fin 128 → EReal) :
    ∑ l : Fin 128, (if l.val < 64 then f l else 0) = ∑ e : Fin 64, f ⟨e.val, by omega⟩ := by
  rw [Fin.sum_univ_two_halves 64 64 rfl]
  rw [show (∑ k : Fin 64, (fun l : Fin 128 => if l.val < 64 then f l else 0) ⟨64 + k.val, by omega⟩) = 0 from
    Finset.sum_eq_zero fun k _ => if_neg (by show ¬ 64 + k.val < 64; omega), add_zero]
  exact Finset.sum_congr rfl fun k _ => if_pos k.isLt

/-- A sum over the lanes, those of the first head dropped. -/
theorem half1 (f : Fin 128 → EReal) :
    ∑ l : Fin 128, (if 64 ≤ l.val then f l else 0) = ∑ e : Fin 64, f ⟨64 + e.val, by omega⟩ := by
  rw [Fin.sum_univ_two_halves 64 64 rfl]
  rw [show (∑ k : Fin 64, (fun l : Fin 128 => if 64 ≤ l.val then f l else 0) ⟨k.val, by omega⟩) = 0 from
    Finset.sum_eq_zero fun k _ => if_neg (by show ¬ 64 ≤ k.val; omega), zero_add]
  exact Finset.sum_congr rfl fun k _ => if_pos (by show 64 ≤ 64 + k.val; omega)

theorem u_at (x : Vec Ideal S256x256 .bf16) : k0_pay243 x = x := by
  funext i
  pointwise [k0_pay243]

/-- The block stored for query tile `a`, at row `r` and lane `d`: the values of the keys before the query, each times the
    weight its scores give it, `Z` being the scores of the lane's head. -/
theorem bodyVal_at (a : ℕ) (ha : a < 8) (x0 : Vec Ideal S256x128 .bf16) (x1 x2 : Vec Ideal S2048x128 .bf16) (x3 : Vec Ideal S256x256 .bf16)
    (hu : Lower x3) (Z : ℕ → Fin 256 → ℕ → ℝ)
    (hZ : ∀ (h : Fin 2) (r : Fin 256) (j : Fin 2048),
      ∑ e : Fin 64, x0 (ix2 r (⟨64 * h.val + e.val, by omega⟩ : Fin 128)) * x1 (ix2 j (⟨64 * h.val + e.val, by omega⟩ : Fin 128)) = ((Z h.val r j.val : ℝ) : EReal))
    (r : Fin 256) (d : Fin 128) :
    bodyVal a x0 x1 x2 x3 (ix2 r d) = ∑ j : Fin 2048, (if j.val < 256 * a + r.val then
      ((W (Z (d.val / 64) r) (256 * a + r.val) j.val : ℝ) : EReal) * x2 (ix2 j d) else (0 : EReal)) := by
  have h0 : ∀ (r : Fin 256) (j : Fin 2048), ∑ l : Fin 128, head0 x0 (ix2 r l) * x1 (ix2 j l) = ((Z 0 r j.val : ℝ) : EReal) := by
    intro r j
    refine Eq.trans ?_ (hZ 0 r j)
    refine Eq.trans ?_ ((half0 fun l => x0 (ix2 r l) * x1 (ix2 j l)).trans ?_)
    · refine Finset.sum_congr rfl fun l _ => ?_
      rw [head0_at]
      by_cases h : l.val < 64
      · rw [if_pos h, if_pos h]
      · rw [if_neg h, if_neg h]; exact zero_mul _
    · refine Finset.sum_congr rfl fun e _ => ?_
      simp
  have h1 : ∀ (r : Fin 256) (j : Fin 2048), ∑ l : Fin 128, head1 x0 (ix2 r l) * x1 (ix2 j l) = ((Z 1 r j.val : ℝ) : EReal) := by
    intro r j
    refine Eq.trans ?_ (hZ 1 r j)
    refine Eq.trans ?_ (half1 fun l => x0 (ix2 r l) * x1 (ix2 j l))
    refine Finset.sum_congr rfl fun l _ => ?_
    rw [head1_at]
    by_cases h : 64 ≤ l.val
    · rw [if_pos h, if_pos h]
    · rw [if_neg h, if_neg h]; exact zero_mul _
  have g := good_run (Z 0) (Z 1) (fun d k => if h : k < 2048 then x2 (ix2 (⟨k, h⟩ : Fin 2048) d) else (0 : EReal)) a ha hu h0 h1
    (xv := x2) (fun j d => by rw [dif_pos j.isLt]) a le_rfl
  have fin : ∀ (z : ℕ → ℝ), ∑ k ∈ Finset.Ico (256 * (a - a)) (256 * a + r.val), ((W z (256 * a + r.val) k : ℝ) : EReal) *
      (if h : k < 2048 then x2 (ix2 (⟨k, h⟩ : Fin 2048) d) else (0 : EReal)) =
      ∑ j : Fin 2048, (if j.val < 256 * a + r.val then ((W z (256 * a + r.val) j.val : ℝ) : EReal) * x2 (ix2 j d) else (0 : EReal)) := by
    intro z
    rw [Nat.sub_self, Nat.mul_zero, ← sum_before _ 2048 _ (by omega)]
    refine Finset.sum_congr rfl fun j _ => ?_
    rw [dif_pos j.isLt]
  rw [bodyVal, u_at, join_at]
  by_cases hd : 64 ≤ d.val
  · rw [if_pos hd, show d.val / 64 = 1 by omega, ← fin]
    exact g.2.2 r d
  · rw [if_neg hd, show d.val / 64 = 0 by omega, ← fin]
    exact g.1.2 r d

end Cert.KernelIdeal.Read

end
-- ==== Proof.Out.lean ====
/-
  The attention's result, as a function of queries, keys and values: what both programs compute.
-/
module

public import proofs.«01_k».proof.Proof.Sums
public import Idealize.ShloMosaic.Lib.Pipeline.ValueKit

@[expose] public section

noncomputable section

namespace Cert.Stick

open Idealize.ShloMosaic

/-- Queries, keys, values: sequence, position, head, feature. -/
abbrev SQ : Shape := ⟨4, ![8, 2048, 16, 64]⟩
/-- The result: the positions of all the sequences, the heads side by side. -/
abbrev SO : Shape := ⟨2, ![16384, 1024]⟩

/-- Every entry is a real number. -/
def Real4 (x : FVec Ideal SQ .f32) : Prop := ∀ i, ∃ r : ℝ, x i = (r : EReal)

theorem eighth : Ideal.ofBits .f32 0x3E000000#32 = ((1 / 8 : ℝ) : EReal) := by
  simp [Ideal.ofBits, Ideal.ieee]
  rw [← EReal.coe_mul]
  norm_num

/-- The score of the key at `j` for the query at `p`. -/
def score (q k : FVec Ideal SQ .f32) (b : Fin 8) (h : Fin 16) (p j : Fin 2048) : EReal :=
  (∑ d : Fin 64, q (ix4 b p h d) * k (ix4 b j h d)) * Ideal.ofBits .f32 0x3E000000#32

/-- It as a real number, zero past the last key. -/
def Zs (q k : FVec Ideal SQ .f32) (b : Fin 8) (h : Fin 16) (p : Fin 2048) (j : ℕ) : ℝ :=
  if hj : j < 2048 then (score q k b h p ⟨j, hj⟩).toReal else 0

theorem score_coe {q k : FVec Ideal SQ .f32} (hq : Real4 q) (hk : Real4 k) (b : Fin 8) (h : Fin 16) (p j : Fin 2048) :
    score q k b h p j = ((Zs q k b h p j.val : ℝ) : EReal) := by
  choose f hf using hq
  choose g hg using hk
  have e : score q k b h p j = (((∑ d : Fin 64, f (ix4 b p h d) * g (ix4 b j h d)) * (1 / 8) : ℝ) : EReal) := by
    rw [score, eighth, EReal.coe_mul, coe_sum]
    congr 1
    exact Finset.sum_congr rfl fun d _ => by rw [hf, hg, EReal.coe_mul]
  rw [Zs, dif_pos j.isLt]
  show score q k b h p j = ((score q k b h p j).toReal : EReal)
  rw [e, EReal.toReal_coe]

/-- The same score from queries scaled beforehand. -/
theorem score_scaled {q k : FVec Ideal SQ .f32} (hq : Real4 q) (hk : Real4 k) (b : Fin 8) (h : Fin 16) (p j : Fin 2048) :
    ∑ d : Fin 64, (q (ix4 b p h d) * Ideal.ofBits .f32 0x3E000000#32) * k (ix4 b j h d) = ((Zs q k b h p j.val : ℝ) : EReal) := by
  rw [← score_coe hq hk, score, eighth]
  choose f hf using hq
  choose g hg using hk
  have e : ∑ d : Fin 64, q (ix4 b p h d) * k (ix4 b j h d) = ((∑ d : Fin 64, f (ix4 b p h d) * g (ix4 b j h d) : ℝ) : EReal) := by
    rw [coe_sum]
    exact Finset.sum_congr rfl fun d _ => by rw [hf, hg, EReal.coe_mul]
  rw [e, ← EReal.coe_mul, Finset.sum_mul, coe_sum]
  refine Finset.sum_congr rfl fun d _ => ?_
  rw [hf, hg, ← EReal.coe_mul, ← EReal.coe_mul]
  congr 1
  ring

/-- The values of the keys before the query, each times its weight. -/
def out (q k v : FVec Ideal SQ .f32) (b : Fin 8) (p : Fin 2048) (h : Fin 16) (d : Fin 64) : EReal :=
  ∑ j : Fin 2048, (if j.val < p.val then ((W (Zs q k b h p) p.val j.val : ℝ) : EReal) * v (ix4 b j h d) else (0 : EReal))

/-- The result array. -/
def OUT (q k v : FVec Ideal SQ .f32) : FVec Ideal SO .bf16 := fun y =>
  out q k v ⟨(y 0).val / 2048, by have : (y 0).val < 16384 := (y 0).isLt; omega⟩ ⟨(y 0).val % 2048, by omega⟩
    ⟨(y 1).val / 64, by have : (y 1).val < 1024 := (y 1).isLt; omega⟩ ⟨(y 1).val % 64, by omega⟩

end Cert.Stick

end
-- ==== Proof.Entry.lean ====
/-
  What the host computes before the launch: the scaled queries, the keys, the values and the triangle of ones.
-/
module

public import proofs.«01_k».proof.Proof.Gen.KernelIdeal.Frame
public import Idealize.ShloMosaic.Lib.Pipeline.ValueKit

@[expose] public section

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The scaled queries. -/
def qs (q : FVec Ideal S8x2048x16x64 .f32) : FVec Ideal S16384x1024 .bf16 :=
  truncf .bf16 (mulf (shapeCast S16384x1024 q shapeCasts_S8x2048x16x64_S16384x1024)
    (broadcastInDim S16384x1024 ![] bcast_S_S16384x1024 (constant (F := Ideal) S_ .f32 0x3E000000#32))) bitsLt_bf16_f32

/-- Keys or values, the heads side by side. -/
def ks (k : FVec Ideal S8x2048x16x64 .f32) : FVec Ideal S16384x1024 .bf16 :=
  truncf .bf16 (shapeCast S16384x1024 k shapeCasts_S8x2048x16x64_S16384x1024) bitsLt_bf16_f32

/-- Ones below the diagonal. -/
def us : FVec Ideal S256x256 .bf16 :=
  select (cmpi .sge (addi (iotaInDim S256x256 32 0) (broadcastInDim S256x256 ![] bcast_S_S256x256 (constantI S_ 32 4294967295#32))) (iotaInDim S256x256 32 1))
    (broadcastInDim S256x256 ![] bcast_S_S256x256 (constant (F := Ideal) S_ .bf16 0x3F80#16))
    (broadcastInDim S256x256 ![] bcast_S_S256x256 (constant (F := Ideal) S_ .bf16 0x0000#16))

theorem V_v3 (c : Dev nD) : V m c main_v3 = qs (m ((c.tc : Thread nD τ).loc main_arg0)) := by
  simp only [V, hostOps0, hostOps0_1, List.flatten_cons, List.flatten_nil, List.append_nil, List.cons_append, List.nil_append,
    TRef.binary, TRef.nullary, TRef.ternary, TRef.unary, TRef.toBuf, TRef.ofBuf, cast_eq]
  after_results_simp <;> rfl

theorem V_v5 (c : Dev nD) : V m c main_v5 = ks (m ((c.tc : Thread nD τ).loc main_arg1)) := by
  simp only [V, hostOps0, hostOps0_1, List.flatten_cons, List.flatten_nil, List.append_nil, List.cons_append, List.nil_append,
    TRef.binary, TRef.nullary, TRef.ternary, TRef.unary, TRef.toBuf, TRef.ofBuf, cast_eq]
  after_results_simp <;> rfl

theorem V_v7 (c : Dev nD) : V m c main_v7 = ks (m ((c.tc : Thread nD τ).loc main_arg2)) := by
  simp only [V, hostOps0, hostOps0_1, List.flatten_cons, List.flatten_nil, List.append_nil, List.cons_append, List.nil_append,
    TRef.binary, TRef.nullary, TRef.ternary, TRef.unary, TRef.toBuf, TRef.ofBuf, cast_eq]
  after_results_simp <;> rfl

theorem V_v9 (c : Dev nD) : V m c main_v9 = us := by
  simp only [V, hostOps0, hostOps0_1, List.flatten_cons, List.flatten_nil, List.append_nil, List.cons_append, List.nil_append,
    TRef.binary, TRef.nullary, TRef.ternary, TRef.unary, TRef.toBuf, TRef.ofBuf, cast_eq]
  after_results_simp <;> rfl

theorem qs_at (q : FVec Ideal S8x2048x16x64 .f32) (r : Fin 16384) (l : Fin 1024) :
    qs q (ix2 r l) = q (ix4 (⟨r.val / 2048, by omega⟩ : Fin 8) (⟨r.val % 2048, by omega⟩ : Fin 2048) (⟨l.val / 64, by omega⟩ : Fin 16) (⟨l.val % 64, by omega⟩ : Fin 64))
      * Ideal.ofBits .f32 0x3E000000#32 := by
  pointwise [qs]

theorem ks_at (k : FVec Ideal S8x2048x16x64 .f32) (r : Fin 16384) (l : Fin 1024) :
    ks k (ix2 r l) = k (ix4 (⟨r.val / 2048, by omega⟩ : Fin 8) (⟨r.val % 2048, by omega⟩ : Fin 2048) (⟨l.val / 64, by omega⟩ : Fin 16) (⟨l.val % 64, by omega⟩ : Fin 64)) := by
  pointwise [ks]

theorem us_mask : ∀ a b : Fin 256,
    IntOp.cmpi CmpIPredicate.sge (IntOp.addi (BitVec.ofNat 32 a.val) 4294967295#32) (BitVec.ofNat 32 b.val) = if b.val < a.val then 1#1 else 0#1 := by
  decide +kernel

theorem us_at (a b : Fin 256) : us (ix2 a b) = if b.val < a.val then (1 : EReal) else 0 := by
  pointwise [us]
  refine (congrArg (fun c => Scalar.select c (1 : EReal) 0) (us_mask a b)).trans ?_
  by_cases h : b.val < a.val
  · rw [if_pos h, if_pos h]; rfl
  · rw [if_neg h, if_neg h]; rfl

end Cert.KernelIdeal.Read

end
-- ==== Proof.Final.lean ====
/-
  The array the attention kernel leaves: every entry is the attention's result there.
-/
module

public import proofs.«01_k».proof.Proof.Launch
public import proofs.«01_k».proof.Proof.Tile
public import proofs.«01_k».proof.Proof.Out
public import proofs.«01_k».proof.Proof.Entry

@[expose] public section

set_option maxRecDepth 16384

noncomputable section

namespace Cert.KernelIdeal.Read

open Cert.KernelIdeal Cert.KernelIdeal.Gen Cert.KernelIdeal.Visit Cert.KernelIdeal.Body Cert.Stick
open Idealize.ShloMosaic Idealize.ShloMosaic.TcCoe Idealize.SL.Sem

variable (m : (ℓ : Loc nD τ sig) → Buf (Elt Ideal) ℓ)

theorem idx : ∀ t : Fin cfg0.N,
    win0_0.index t = ![t.val / 64 * 8 + t.val % 8, t.val / 8 % 8] ∧ win0_1.index t = ![t.val / 64, t.val / 8 % 8] ∧
    win0_2.index t = ![t.val / 64, t.val / 8 % 8] ∧ win0_3.index t = ![0, 0] ∧
    win0_4.index t = ![t.val / 64 * 8 + t.val % 8, t.val / 8 % 8] ∧ qt t = t.val % 8 :=
  (by decide +kernel : ∀ t : Fin grid0.N, _)

theorem tlt (t : Fin cfg0.N) : t.val < 512 := t.isLt

theorem iblk0 (c : Dev nD) (t : Fin cfg0.N) (r : Fin 256) (l : Fin 128) :
    iblk m c 0 t (ix2 r l) = V m c main_v3 (ix2 (⟨256 * (t.val / 64 * 8 + t.val % 8) + r.val, by have := tlt t; omega⟩ : Fin 16384) (⟨128 * (t.val / 8 % 8) + l.val, by omega⟩ : Fin 1024)) := by
  show V m c main_v3 (((cfg0.win 0).blk t).view.emb (ix2 r l)) = _
  congr 1
  blk_ext [idx t]

theorem iblk1 (c : Dev nD) (t : Fin cfg0.N) (j : Fin 2048) (l : Fin 128) :
    iblk m c 1 t (ix2 j l) = V m c main_v5 (ix2 (⟨2048 * (t.val / 64) + j.val, by have := tlt t; omega⟩ : Fin 16384) (⟨128 * (t.val / 8 % 8) + l.val, by omega⟩ : Fin 1024)) := by
  show V m c main_v5 (((cfg0.win 1).blk t).view.emb (ix2 j l)) = _
  congr 1
  blk_ext [idx t]

theorem iblk2 (c : Dev nD) (t : Fin cfg0.N) (j : Fin 2048) (l : Fin 128) :
    iblk m c 2 t (ix2 j l) = V m c main_v7 (ix2 (⟨2048 * (t.val / 64) + j.val, by have := tlt t; omega⟩ : Fin 16384) (⟨128 * (t.val / 8 % 8) + l.val, by omega⟩ : Fin 1024)) := by
  show V m c main_v7 (((cfg0.win 2).blk t).view.emb (ix2 j l)) = _
  congr 1
  blk_ext [idx t]

theorem emb3 (t : Fin cfg0.N) (a b : Fin 256) : ((cfg0.win 3).blk t).view.emb (ix2 a b) = (ix2 a b : S256x256.Idx) := by
  blk_ext [idx t]

theorem read3 (c : Dev nD) (A : (b : Ref sig .tc) → Buf (Elt Ideal) ((c : Thread nD τ).loc b)) (t : Fin cfg0.N) (a b : Fin 256) :
    ((cfg0.win 3).blk t).view.read (Elt Ideal) (A (Pipeline.arrRef spec0 3)) (ix2 a b) = A main_v9 (ix2 a b) :=
  congrArg (A main_v9) (emb3 t a b)

theorem iblk3 (c : Dev nD) (t : Fin cfg0.N) (a b : Fin 256) : iblk m c 3 t (ix2 a b) = us (ix2 a b) := by
  rw [iblk, ← V_v9 m c]
  generalize V m c = A
  exact read3 c A t a b

theorem emb4 (t : Fin cfg0.N) (r : Fin 256) (l : Fin 128) :
    ((cfg0.win 4).blk t).view.emb (ix2 r l) =
      (ix2 (⟨256 * (t.val / 64 * 8 + t.val % 8) + r.val, by have := tlt t; omega⟩ : Fin 16384) (⟨128 * (t.val / 8 % 8) + l.val, by omega⟩ : Fin 1024) : S16384x1024.Idx) := by
  blk_ext [idx t]

/-- An entry of the result by its sequence, position, head and feature. -/
theorem OUT_at (q k v : FVec Ideal SQ .f32) (r : Fin 16384) (l : Fin 1024) (b : Fin 8) (p : Fin 2048) (h : Fin 16) (d : Fin 64)
    (hr : r.val = 2048 * b.val + p.val) (hl : l.val = 64 * h.val + d.val) :
    OUT q k v (ix2 r l : SO.Idx) = out q k v b p h d := by
  have e1 : (⟨r.val / 2048, by omega⟩ : Fin 8) = b := Fin.ext (by show r.val / 2048 = b.val; omega)
  have e2 : (⟨r.val % 2048, by omega⟩ : Fin 2048) = p := Fin.ext (by show r.val % 2048 = p.val; omega)
  have e3 : (⟨l.val / 64, by omega⟩ : Fin 16) = h := Fin.ext (by show l.val / 64 = h.val; omega)
  have e4 : (⟨l.val % 64, by omega⟩ : Fin 64) = d := Fin.ext (by show l.val % 64 = d.val; omega)
  show out q k v ⟨r.val / 2048, _⟩ ⟨r.val % 2048, _⟩ ⟨l.val / 64, _⟩ ⟨l.val % 64, _⟩ = _
  rw [e1, e2, e3, e4]

theorem qs_of (q : FVec Ideal S8x2048x16x64 .f32) (r : Fin 16384) (l : Fin 1024) (b : Fin 8) (p : Fin 2048) (h : Fin 16) (d : Fin 64)
    (hr : r.val = 2048 * b.val + p.val) (hl : l.val = 64 * h.val + d.val) :
    qs q (ix2 r l) = q (ix4 b p h d) * Ideal.ofBits .f32 0x3E000000#32 := by
  have e1 : (⟨r.val / 2048, by omega⟩ : Fin 8) = b := Fin.ext (by show r.val / 2048 = b.val; omega)
  have e2 : (⟨r.val % 2048, by omega⟩ : Fin 2048) = p := Fin.ext (by show r.val % 2048 = p.val; omega)
  have e3 : (⟨l.val / 64, by omega⟩ : Fin 16) = h := Fin.ext (by show l.val / 64 = h.val; omega)
  have e4 : (⟨l.val % 64, by omega⟩ : Fin 64) = d := Fin.ext (by show l.val % 64 = d.val; omega)
  rw [qs_at, e1, e2, e3, e4]

theorem ks_of (k : FVec Ideal S8x2048x16x64 .f32) (r : Fin 16384) (l : Fin 1024) (b : Fin 8) (p : Fin 2048) (h : Fin 16) (d : Fin 64)
    (hr : r.val = 2048 * b.val + p.val) (hl : l.val = 64 * h.val + d.val) :
    ks k (ix2 r l) = k (ix4 b p h d) := by
  have e1 : (⟨r.val / 2048, by omega⟩ : Fin 8) = b := Fin.ext (by show r.val / 2048 = b.val; omega)
  have e2 : (⟨r.val % 2048, by omega⟩ : Fin 2048) = p := Fin.ext (by show r.val % 2048 = p.val; omega)
  have e3 : (⟨l.val / 64, by omega⟩ : Fin 16) = h := Fin.ext (by show l.val / 64 = h.val; omega)
  have e4 : (⟨l.val % 64, by omega⟩ : Fin 64) = d := Fin.ext (by show l.val % 64 = d.val; omega)
  rw [ks_at, e1, e2, e3, e4]

/-- A block's value for queries, keys and values anywhere in the arrays. -/
theorem block_at (q k v : FVec Ideal S8x2048x16x64 .f32) (hq : Real4 q) (hk : Real4 k) (b : Fin 8) (a : Fin 8) (g : Fin 8)
    (x0 : Vec Ideal S256x128 .bf16) (x1 x2 : Vec Ideal S2048x128 .bf16) (x3 : Vec Ideal S256x256 .bf16) (hu : Lower x3)
    (h0 : ∀ (r : Fin 256) (l : Fin 128), x0 (ix2 r l) = qs q (ix2 (⟨256 * (b.val * 8 + a.val) + r.val, by omega⟩ : Fin 16384) (⟨128 * g.val + l.val, by omega⟩ : Fin 1024)))
    (h1 : ∀ (j : Fin 2048) (l : Fin 128), x1 (ix2 j l) = ks k (ix2 (⟨2048 * b.val + j.val, by omega⟩ : Fin 16384) (⟨128 * g.val + l.val, by omega⟩ : Fin 1024)))
    (h2 : ∀ (j : Fin 2048) (l : Fin 128), x2 (ix2 j l) = ks v (ix2 (⟨2048 * b.val + j.val, by omega⟩ : Fin 16384) (⟨128 * g.val + l.val, by omega⟩ : Fin 1024)))
    (r : Fin 256) (l : Fin 128) :
    bodyVal a.val x0 x1 x2 x3 (ix2 r l) =
      OUT q k v (ix2 (⟨256 * (b.val * 8 + a.val) + r.val, by omega⟩ : Fin 16384) (⟨128 * g.val + l.val, by omega⟩ : Fin 1024) : SO.Idx) := by
  rw [bodyVal_at a.val a.isLt x0 x1 x2 x3 hu
    (fun h r j => Zs q k b ⟨(2 * g.val + h) % 16, Nat.mod_lt _ (by omega)⟩ ⟨256 * a.val + r.val, by omega⟩ j) ?_ r l]
  · rw [OUT_at q k v _ _ b ⟨256 * a.val + r.val, by omega⟩ ⟨(2 * g.val + l.val / 64) % 16, Nat.mod_lt _ (by omega)⟩ ⟨l.val % 64, by omega⟩
      (by show 256 * (b.val * 8 + a.val) + r.val = 2048 * b.val + (256 * a.val + r.val); omega)
      (by show 128 * g.val + l.val = 64 * ((2 * g.val + l.val / 64) % 16) + l.val % 64; omega)]
    unfold out
    refine Finset.sum_congr rfl fun j _ => ?_
    rw [h2, ks_of v _ _ b j ⟨(2 * g.val + l.val / 64) % 16, Nat.mod_lt _ (by omega)⟩ ⟨l.val % 64, by omega⟩ rfl
      (by show 128 * g.val + l.val = 64 * ((2 * g.val + l.val / 64) % 16) + l.val % 64; omega)]
  · intro h r j
    rw [← score_scaled hq hk]
    refine Finset.sum_congr rfl fun e _ => ?_
    rw [h0, h1, qs_of q _ _ b ⟨256 * a.val + r.val, by omega⟩ ⟨(2 * g.val + h.val) % 16, Nat.mod_lt _ (by omega)⟩ e
        (by show 256 * (b.val * 8 + a.val) + r.val = 2048 * b.val + (256 * a.val + r.val); omega)
        (by show 128 * g.val + (64 * h.val + e.val) = 64 * ((2 * g.val + h.val) % 16) + e.val; omega),
      ks_of k _ _ b j ⟨(2 * g.val + h.val) % 16, Nat.mod_lt _ (by omega)⟩ e rfl
        (by show 128 * g.val + (64 * h.val + e.val) = 64 * ((2 * g.val + h.val) % 16) + e.val; omega)]

/-- What a point stores is the result read through the point's block. -/
theorem point (c : Dev nD) (q k v : FVec Ideal S8x2048x16x64 .f32) (hq : Real4 q) (hk : Real4 k)
    (e0 : m ((c.tc : Thread nD τ).loc main_arg0) = q) (e1 : m ((c.tc : Thread nD τ).loc main_arg1) = k)
    (e2 : m ((c.tc : Thread nD τ).loc main_arg2) = v) (t : Fin cfg0.N) (r : Fin 256) (l : Fin 128) :
    bodyVal (qt t) (iblk m c 0 t) (iblk m c 1 t) (iblk m c 2 t) (iblk m c 3 t) (ix2 r l) =
      OUT q k v (((cfg0.win 4).blk t).view.emb (ix2 r l)) := by
  have ht := tlt t
  rw [emb4 t r l, (idx t).2.2.2.2.2]
  exact block_at q k v hq hk ⟨t.val / 64, by omega⟩ ⟨t.val % 8, by omega⟩ ⟨t.val / 8 % 8, by omega⟩ _ _ _ _
    (fun a b => (iblk3 m c t a b).trans (us_at a b))
    (fun r l => (iblk0 m c t r l).trans (by rw [V_v3, e0]))
    (fun j l => (iblk1 m c t j l).trans (by rw [V_v5, e1]))
    (fun j l => (iblk2 m c t j l).trans (by rw [V_v7, e2])) r l

/-- The result array after the launch. -/
theorem final (c : Dev nD) (q k v : FVec Ideal S8x2048x16x64 .f32) (hq : Real4 q) (hk : Real4 k)
    (e0 : m ((c.tc : Thread nD τ).loc main_arg0) = q) (e1 : m ((c.tc : Thread nD τ).loc main_arg1) = k)
    (e2 : m ((c.tc : Thread nD τ).loc main_arg2) = v) :
    (dats m 0 c).arrAt 4 (cfgs 0).N = OUT q k v := by
  refine (dats m 0 c).arrAt_eq_of_covers 4 _ (by decide +kernel) fun t _ y => ?_
  blk_simp
  rw [after0_4]
  have h : ∀ y : S256x128.Idx, bodyVal (qt t) (iblk m c 0 t) (iblk m c 1 t) (iblk m c 2 t) (iblk m c 3 t) y =
      OUT q k v (((cfg0.win 4).blk t).view.emb y) := by
    intro y
    rw [eq_ix2 y]
    exact point m c q k v hq hk e0 e1 e2 t (y 0) (y 1)
  exact h y

end Cert.KernelIdeal.Read

end
-- ==== Proof.Ref.lean ====
/-
  The reference read entry by entry: it is the attention's result.
-/
module

public import proofs.«01_k».proof.Proof.Gen.ReferenceIdeal.Run
public import proofs.«01_k».proof.Proof.Out
public import Idealize.ShloMosaic.Lib.WordCmp

@[expose] public section

set_option maxRecDepth 16384

noncomputable section

namespace Cert.ReferenceIdeal.Read

open Cert.ReferenceIdeal Cert.ReferenceIdeal.Gen Cert.Stick
open Idealize.ShloMosaic Idealize.ShloMosaic.TcCoe Idealize.SL.Sem

abbrev Mat : Type := FVec Ideal S8x16x2048x2048 .f32

/-- The zero everywhere. -/
def zero4 : Mat := broadcastInDim S8x16x2048x2048 ![] bcast_S_S8x16x2048x2048 (constant (F := Ideal) S_ .f32 0x00000000#32)

/-- The scores. -/
def scores (q k : FVec Ideal S8x2048x16x64 .f32) : Mat :=
  mulf (Host.dotGeneral dot_S8x2048x16x64_S8x2048x16x64_S8x16x2048x2048_3_3_1_1_02_02 none q k)
    (broadcastInDim S8x16x2048x2048 ![] bcast_S_S8x16x2048x2048 (constant (F := Ideal) S_ .f32 0x3E000000#32))

/-- Where the key is before the query. -/
def mask : IVec S8x16x2048x2048 1 :=
  broadcastInDim S8x16x2048x2048 ![2, 3] bcast_S2048x2048_S8x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The logarithm of the sigmoid of minus `x`, as the reference takes it. -/
def logSigmoidNeg (x : Mat) : Mat :=
  Host.negf (select (cmpf .une (subf x zero4) (subf x zero4)) (addf x zero4)
    (addf (maximumf x zero4) (Host.log1p (Host.exp (Host.negf (Host.absf (subf x zero4)))))))

/-- The log-probabilities of passing a key by, zero from the query on. -/
def passed (z : Mat) : Mat := select mask (logSigmoidNeg (Host.negf (Host.negf z))) zero4

/-- Their sums from each key on. -/
def sums (l : Mat) : Mat :=
  Host.reduceWindowAdd ![1, 1, 1, 2048] ![1, 1, 1, 1] ![0, 0, 0, 0] ![0, 0, 0, 2047] l
    (broadcastInDim S_ ![] bcast_S_S_ (constant (F := Ideal) S_ .f32 0x00000000#32)) reduceWindows_S8x16x2048x2048_S8x16x2048x2048_w1s1p0_0_w1s1p0_0_w1s1p0_0_w2048s1p0_2047 h_S_

/-- The weights. -/
def weights (z : Mat) : Mat :=
  select mask (Host.exp (addf (logSigmoidNeg (Host.negf z)) (subf (sums (passed z)) (passed z)))) zero4

/-- The result. -/
def REF (q k v : FVec Ideal S8x2048x16x64 .f32) : FVec Ideal S16384x1024 .bf16 :=
  truncf .bf16 (shapeCast S16384x1024 (transpose S8x2048x16x64 [0, 3, 1, 2]
    (Host.dotGeneral dot_S8x2048x16x64_S8x16x2048x2048_S8x16x64x2048_1_3_3_2_02_01 none v (weights (scores q k)))
    transposes_S8x16x64x2048_S8x2048x16x64_0_3_1_2) shapeCasts_S8x2048x16x64_S16384x1024) bitsLt_bf16_f32

theorem res_eq (m : (ℓ : Loc nD τ sig) → Buf (Elt Ideal) ℓ) (c : Dev nD) :
    Value.res_main_v22 m c = REF (m ((c.tc : Thread nD τ).loc main_arg0)) (m ((c.tc : Thread nD τ).loc main_arg1)) (m ((c.tc : Thread nD τ).loc main_arg2)) := rfl

theorem scores_at (q k : FVec Ideal S8x2048x16x64 .f32) (b : Fin 8) (h : Fin 16) (p j : Fin 2048) :
    scores q k (ix4 b h p j) = score q k b h p j := by
  pointwise [scores, score]

theorem mask_at (b : Fin 8) (h : Fin 16) (p j : Fin 2048) : mask (ix4 b h p j) = if j.val < p.val then 1#1 else 0#1 := by
  pointwise [mask]
  word_cmp
  by_cases h : j.val < p.val <;> simp [h]

theorem select_at (x : Mat) (b : Fin 8) (h : Fin 16) (p j : Fin 2048) :
    select mask x zero4 (ix4 b h p j) = if j.val < p.val then x (ix4 b h p j) else (0 : EReal) := by
  pointwise [zero4]
  rw [mask_at]
  by_cases hc : j.val < p.val
  · rw [if_pos hc, if_pos hc]; rfl
  · rw [if_neg hc, if_neg hc]; rfl

theorem lsn_at (x : Mat) (i : S8x16x2048x2048.Idx) (z : ℝ) (hz : x i = (z : EReal)) : logSigmoidNeg x i = ((L z : ℝ) : EReal) := by
  pointwise [logSigmoidNeg, zero4, hz]
  rw [if_neg (not_not.mpr rfl)]
  exact softplus_coe z

theorem foldl_add {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

theorem sums_at (x : Mat) (b : Fin 8) (h : Fin 16) (p j : Fin 2048) :
    sums x (ix4 b h p j) = ∑ e : Fin 2048, (if hj : j.val + e.val < 2048 then x (ix4 b h p ⟨j.val + e.val, hj⟩) else (0 : EReal)) := by
  unfold sums Host.reduceWindowAdd
  rw [Ideal.hostReduceWindowAdd_def]
  unfold Ideal.hostReduceWindowAdd Host.reduceWindow
  refine (foldl_add _ _).trans ?_
  refine Eq.trans ?_ (zero_add _)
  congr 1
  · pointwise
  refine (Fintype.sum_equiv (Shape.rowMajor (⟨4, ![1, 1, 1, 2048]⟩ : Shape)).symm _
    (fun w : (⟨4, ![1, 1, 1, 2048]⟩ : Shape).Idx => if hj : j.val + (w 3).val < 2048 then x (ix4 b h p ⟨j.val + (w 3).val, hj⟩) else (0 : EReal))
    fun n => ?_).trans ?_
  · have key : ∀ w : (⟨4, ![1, 1, 1, 2048]⟩ : Shape).Idx, (w 0).val = 0 ∧ (w 1).val = 0 ∧ (w 2).val = 0 := fun w =>
      ⟨by have : (w 0).val < 1 := (w 0).isLt; omega, by have : (w 1).val < 1 := (w 1).isLt; omega, by have : (w 2).val < 1 := (w 2).isLt; omega⟩
    obtain ⟨w0, w1, w2⟩ := key ((Shape.rowMajor (⟨4, ![1, 1, 1, 2048]⟩ : Shape)).symm n)
    by_cases hj : j.val + ((Shape.rowMajor (⟨4, ![1, 1, 1, 2048]⟩ : Shape)).symm n 3).val < 2048
    · refine (dif_pos ?_).trans (Eq.trans ?_ (dif_pos hj).symm)
      · intro a
        match a with
        | ⟨0, _⟩ => exact ⟨Nat.zero_le _, by show b.val * 1 + ((Shape.rowMajor (⟨4, ![1, 1, 1, 2048]⟩ : Shape)).symm n 0).val - 0 < 8; omega⟩
        | ⟨1, _⟩ => exact ⟨Nat.zero_le _, by show h.val * 1 + ((Shape.rowMajor (⟨4, ![1, 1, 1, 2048]⟩ : Shape)).symm n 1).val - 0 < 16; omega⟩
        | ⟨2, _⟩ => exact ⟨Nat.zero_le _, by show p.val * 1 + ((Shape.rowMajor (⟨4, ![1, 1, 1, 2048]⟩ : Shape)).symm n 2).val - 0 < 2048; omega⟩
        | ⟨3, _⟩ => exact ⟨Nat.zero_le _, by show j.val * 1 + ((Shape.rowMajor (⟨4, ![1, 1, 1, 2048]⟩ : Shape)).symm n 3).val - 0 < 2048; omega⟩
      · refine congrArg x (funext fun a => ?_)
        match a with
        | ⟨0, _⟩ => exact Fin.ext (by show b.val * 1 + ((Shape.rowMajor (⟨4, ![1, 1, 1, 2048]⟩ : Shape)).symm n 0).val - 0 = b.val; omega)
        | ⟨1, _⟩ => exact Fin.ext (by show h.val * 1 + ((Shape.rowMajor (⟨4, ![1, 1, 1, 2048]⟩ : Shape)).symm n 1).val - 0 = h.val; omega)
        | ⟨2, _⟩ => exact Fin.ext (by show p.val * 1 + ((Shape.rowMajor (⟨4, ![1, 1, 1, 2048]⟩ : Shape)).symm n 2).val - 0 = p.val; omega)
        | ⟨3, _⟩ => exact Fin.ext (by
            show j.val * 1 + ((Shape.rowMajor (⟨4, ![1, 1, 1, 2048]⟩ : Shape)).symm n 3).val - 0 = j.val + ((Shape.rowMajor (⟨4, ![1, 1, 1, 2048]⟩ : Shape)).symm n 3).val
            omega)
    · refine (dif_neg ?_).trans (Eq.trans ?_ (dif_neg hj).symm)
      · intro hin
        have h3 : j.val * 1 + ((Shape.rowMajor (⟨4, ![1, 1, 1, 2048]⟩ : Shape)).symm n 3).val - 0 < 2048 := (hin (3 : Fin 4)).2
        omega
      · pointwise
  · rw [sum_idx4]
    rw [Fin.sum_univ_one, Fin.sum_univ_one, Fin.sum_univ_one]
    rfl

theorem subf_at (x y : Mat) (i : S8x16x2048x2048.Idx) : subf x y i = (x i - y i : EReal) := rfl

theorem exp_add_at (x y : Mat) (i : S8x16x2048x2048.Idx) : Host.exp (addf x y) i = Ideal.exp (x i + y i) := rfl

/-- The sums after each key, the key's own taken out, on real numbers. -/
theorem later_at (z : Mat) (b : Fin 8) (h : Fin 16) (p : Fin 2048) (Z : ℕ → ℝ) (hZ : ∀ j : Fin 2048, z (ix4 b h p j) = ((Z j.val : ℝ) : EReal))
    (j : Fin 2048) (hj : j.val < p.val) :
    subf (sums (passed z)) (passed z) (ix4 b h p j) = ((later Z p.val j.val : ℝ) : EReal) := by
  have hp : ∀ k : Fin 2048, passed z (ix4 b h p k) = ((if k.val < p.val then L (Z k.val) else 0 : ℝ) : EReal) := by
    intro k
    rw [passed, select_at]
    by_cases hk : k.val < p.val
    · rw [if_pos hk, if_pos hk]
      refine lsn_at _ _ _ ?_
      pointwise [hZ]
      exact neg_neg _
    · rw [if_neg hk, if_neg hk]; rfl
  have hs : sums (passed z) (ix4 b h p j) = ((∑ k ∈ Finset.Ico j.val p.val, L (Z k) : ℝ) : EReal) := by
    rw [sums_at]
    have e := tile_sum (fun k => if k < p.val then L (Z k) else 0) j.val 2048 2048
    rw [Finset.Ico_eq_empty (by omega : ¬ j.val + 2048 < 2048), Finset.sum_empty, add_zero,
      ← Finset.sum_Ico_consecutive _ (Nat.le_of_lt hj) (Nat.le_of_lt p.isLt)] at e
    rw [Finset.sum_congr rfl (fun k hk => if_pos (Finset.mem_Ico.mp hk).2),
      Finset.sum_eq_zero (s := Finset.Ico p.val 2048) (fun k hk => if_neg (Nat.not_lt.mpr (Finset.mem_Ico.mp hk).1)), add_zero] at e
    rw [← e, coe_sum]
    refine Finset.sum_congr rfl fun k _ => ?_
    by_cases hk : j.val + k.val < 2048
    · rw [dif_pos hk, if_pos hk, hp]
    · rw [dif_neg hk, if_neg hk]; rfl
  rw [subf_at, hs, hp, if_pos hj, ← EReal.coe_sub, Finset.sum_eq_sum_Ico_succ_bot hj]
  exact congrArg Real.toEReal (add_sub_cancel_left _ _)

theorem weights_at (z : Mat) (b : Fin 8) (h : Fin 16) (p : Fin 2048) (Z : ℕ → ℝ) (hZ : ∀ j : Fin 2048, z (ix4 b h p j) = ((Z j.val : ℝ) : EReal))
    (j : Fin 2048) :
    weights z (ix4 b h p j) = if j.val < p.val then ((W Z p.val j.val : ℝ) : EReal) else (0 : EReal) := by
  rw [weights, select_at]
  by_cases hj : j.val < p.val
  · rw [if_pos hj, if_pos hj]
    have e1 : logSigmoidNeg (Host.negf z) (ix4 b h p j) = ((L (-Z j.val) : ℝ) : EReal) := by
      refine lsn_at _ _ _ ?_
      pointwise [hZ]
      rfl
    rw [exp_add_at, e1, later_at z b h p Z hZ j hj, ← EReal.coe_add, Ideal.exp_coe, L_neg]
    rfl
  · rw [if_neg hj, if_neg hj]

theorem REF_raw (q k v : FVec Ideal S8x2048x16x64 .f32) (y : S16384x1024.Idx) :
    REF q k v y = ∑ x : Fin 2048,
      v (ix4 (⟨(y 0).val / 2048, by have : (y 0).val < 16384 := (y 0).isLt; omega⟩ : Fin 8) x (⟨(y 1).val / 64, by have : (y 1).val < 1024 := (y 1).isLt; omega⟩ : Fin 16) (⟨(y 1).val % 64, by omega⟩ : Fin 64)) *
        weights (scores q k) (ix4 (⟨(y 0).val / 2048, by have : (y 0).val < 16384 := (y 0).isLt; omega⟩ : Fin 8) (⟨(y 1).val / 64, by have : (y 1).val < 1024 := (y 1).isLt; omega⟩ : Fin 16) (⟨(y 0).val % 2048, by omega⟩ : Fin 2048) x) := by
  pointwise [REF]

/-- The reference's result is the attention's. -/
theorem REF_eq (q k v : FVec Ideal S8x2048x16x64 .f32) (hq : Real4 q) (hk : Real4 k) : REF q k v = OUT q k v := by
  funext y
  rw [REF_raw]
  unfold OUT out
  refine Finset.sum_congr rfl fun j _ => ?_
  rw [weights_at (scores q k) _ _ _ _ (fun j => (scores_at q k _ _ _ j).trans (score_coe hq hk _ _ _ j)) j]
  by_cases hj : j.val < (y 0).val % 2048
  · rw [if_pos hj, if_pos hj]; exact mul_comm _ _
  · rw [if_neg hj, if_neg hj]; exact mul_zero _

end Cert.ReferenceIdeal.Read

end
-- ==== Proof.Finite.lean ====
/-
  The precondition read entry by entry: queries and keys are real numbers.
-/
module

public import proofs.«01_k».proof.Proof.Gen.Pre_finite_scores
public import proofs.«01_k».proof.Proof.Out

@[expose] public section

noncomputable section

namespace Cert.Stick

open Idealize.ShloMosaic

theorem top_bits : Ideal.ofBits .f32 0x7F800000#32 = (⊤ : EReal) := by
  simp [Ideal.ofBits, Ideal.ieee]

/-- An extended real below infinity in absolute value is real. -/
theorem real_of_abs {x : EReal} (h : max x (-x) < ⊤) : ∃ r : ℝ, x = (r : EReal) := by
  induction x using EReal.rec with
  | bot => simp at h
  | coe r => exact ⟨r, rfl⟩
  | top => simp at h

theorem real_of_finite (q k v : FVec Ideal SQ .f32)
    (h : Cert.Pre_finite_scores.fn (F := Ideal) q k v = fun _ => 1#1) : Real4 q ∧ Real4 k := by
  have key : ∀ i : SQ.Idx, max (q i) (-(q i)) < (⊤ : EReal) ∧ max (k i) (-(k i)) < (⊤ : EReal) := by
    intro i
    have hi := congrFun h i
    pointwise [Cert.Pre_finite_scores.fn] at hi
    rw [top_bits] at hi
    change IntOp.andi (BitVec.ofBool (decide (max (q i) (-(q i)) < (⊤ : EReal)))) (BitVec.ofBool (decide (max (k i) (-(k i)) < (⊤ : EReal)))) = 1#1 at hi
    by_cases h1 : max (q i) (-(q i)) < (⊤ : EReal)
    · by_cases h2 : max (k i) (-(k i)) < (⊤ : EReal)
      · exact ⟨h1, h2⟩
      · rw [decide_eq_true h1, decide_eq_false h2] at hi
        exact absurd hi (by decide)
    · rw [decide_eq_false h1] at hi
      by_cases h2 : max (k i) (-(k i)) < (⊤ : EReal)
      · rw [decide_eq_true h2] at hi
        exact absurd hi (by decide)
      · rw [decide_eq_false h2] at hi
        exact absurd hi (by decide)
  exact ⟨fun i => real_of_abs (key i).1, fun i => real_of_abs (key i).2⟩

end Cert.Stick

end
-- ==== Proof.lean ====
/- The assembly of the claims: the frames of the kernel's two programs from one run, the reference's
   frame, and the equation between the idealized kernel and the idealized reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.MlpRef
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MemRef
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.QkvRef
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.MmRef
public import proofs.«01_k».proof.Proof.Gen.Kernel6
public import proofs.«01_k».proof.Proof.Gen.Kernel6Ideal
public import proofs.«01_k».proof.Proof.Gen.Kernel6Ideal.Launch
public import proofs.«01_k».proof.Proof.Gen.Reference6Ideal
public import proofs.«01_k».proof.Proof.Gen.Reference6Ideal.Run
public import proofs.«01_k».proof.Proof.KvRef
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Points
public import proofs.«01_k».proof.Proof.Gen.Kernel7Ideal.Launch
public import proofs.«01_k».proof.Proof.Gen.Reference7Ideal
public import proofs.«01_k».proof.Proof.Gen.Reference7Ideal.Run
public import proofs.«01_k».proof.Proof.ConvRef
public import proofs.«01_k».proof.Proof.Launch
public import proofs.«01_k».proof.Proof.Final
public import proofs.«01_k».proof.Proof.Ref
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the hardware's words is the same text, so its frame is the run's at those values. -/
theorem same_text : Cert.quiescent_Kernel = (∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) := by
  sl_kernel_rfl

theorem frame_kernel : Cert.quiescent_Kernel := same_text ▸ fun m ρ _ => Cert.KernelIdeal.Body.frame_main (F := Bits) m ρ

theorem frame_ideal : Cert.quiescent_KernelIdeal := fun m ρ _ => Cert.KernelIdeal.Body.frame_main (F := Ideal) m ρ

theorem frame_ideal_pre : Cert.quiescent_KernelIdeal_pre_finite_scores := fun m ρ _ => Cert.KernelIdeal.Body.frame_main (F := Ideal) m ρ

/-- The reference runs on the host alone and declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => frame_ref m ρ

theorem frame_reference_pre : Cert.quiescent_ReferenceIdeal_pre_finite_scores := fun m ρ _ => frame_ref m ρ

/-- The kernel's result is the attention's, the arguments as they were. -/
theorem kernel_out (m : (ℓ : Loc Cert.KernelIdeal.nD Cert.KernelIdeal.τ Cert.KernelIdeal.sig) → Buf (Elt Ideal) ℓ) (g : Dev Cert.KernelIdeal.nD → PrngReg)
    (h : Cert.Pre_KernelIdeal_finite_scores m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v10)
        = Cert.Stick.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r hr c =>
    have hf := Cert.Stick.real_of_finite _ _ _ (h c)
    ⟨((hr.1 c).1 4).trans (Cert.KernelIdeal.Read.final m c _ _ _ hf.1 hf.2 rfl rfl rfl),
     ((hr.1 c).2 Cert.KernelIdeal.main_arg0 (Pipeline.mem_restRefs_of Cert.KernelIdeal.main_arg0 (by decide) (by decide))).trans (Cert.KernelIdeal.Gen.V_main_arg0 m c),
     ((hr.1 c).2 Cert.KernelIdeal.main_arg1 (Pipeline.mem_restRefs_of Cert.KernelIdeal.main_arg1 (by decide) (by decide))).trans (Cert.KernelIdeal.Gen.V_main_arg1 m c),
     ((hr.1 c).2 Cert.KernelIdeal.main_arg2 (Pipeline.mem_restRefs_of Cert.KernelIdeal.main_arg2 (by decide) (by decide))).trans (Cert.KernelIdeal.Gen.V_main_arg2 m c)⟩)
    (Cert.KernelIdeal.Body.run_main (F := Ideal) m g)

theorem algebraic : Cert.algebraic_KernelIdeal_ReferenceIdeal_pre_finite_scores := by
  intro m g m' g' h e
  refine ⟨_, kernel_out m g h, ?_⟩
  refine (θ_run Cert.ReferenceIdeal.defs _ _).mono (fun r hr c => ⟨(hr c).1.trans ?_, (hr c).2⟩) (Cert.ReferenceIdeal.Value.run (F := Ideal) m' g')
  have hf := Cert.Stick.real_of_finite _ _ _ (h c)
  rw [Cert.ReferenceIdeal.Read.res_eq, (e c).1, (e c).2.1, (e c).2.2]
  exact Cert.ReferenceIdeal.Read.REF_eq _ _ _ hf.1 hf.2

/-! ## The MLP -/

theorem same_text2 : Cert.quiescent_Kernel2 = (∀ (m : (ℓ : Loc Cert.Kernel2Ideal.nD Cert.Kernel2Ideal.τ Cert.Kernel2Ideal.sig) → Buf (Elt Bits) ℓ) (g : Dev Cert.Kernel2Ideal.nD → PrngReg), Cert.Pre_Kernel2 m →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)) := by
  sl_kernel_rfl

theorem frame_kernel2 : Cert.quiescent_Kernel2 := same_text2 ▸ fun m ρ _ => Cert.Kernel2Ideal.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic2 : Cert.algebraic_Kernel2Ideal_Reference2Ideal := by
  intro m g m' g' _ e
  refine ⟨_, _, (θ_run Cert.Kernel2Ideal.defs _ _).mono (fun r h c => ⟨(h c).1.trans (Cert.Kernel2Ideal.Read.final6 m c), (h c).2.1.trans (Cert.Kernel2Ideal.Read.final7 m c), (h c).2.2⟩)
    (Cert.Kernel2Ideal.Value.run_blocks (F := Ideal) m g), ?_⟩
  refine (θ_run Cert.Reference2Ideal.defs _ _).mono (fun r h c => ⟨(h c).1.trans ?_, (h c).2.1.trans ?_, (h c).2.2⟩) (Cert.Reference2Ideal.Value.run (F := Ideal) m' g')
  · rw [Cert.Reference2Ideal.Read.res0, (e c).1, (e c).2.1, (e c).2.2.1, (e c).2.2.2.1, (e c).2.2.2.2]
    exact Cert.Reference2Ideal.Read.eq0 _ _ _ _ _
  · rw [Cert.Reference2Ideal.Read.res1, (e c).1, (e c).2.1, (e c).2.2.1, (e c).2.2.2.1, (e c).2.2.2.2]
    exact Cert.Reference2Ideal.Read.eq1 _ _ _ _ _

/-! ## The cross-attention -/

theorem same_text3 : Cert.quiescent_Kernel3 = (∀ (m : (ℓ : Loc Cert.Kernel3Ideal.nD Cert.Kernel3Ideal.τ Cert.Kernel3Ideal.sig) → Buf (Elt Bits) ℓ) (g : Dev Cert.Kernel3Ideal.nD → PrngReg), Cert.Pre_Kernel3 m →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)) := by
  sl_kernel_rfl

theorem frame_kernel3 : Cert.quiescent_Kernel3 := same_text3 ▸ fun m ρ _ => Cert.Kernel3Ideal.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal := by
  intro m g m' g' _ e
  refine ⟨_, _, (θ_run Cert.Kernel3Ideal.defs _ _).mono (fun r h c => ⟨(h c).1.trans (Cert.Kernel3Ideal.Read.final8 m c), (h c).2.1.trans (Cert.Kernel3Ideal.Read.final9 m c), (h c).2.2⟩)
    (Cert.Kernel3Ideal.Value.run_blocks (F := Ideal) m g), ?_⟩
  refine (θ_run Cert.Reference3Ideal.defs _ _).mono (fun r h c => ⟨(h c).1.trans ?_, (h c).2.1.trans ?_, (h c).2.2⟩) (Cert.Reference3Ideal.Value.run (F := Ideal) m' g')
  · rw [Cert.Reference3Ideal.Read.res0, (e c).1, (e c).2.1, (e c).2.2.1, (e c).2.2.2.1, (e c).2.2.2.2.1, (e c).2.2.2.2.2.1, (e c).2.2.2.2.2.2]
    exact Cert.Reference3Ideal.Read.eq0 _ _ _ _ _ _ _
  · rw [Cert.Reference3Ideal.Read.res1, (e c).1, (e c).2.1, (e c).2.2.1, (e c).2.2.2.1, (e c).2.2.2.2.1, (e c).2.2.2.2.2.1, (e c).2.2.2.2.2.2]
    exact Cert.Reference3Ideal.Read.eq1 _ _ _ _ _ _ _

/-! ## The projection -/

theorem same_text4 : Cert.quiescent_Kernel4 = (∀ (m : (ℓ : Loc Cert.Kernel4Ideal.nD Cert.Kernel4Ideal.τ Cert.Kernel4Ideal.sig) → Buf (Elt Bits) ℓ) (g : Dev Cert.Kernel4Ideal.nD → PrngReg), Cert.Pre_Kernel4 m →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)) := by
  sl_kernel_rfl

theorem frame_kernel4 : Cert.quiescent_Kernel4 := same_text4 ▸ fun m ρ _ => Cert.Kernel4Ideal.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

theorem algebraic4 : Cert.algebraic_Kernel4Ideal_Reference4Ideal := by
  intro m g m' g' _ e
  refine ⟨_, _, _, _, _, (θ_run Cert.Kernel4Ideal.defs _ _).mono (fun r h c => ⟨(h c).1.trans (Cert.Kernel4Ideal.Read.final3 m c), (h c).2.1.trans (Cert.Kernel4Ideal.Read.final4 m c), (h c).2.2.1.trans (Cert.Kernel4Ideal.Read.final5 m c), (h c).2.2.2.1.trans (Cert.Kernel4Ideal.Read.final6 m c), (h c).2.2.2.2.1.trans (Cert.Kernel4Ideal.Read.final7 m c), (h c).2.2.2.2.2⟩)
    (Cert.Kernel4Ideal.Value.run_blocks (F := Ideal) m g), ?_⟩
  refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference4Ideal.Value.run (F := Ideal) m' g')
  · refine Eq.trans (b := Cert.Reference4Ideal.Read.val0 m' c) rfl ?_
    unfold Cert.Reference4Ideal.Read.val0
    rw [(e c).1, (e c).2.1, (e c).2.2]
    exact Cert.Reference4Ideal.Read.eq0 _ _ _
  · refine Eq.trans (b := Cert.Reference4Ideal.Read.val1 m' c) rfl ?_
    unfold Cert.Reference4Ideal.Read.val1
    rw [(e c).1, (e c).2.1, (e c).2.2]
    exact Cert.Reference4Ideal.Read.eq1 _ _ _
  · refine Eq.trans (b := Cert.Reference4Ideal.Read.val2 m' c) rfl ?_
    unfold Cert.Reference4Ideal.Read.val2
    rw [(e c).1, (e c).2.1, (e c).2.2]
    exact Cert.Reference4Ideal.Read.eq2 _ _ _
  · refine Eq.trans (b := Cert.Reference4Ideal.Read.val3 m' c) rfl ?_
    unfold Cert.Reference4Ideal.Read.val3
    rw [(e c).1, (e c).2.1, (e c).2.2]
    exact Cert.Reference4Ideal.Read.eq3 _ _ _
  · refine Eq.trans (b := Cert.Reference4Ideal.Read.val4 m' c) rfl ?_
    unfold Cert.Reference4Ideal.Read.val4
    rw [(e c).1, (e c).2.1, (e c).2.2]
    exact Cert.Reference4Ideal.Read.eq4 _ _ _

/-! ## The output projection -/

theorem same_text5 : Cert.quiescent_Kernel5 = (∀ (m : (ℓ : Loc Cert.Kernel5Ideal.nD Cert.Kernel5Ideal.τ Cert.Kernel5Ideal.sig) → Buf (Elt Bits) ℓ) (g : Dev Cert.Kernel5Ideal.nD → PrngReg), Cert.Pre_Kernel5 m →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
        ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
        ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
        ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)) := by
  sl_kernel_rfl

theorem frame_kernel5 : Cert.quiescent_Kernel5 := same_text5 ▸ fun m ρ _ => Cert.Kernel5Ideal.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic5 : Cert.algebraic_Kernel5Ideal_Reference5Ideal := by
  intro m g m' g' _ e
  refine ⟨_, _, (θ_run Cert.Kernel5Ideal.defs _ _).mono (fun r h c => ⟨(h c).1.trans (Cert.Kernel5Ideal.Read.final5 m c), (h c).2.1.trans (Cert.Kernel5Ideal.Read.final6 m c), (h c).2.2⟩)
    (Cert.Kernel5Ideal.Value.run_blocks (F := Ideal) m g), ?_⟩
  refine (θ_run Cert.Reference5Ideal.defs _ _).mono (fun r h c => ⟨(h c).1.trans ?_, (h c).2.1.trans ?_, (h c).2.2⟩) (Cert.Reference5Ideal.Value.run (F := Ideal) m' g')
  · refine Eq.trans (b := Cert.Reference5Ideal.Read.val0 m' c) rfl ?_
    unfold Cert.Reference5Ideal.Read.val0
    rw [(e c).1, (e c).2.1, (e c).2.2.1, (e c).2.2.2.1, (e c).2.2.2.2]
    exact Cert.Reference5Ideal.Read.eq0 _ _ _ _ _
  · refine Eq.trans (b := Cert.Reference5Ideal.Read.val1 m' c) rfl ?_
    unfold Cert.Reference5Ideal.Read.val1
    rw [(e c).1, (e c).2.1, (e c).2.2.1, (e c).2.2.2.1, (e c).2.2.2.2]
    exact Cert.Reference5Ideal.Read.eq1 _ _ _ _ _

/-! ## The memory projection -/

theorem same_text6 : Cert.quiescent_Kernel6 = (∀ (m : (ℓ : Loc Cert.Kernel6Ideal.nD Cert.Kernel6Ideal.τ Cert.Kernel6Ideal.sig) → Buf (Elt Bits) ℓ) (g : Dev Cert.Kernel6Ideal.nD → PrngReg), Cert.Pre_Kernel6 m →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
        ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)) := by
  sl_kernel_rfl

theorem frame_kernel6 : Cert.quiescent_Kernel6 := same_text6 ▸ fun m ρ _ => Cert.Kernel6Ideal.Body.frame_main (F := Bits) m ρ

theorem frame_ideal6 : Cert.quiescent_Kernel6Ideal := fun m ρ _ => Cert.Kernel6Ideal.Body.frame_main (F := Ideal) m ρ

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem algebraic6 : Cert.algebraic_Kernel6Ideal_Reference6Ideal := by
  intro m g m' g' _ e
  refine ⟨_, _, _, _, (θ_run Cert.Kernel6Ideal.defs _ _).mono (fun r h c => ⟨(h c).1.trans (Cert.Kernel6Ideal.Read.final2 m c), (h c).2.1.trans (Cert.Kernel6Ideal.Read.final3 m c), (h c).2.2.1.trans (Cert.Kernel6Ideal.Read.final4 m c), (h c).2.2.2.1.trans (Cert.Kernel6Ideal.Read.final5 m c), (h c).2.2.2.2⟩)
    (Cert.Kernel6Ideal.Body.run_blocks (F := Ideal) m g), ?_⟩
  refine (θ_run Cert.Reference6Ideal.defs _ _).mono (fun r h c => ⟨(h c).1.trans ?_, (h c).2.1.trans ?_, (h c).2.2.1.trans ?_, (h c).2.2.2.1.trans ?_, (h c).2.2.2.2⟩) (Cert.Reference6Ideal.Value.run (F := Ideal) m' g')
  · refine Eq.trans (b := Cert.Reference6Ideal.Read.val0 m' c) rfl ?_
    unfold Cert.Reference6Ideal.Read.val0
    rw [(e c).1, (e c).2]
    exact Cert.Reference6Ideal.Read.eq0 _ _
  · refine Eq.trans (b := Cert.Reference6Ideal.Read.val1 m' c) rfl ?_
    unfold Cert.Reference6Ideal.Read.val1
    rw [(e c).1, (e c).2]
    exact Cert.Reference6Ideal.Read.eq1 _ _
  · refine Eq.trans (b := Cert.Reference6Ideal.Read.val2 m' c) rfl ?_
    unfold Cert.Reference6Ideal.Read.val2
    rw [(e c).1, (e c).2]
    exact Cert.Reference6Ideal.Read.eq2 _ _
  · refine Eq.trans (b := Cert.Reference6Ideal.Read.val3 m' c) rfl ?_
    unfold Cert.Reference6Ideal.Read.val3
    rw [(e c).1, (e c).2]
    exact Cert.Reference6Ideal.Read.eq3 _ _

/-! ## The gated convolution -/

theorem same_text7 : Cert.quiescent_Kernel7 = (∀ (m : (ℓ : Loc Cert.Kernel7Ideal.nD Cert.Kernel7Ideal.τ Cert.Kernel7Ideal.sig) → Buf (Elt Bits) ℓ) (g : Dev Cert.Kernel7Ideal.nD → PrngReg), Cert.Pre_Kernel7 m →
    θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
        ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
        ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
        ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
        ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
        ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
        ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)) := by
  sl_kernel_rfl

theorem frame_kernel7 : Cert.quiescent_Kernel7 := same_text7 ▸ fun m ρ _ => Cert.Kernel7Ideal.Body.frame_main (F := Bits) m ρ

theorem frame_ideal7 : Cert.quiescent_Kernel7Ideal := fun m ρ _ => Cert.Kernel7Ideal.Body.frame_main (F := Ideal) m ρ

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem algebraic7 : Cert.algebraic_Kernel7Ideal_Reference7Ideal := by
  intro m g m' g' _ e
  refine ⟨_, _, _, (θ_run Cert.Kernel7Ideal.defs _ _).mono (fun r h c => ⟨(h c).1.trans (Cert.Kernel7Ideal.Read.final7 m c), (h c).2.1.trans (Cert.Kernel7Ideal.Read.final8 m c), (h c).2.2.1.trans (Cert.Kernel7Ideal.Read.final9 m c), (h c).2.2.2⟩)
    (Cert.Kernel7Ideal.Body.run_blocks (F := Ideal) m g), ?_⟩
  refine (θ_run Cert.Reference7Ideal.defs _ _).mono (fun r h c => ⟨(h c).1.trans ?_, (h c).2.1.trans ?_, (h c).2.2.1.trans ?_, (h c).2.2.2⟩) (Cert.Reference7Ideal.Value.run (F := Ideal) m' g')
  · refine Eq.trans (b := Cert.Reference7Ideal.Read.val0 m' c) rfl ?_
    unfold Cert.Reference7Ideal.Read.val0
    rw [(e c).1, (e c).2.1, (e c).2.2.1, (e c).2.2.2.1, (e c).2.2.2.2.1, (e c).2.2.2.2.2.1, (e c).2.2.2.2.2.2]
    exact Cert.Reference7Ideal.Read.eq0 _ _ _ _ _ _ _
  · refine Eq.trans (b := Cert.Reference7Ideal.Read.val1 m' c) rfl ?_
    unfold Cert.Reference7Ideal.Read.val1
    rw [(e c).1, (e c).2.1, (e c).2.2.1, (e c).2.2.2.1, (e c).2.2.2.2.1, (e c).2.2.2.2.2.1, (e c).2.2.2.2.2.2]
    exact Cert.Reference7Ideal.Read.eq1 _ _ _ _ _ _ _
  · refine Eq.trans (b := Cert.Reference7Ideal.Read.val2 m' c) rfl ?_
    unfold Cert.Reference7Ideal.Read.val2
    rw [(e c).1, (e c).2.1, (e c).2.2.1, (e c).2.2.2.1, (e c).2.2.2.2.1, (e c).2.2.2.2.2.1, (e c).2.2.2.2.2.2]
    exact Cert.Reference7Ideal.Read.eq2 _ _ _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.Gen.facts,
    frame_kernel, frame_ideal, frame_ideal_pre, frame_reference, frame_reference_pre,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    trivial, algebraic, trivial, algebraic2, trivial, algebraic3, trivial, algebraic4, trivial, algebraic5, trivial, algebraic6, trivial, algebraic7⟩

end Cert.Proof

end
